-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_on_valid_rows [hKernelIdeal : Cert.KernelIdeal.Facts] [hReferenceIdeal : Cert.ReferenceIdeal.Facts] [hPre_tables : Cert.Pre_tables.Facts] [hOn_valid_rows : Cert.On_valid_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![44288, 4, 1024]⟩ : Shape).Idx, (Cert.On_valid_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![44288, 4, 1024]⟩ : Shape).Idx, (Cert.On_valid_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v69) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v5) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_on_gate_rows [hKernel3Ideal : Cert.Kernel3Ideal.Facts] [hReference3Ideal : Cert.Reference3Ideal.Facts] [hOn_gate_rows : Cert.On_gate_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![32768, 1024]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v9_0) i = v0 c i)
          ∧ (∀ i : (⟨3, ![128, 8, 256]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Kernel3Ideal.nD Cert.Kernel3Ideal.τ).loc Cert.Kernel3Ideal.main_v9_1) i = v1 c i)
          ∧ (∀ i : (⟨2, ![32768, 128]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 i = 1#1 → r.2.mem ((c.tc : Thread Cert.Kernel3Ideal.nD Cert.Kernel3Ideal.τ).loc Cert.Kernel3Ideal.main_v9_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![32768, 1024]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v30) i = v0 c i)
          ∧ (∀ i : (⟨3, ![128, 8, 256]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Reference3Ideal.nD Cert.Reference3Ideal.τ).loc Cert.Reference3Ideal.main_v51) i = v1 c i)
          ∧ (∀ i : (⟨2, ![32768, 128]⟩ : Shape).Idx, (Cert.On_gate_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 i = 1#1 → r.2.mem ((c.tc : Thread Cert.Reference3Ideal.nD Cert.Reference3Ideal.τ).loc Cert.Reference3Ideal.main_v52) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables : Cert.Pre_tables.Facts) (hOn_valid_rows : Cert.On_valid_rows.Facts) (hOn_gate_rows : Cert.On_gate_rows.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_valid_rows (hKernelIdeal := hKernelIdeal) (hReferenceIdeal := hReferenceIdeal) (hPre_tables := hPre_tables) (hOn_valid_rows := hOn_valid_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_gate_rows (hKernel3Ideal := hKernel3Ideal) (hReference3Ideal := hReference3Ideal) (hOn_gate_rows := hOn_gate_rows)
-- ==== On_gate_rows.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S128x8x256 : Shape := ⟨3, ![128, 8, 256]⟩
abbrev S32768x128 : Shape := ⟨2, ![32768, 128]⟩
abbrev S_ : Shape := ⟨0, ![]⟩

class Facts : Prop where
  bcast_S_S32768x1024 : S_.BroadcastsInDim S32768x1024 (![] : Fin 0 → Fin S32768x1024.rank)
  bcast_S_S128x8x256 : S_.BroadcastsInDim S128x8x256 (![] : Fin 0 → Fin S128x8x256.rank)
  bcast_S_S32768x128 : S_.BroadcastsInDim S32768x128 (![] : Fin 0 → Fin S32768x128.rank)

variable [Facts]

def fn {F : FTy → Type} [FloatOps F] (main_arg0 : FVec F S32768x512 .bf16) (main_arg1 : FVec F S32768x512 .bf16) (main_arg2 : FVec F S32768x1024 .f32) (main_arg3 : FVec F S1024x1024 .f32) (main_arg4 : FVec F S1024 .f32) (main_arg5 : FVec F S1024 .f32) (main_arg6 : FVec F S1024x32 .f32) (main_arg7 : FVec F S32 .f32) : IVec S32768x1024 1 × IVec S128x8x256 1 × IVec S32768x128 1 :=
  let main_v0 : IVec S128x8x256 32 := iotaInDim S128x8x256 32 1
  let main_v1 : IVec S32768x128 32 := iotaInDim S32768x128 32 1
  let main_c : IVec S_ 1 := constantI S_ 1 1#1
  let main_v2 : IVec S32768x1024 1 := broadcastInDim S32768x1024 ![] bcast_S_S32768x1024 main_c
  let main_c_0 : IVec S_ 32 := constantI S_ 32 4#32
  let main_v3 : IVec S128x8x256 32 := broadcastInDim S128x8x256 ![] bcast_S_S128x8x256 main_c_0
  let main_v4 : IVec S128x8x256 1 := cmpi .sge main_v0 main_v3
  let main_c_1 : IVec S_ 32 := constantI S_ 32 4#32
  let main_v5 : IVec S32768x128 32 := broadcastInDim S32768x128 ![] bcast_S_S32768x128 main_c_1
  let main_v6 : IVec S32768x128 1 := cmpi .sge main_v1 main_v5
  (main_v2, main_v4, main_v6)
-- ==== On_valid_rows.lean ====
abbrev S173 : Shape := ⟨1, ![173]⟩
abbrev S1 : Shape := ⟨1, ![1]⟩
abbrev S44288x4x1024 : Shape := ⟨3, ![44288, 4, 1024]⟩
abbrev S32x1024x1024 : Shape := ⟨3, ![32, 1024, 1024]⟩
abbrev S32x1x1024 : Shape := ⟨3, ![32, 1, 1024]⟩
abbrev S1024 : Shape := ⟨1, ![1024]⟩
abbrev S173x1 : Shape := ⟨2, ![173, 1]⟩
abbrev S_ : Shape := ⟨0, ![]⟩
abbrev S1x1024 : Shape := ⟨2, ![1, 1024]⟩
abbrev S173x1024 : Shape := ⟨2, ![173, 1024]⟩
abbrev S44288x4x1 : Shape := ⟨3, ![44288, 4, 1]⟩

class Facts : Prop where
  bcast_S173_S173x1_0 : S173.BroadcastsInDim S173x1 (![0] : Fin 1 → Fin S173x1.rank)
  shapeCasts_S1_S_ : S1.ShapeCasts S_
  bcast_S_S173x1 : S_.BroadcastsInDim S173x1 (![] : Fin 0 → Fin S173x1.rank)
  bcast_S1024_S1x1024_1 : S1024.BroadcastsInDim S1x1024 (![1] : Fin 1 → Fin S1x1024.rank)
  bcast_S1x1024_S173x1024_0_1 : S1x1024.BroadcastsInDim S173x1024 (![0, 1] : Fin 2 → Fin S173x1024.rank)
  bcast_S173x1_S173x1024_0_1 : S173x1.BroadcastsInDim S173x1024 (![0, 1] : Fin 2 → Fin S173x1024.rank)
  shapeCasts_S173x1024_S44288x4x1 : S173x1024.ShapeCasts S44288x4x1
  bcast_S44288x4x1_S44288x4x1024_0_1_2 : S44288x4x1.BroadcastsInDim S44288x4x1024 (![0, 1, 2] : Fin 3 → Fin S44288x4x1024.rank)

variable [Facts]

def fn {F : FTy → Type} [FloatOps F] (main_arg0 : IVec S173 32) (main_arg1 : IVec S1 32) (main_arg2 : IVec S173 32) (main_arg3 : FVec F S44288x4x1024 .bf16) (main_arg4 : FVec F S32x1024x1024 .f32) (main_arg5 : FVec F S32x1x1024 .f32) (main_arg6 : FVec F S32x1024x1024 .f32) (main_arg7 : FVec F S32x1x1024 .f32) (main_arg8 : FVec F S32x1024x1024 .f32) (main_arg9 : FVec F S32x1x1024 .f32) : IVec S44288x4x1024 1 :=
  let main_v0 : IVec S173 32 := iotaInDim S173 32 0
  let main_v1 : IVec S1024 32 := iotaInDim S1024 32 0
  let main_v2 : IVec S173x1 32 := broadcastInDim S173x1 ![0] bcast_S173_S173x1_0 main_v0
  let main_v3 : IVec S_ 32 := shapeCast S_ main_arg1 shapeCasts_S1_S_
  let main_v4 : IVec S173x1 32 := broadcastInDim S173x1 ![] bcast_S_S173x1 main_v3
  let main_v5 : IVec S173x1 1 := cmpi .slt main_v2 main_v4
  let main_v6 : IVec S1x1024 32 := broadcastInDim S1x1024 ![1] bcast_S1024_S1x1024_1 main_v1
  let main_v7 : IVec S173x1 32 := broadcastInDim S173x1 ![0] bcast_S173_S173x1_0 main_arg2
  let main_v8 : IVec S173x1024 32 := broadcastInDim S173x1024 ![0, 1] bcast_S1x1024_S173x1024_0_1 main_v6
  let main_v9 : IVec S173x1024 32 := broadcastInDim S173x1024 ![0, 1] bcast_S173x1_S173x1024_0_1 main_v7
  let main_v10 : IVec S173x1024 1 := cmpi .slt main_v8 main_v9
  let main_v11 : IVec S173x1024 1 := broadcastInDim S173x1024 ![0, 1] bcast_S173x1_S173x1024_0_1 main_v5
  let main_v12 : IVec S173x1024 1 := andi main_v11 main_v10
  let main_v13 : IVec S44288x4x1 1 := shapeCast S44288x4x1 main_v12 shapeCasts_S173x1024_S44288x4x1
  let main_v14 : IVec S44288x4x1024 1 := broadcastInDim S44288x4x1024 ![0, 1, 2] bcast_S44288x4x1_S44288x4x1024_0_1_2 main_v13
  main_v14
-- ==== Pre_tables.lean ====
abbrev S173 : Shape := ⟨1, ![173]⟩
abbrev S1 : Shape := ⟨1, ![1]⟩
abbrev S44288x4x1024 : Shape := ⟨3, ![44288, 4, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S173 : S_.BroadcastsInDim S173 (![] : Fin 0 → Fin S173.rank)
  reducesTo_S173_S_d0 : S173.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S173 32) (main_arg1 : IVec S1 32) (main_arg2 : IVec S173 32) (main_arg3 : FVec F S44288x4x1024 .bf16) (main_arg4 : FVec F S32x1024x1024 .f32) (main_arg5 : FVec F S32x1x1024 .f32) (main_arg6 : FVec F S32x1024x1024 .f32) (main_arg7 : FVec F S32x1x1024 .f32) (main_arg8 : FVec F S32x1024x1024 .f32) (main_arg9 : FVec F S32x1x1024 .f32) : IVec S_ 1 :=
  let main_c : IVec S_ 32 := constantI S_ 32 0#32
  let main_v0 : IVec S173 32 := broadcastInDim S173 ![] bcast_S_S173 main_c
  let main_v1 : IVec S173 1 := cmpi .sge main_arg0 main_v0
  let main_c_0 : IVec S_ 32 := constantI S_ 32 32#32
  let main_v2 : IVec S173 32 := broadcastInDim S173 ![] bcast_S_S173 main_c_0
  let main_v3 : IVec S173 1 := cmpi .slt main_arg0 main_v2
  let main_v4 : IVec S173 1 := andi main_v1 main_v3
  let main_c_1 : IVec S_ 1 := constantI S_ 1 1#1
  let main_v5 : IVec S_ 1 := (fun x v => Host.reduce IntOp.andi x v reducesTo_S173_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  let main_c_4 : IVec S_ 32 := constantI S_ 32 1024#32
  let main_v10 : IVec S173 32 := broadcastInDim S173 ![] bcast_S_S173 main_c_4
  let main_v11 : IVec S173 1 := cmpi .sle main_arg2 main_v10
  let main_c_5 : IVec S_ 1 := constantI S_ 1 1#1
  let main_v12 : IVec S_ 1 := (fun x v => Host.reduce IntOp.andi x v reducesTo_S173_S_d0 h_S_) main_v11 main_c_5
  let main_v13 : IVec S_ 1 := andi main_v9 main_v12
  main_v13
-- ==== Kernel.lean ====
abbrev S173 : Shape := ⟨1, ![173]⟩
abbrev S1 : Shape := ⟨1, ![1]⟩
abbrev S44288x4x1024 : Shape := ⟨3, ![44288, 4, 1024]⟩
abbrev S32x1024x1024 : Shape := ⟨3, ![32, 1024, 1024]⟩
abbrev S32x1x1024 : Shape := ⟨3, ![32, 1, 1024]⟩
abbrev S256x4x1024 : Shape := ⟨3, ![256, 4, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x128x1024 : Shape := ⟨3, ![1, 128, 1024]⟩
abbrev S128x1024 : Shape := ⟨2, ![128, 1024]⟩
abbrev S64x4x1024 : Shape := ⟨3, ![64, 4, 1024]⟩
abbrev S256x1024 : Shape := ⟨2, ![256, 1024]⟩
abbrev S1024x512 : Shape := ⟨2, ![1024, 512]⟩
abbrev S256x512 : Shape := ⟨2, ![256, 512]⟩
abbrev S1x1x512 : Shape := ⟨3, ![1, 1, 512]⟩
abbrev S1x512 : Shape := ⟨2, ![1, 512]⟩
abbrev S1x1024 : Shape := ⟨2, ![1, 1024]⟩
abbrev S192x4x1024 : Shape := ⟨3, ![192, 4, 1024]⟩
abbrev S128x4x1024 : Shape := ⟨3, ![128, 4, 1024]⟩
abbrev S512x1024 : Shape := ⟨2, ![512, 1024]⟩
abbrev S512x512 : Shape := ⟨2, ![512, 512]⟩
abbrev S768x1024 : Shape := ⟨2, ![768, 1024]⟩
abbrev S768x512 : Shape := ⟨2, ![768, 512]⟩

abbrev nBuf : Space → Nat
  | .hbm => 8
  | .vmem => 20
  | .smem => 3
  | _ => 0

abbrev bufTy : (tb : Table) → Fin (tcTables nBuf tb) → BufTy
  | .hbm, ⟨0, _⟩ => ⟨S44288x4x1024, .bf16⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S44288x4x1024, .bf16⟩
  | .local _ .vmem, ⟨0, _⟩ => ⟨S256x4x1024, .bf16⟩
  | .local _ .vmem, ⟨1, _⟩ => ⟨S256x4x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x4x1024, .bf16⟩
  | .local _ .vmem, ⟨15, _⟩ => ⟨S256x4x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .smem, ⟨0, _⟩ => ⟨S173, .i32⟩
  | .local _ .smem, ⟨1, _⟩ => ⟨S1, .i32⟩
  | .local _ .smem, ⟨2, _⟩ => ⟨S173, .i32⟩
  | _, _ => ⟨S44288x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![173], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.maxsi arg0 c1_i32
  let c1_i32_0 : BitVec 32 := 1#32
  let v6 : BitVec 32 := Scalar.subi v5 c1_i32_0
  let v7 : Index := Scalar.indexCast v6
  ![v7.toNat]
@[reducible] def k0_t1_loop : Scf.Loop 32 :=
  let c0_i32_9 : BitVec 32 := 0#32
  let c8_i32 : BitVec 32 := 8#32
  let v38 : BitVec 32 := Scalar.addi c0_i32_9 c8_i32
  let c1_i32_10 : BitVec 32 := 1#32
  ⟨c0_i32_9, v38, c1_i32_10⟩
def k0_mult1 (k0_t1 : Fin k0_t1_loop.trips) : BitVec 32 :=
  let c0_i32_9 : BitVec 32 := 0#32
  let c1_i32_10 : BitVec 32 := 1#32
  let arg16 : BitVec 32 := Scf.iv c0_i32_9 c1_i32_10 k0_t1
  let c128_i32 : BitVec 32 := 128#32
  let v39 : BitVec 32 := Scalar.muli arg16 c128_i32
  v39
def k0_off3 (k0_t1 : Fin k0_t1_loop.trips) : Fin 3 → Nat :=
  let c0_12 : Index := 0#32
  let c0_i32_9 : BitVec 32 := 0#32
  let c1_i32_10 : BitVec 32 := 1#32
  let arg16 : BitVec 32 := Scf.iv c0_i32_9 c1_i32_10 k0_t1
  let c128_i32 : BitVec 32 := 128#32
  let v39 : BitVec 32 := Scalar.muli arg16 c128_i32
  let v40 : BitVec 32 := v39
  let v41 : Index := Scalar.indexCast v40
  let c0_13 : Index := 0#32
  ![0, v41.toNat, 0]
def k0_off4 (k0_t1 : Fin k0_t1_loop.trips) : Fin 2 → Nat :=
  let c0_i32_9 : BitVec 32 := 0#32
  let c1_i32_10 : BitVec 32 := 1#32
  let arg16 : BitVec 32 := Scf.iv c0_i32_9 c1_i32_10 k0_t1
  let c128_i32 : BitVec 32 := 128#32
  let v39 : BitVec 32 := Scalar.muli arg16 c128_i32
  let v40 : BitVec 32 := v39
  let v45 : Index := Scalar.indexCast v40
  let c0_14 : Index := 0#32
  ![v45.toNat, 0]
def k0_off5 (i : grid0.Coords) : Fin 1 → Nat :=
  let arg0 : BitVec 32 := BitVec.ofNat 32 (i 0).val
  let v14 : Index := Scalar.indexCast arg0
  ![v14.toNat]
def k0_cond2 (i : grid0.Coords) (v0 : BitVec 32) (v15 : BitVec 32) : BitVec 1 :=
  let arg0 : BitVec 32 := BitVec.ofNat 32 (i 0).val
  let v1 : BitVec 1 := Scalar.cmpi .slt arg0 v0
  let c256_i32 : BitVec 32 := 256#32
  let v16 : BitVec 1 := Scalar.cmpi .sle v15 c256_i32
  let v17 : BitVec 1 := Scalar.andi v1 v16
  let v18 : BitVec 32 := Scalar.extui v17
  let c0_i32_2 : BitVec 32 := 0#32
  let v19 : BitVec 1 := Scalar.cmpi .ne v18 c0_i32_2
  v19

def k0_cond3 (i : grid0.Coords) (v0 : BitVec 32) (v15 : BitVec 32) : BitVec 1 :=
  let arg0 : BitVec 32 := BitVec.ofNat 32 (i 0).val
  let v1 : BitVec 1 := Scalar.cmpi .slt arg0 v0
  let c256_i32_3 : BitVec 32 := 256#32
  let v20 : BitVec 1 := Scalar.cmpi .sgt v15 c256_i32_3
  let c512_i32 : BitVec 32 := 512#32
  let v21 : BitVec 1 := Scalar.cmpi .sle v15 c512_i32
  let v22 : BitVec 1 := Scalar.andi v20 v21
  let v23 : BitVec 1 := Scalar.andi v1 v22
  let v24 : BitVec 32 := Scalar.extui v23
  let c0_i32_4 : BitVec 32 := 0#32
  let v25 : BitVec 1 := Scalar.cmpi .ne v24 c0_i32_4
  v25

def k0_cond4 (i : grid0.Coords) (v0 : BitVec 32) (v15 : BitVec 32) : BitVec 1 :=
  let arg0 : BitVec 32 := BitVec.ofNat 32 (i 0).val
  let v1 : BitVec 1 := Scalar.cmpi .slt arg0 v0
  let c512_i32_5 : BitVec 32 := 512#32
  let v26 : BitVec 1 := Scalar.cmpi .sgt v15 c512_i32_5
  let c768_i32 : BitVec 32 := 768#32
  let v27 : BitVec 1 := Scalar.cmpi .sle v15 c768_i32
  let v28 : BitVec 1 := Scalar.andi v26 v27
  let v29 : BitVec 1 := Scalar.andi v1 v28
  let v30 : BitVec 32 := Scalar.extui v29
  let c0_i32_6 : BitVec 32 := 0#32
  let v31 : BitVec 1 := Scalar.cmpi .ne v30 c0_i32_6
  v31

def k0_cond5 (i : grid0.Coords) (v0 : BitVec 32) (v15 : BitVec 32) : BitVec 1 :=
  let arg0 : BitVec 32 := BitVec.ofNat 32 (i 0).val
  let v1 : BitVec 1 := Scalar.cmpi .slt arg0 v0
  let c768_i32_7 : BitVec 32 := 768#32
  let v32 : BitVec 1 := Scalar.cmpi .sgt v15 c768_i32_7
  let c1024_i32 : BitVec 32 := 1024#32
  let v33 : BitVec 1 := Scalar.cmpi .sle v15 c1024_i32
  let v34 : BitVec 1 := Scalar.andi v32 v33
  let v35 : BitVec 1 := Scalar.andi v1 v34
  let v36 : BitVec 32 := Scalar.extui v35
  let c0_i32_8 : BitVec 32 := 0#32
  let v37 : BitVec 1 := Scalar.cmpi .ne v36 c0_i32_8
  v37

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S173.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S173) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S256x4x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S173 : Shape := ⟨1, ![173]⟩
abbrev S1 : Shape := ⟨1, ![1]⟩
abbrev S44288x4x1024 : Shape := ⟨3, ![44288, 4, 1024]⟩
abbrev S32x1024x1024 : Shape := ⟨3, ![32, 1024, 1024]⟩
abbrev S32x1x1024 : Shape := ⟨3, ![32, 1, 1024]⟩
abbrev S173x1024x1024 : Shape := ⟨3, ![173, 1024, 1024]⟩
abbrev S_ : Shape := ⟨0, ![]⟩
abbrev S173x1 : Shape := ⟨2, ![173, 1]⟩
abbrev S173x1x1024 : Shape := ⟨3, ![173, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S173, .i32⟩
  | .hbm, ⟨1, _⟩ => ⟨S1, .i32⟩
  | .hbm, ⟨2, _⟩ => ⟨S173, .i32⟩
  | .hbm, ⟨3, _⟩ => ⟨S44288x4x1024, .bf16⟩
  | .hbm, ⟨4, _⟩ => ⟨S32x1024x1024, .f32⟩
  | .hbm, ⟨5, _⟩ => ⟨S32x1x1024, .f32⟩
  | .hbm, ⟨6, _⟩ => ⟨S32x1024x1024, .f32⟩
  | .hbm, ⟨7, _⟩ => ⟨S32x1x1024, .f32⟩
  | .hbm, ⟨8, _⟩ => ⟨S32x1024x1024, .f32⟩
  | .hbm, ⟨9, _⟩ => ⟨S32x1x1024, .f32⟩
  | .hbm, ⟨10, _⟩ => ⟨S44288x4x1024, .f32⟩
  | .hbm, ⟨11, _⟩ => ⟨S173x1024x1024, .f32⟩
  | .hbm, ⟨12, _⟩ => ⟨S_, .i32⟩
  | .hbm, ⟨13, _⟩ => ⟨S173, .i32⟩
  | .hbm, ⟨14, _⟩ => ⟨S173, .i1⟩
  | .hbm, ⟨15, _⟩ => ⟨S_, .i32⟩
  | .hbm, ⟨16, _⟩ => ⟨S173, .i32⟩
  | .hbm, ⟨17, _⟩ => ⟨S173, .i32⟩
  | .hbm, ⟨18, _⟩ => ⟨S173, .i32⟩
  | .hbm, ⟨19, _⟩ => ⟨S173x1, .i32⟩
  | .hbm, ⟨20, _⟩ => ⟨S173x1024x1024, .f32⟩
  | .hbm, ⟨21, _⟩ => ⟨S173x1024x1024, .f32⟩
  | .hbm, ⟨22, _⟩ => ⟨S_, .i32⟩
  | .hbm, ⟨23, _⟩ => ⟨S173, .i32⟩
  | .hbm, ⟨24, _⟩ => ⟨S173, .i1⟩
  | .hbm, ⟨25, _⟩ => ⟨S_, .i32⟩
  | .hbm, ⟨26, _⟩ => ⟨S173, .i32⟩
  | .hbm, ⟨27, _⟩ => ⟨S173, .i32⟩
  | .hbm, ⟨28, _⟩ => ⟨S173, .i32⟩
  | .hbm, ⟨29, _⟩ => ⟨S173x1, .i32⟩
  | .hbm, ⟨30, _⟩ => ⟨S173x1x1024, .f32⟩
  | .hbm, ⟨31, _⟩ => ⟨S173x1024x1024, .f32⟩
  | .hbm, ⟨32, _⟩ => ⟨S173x1024x1024, .f32⟩
  | .hbm, ⟨33, _⟩ => ⟨S_, .i32⟩
  | .hbm, ⟨34, _⟩ => ⟨S173, .i32⟩
  | .hbm, ⟨35, _⟩ => ⟨S173, .i1⟩
  | .hbm, ⟨36, _⟩ => ⟨S_, .i32⟩
  | .hbm, ⟨37, _⟩ => ⟨S173, .i32⟩
  | .hbm, ⟨38, _⟩ => ⟨S173, .i32⟩
  | .hbm, ⟨39, _⟩ => ⟨S173, .i32⟩
  | .hbm, ⟨40, _⟩ => ⟨S173x1, .i32⟩
  | .hbm, ⟨41, _⟩ => ⟨S173x1024x1024, .f32⟩
  | .hbm, ⟨42, _⟩ => ⟨S173x1024x1024, .f32⟩
  | .hbm, ⟨43, _⟩ => ⟨S_, .i32⟩
  | .hbm, ⟨44, _⟩ => ⟨S173, .i32⟩
  | .hbm, ⟨45, _⟩ => ⟨S173, .i1⟩
  | .hbm, ⟨46, _⟩ => ⟨S_, .i32⟩
  | .hbm, ⟨47, _⟩ => ⟨S173, .i32⟩
  | .hbm, ⟨48, _⟩ => ⟨S173, .i32⟩
  | .hbm, ⟨49, _⟩ => ⟨S173, .i32⟩
  | .hbm, ⟨50, _⟩ => ⟨S173x1, .i32⟩
  | .hbm, ⟨51, _⟩ => ⟨S173x1x1024, .f32⟩
  | .hbm, ⟨52, _⟩ => ⟨S173x1024x1024, .f32⟩
  | .hbm, ⟨53, _⟩ => ⟨S173x1024x1024, .f32⟩
  | .hbm, ⟨54, _⟩ => ⟨S_, .f32⟩
  | .hbm, ⟨55, _⟩ => ⟨S173x1024x1024, .f32⟩
  | .hbm, ⟨56, _⟩ => ⟨S173x1024x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S173x1024x1024, .f32⟩
  | .hbm, ⟨61, _⟩ => ⟨S173x1024x1024, .f32⟩
  | .hbm, ⟨62, _⟩ => ⟨S_, .f32⟩
  | .hbm, ⟨63, _⟩ => ⟨S173x1024x1024, .f32⟩
  | .hbm, ⟨64, _⟩ => ⟨S173x1024x1024, .f32⟩
  | .hbm, ⟨65, _⟩ => ⟨S_, .f32⟩
  | .hbm, ⟨66, _⟩ => ⟨S173x1024x1024, .f32⟩
  | .hbm, ⟨67, _⟩ => ⟨S173x1024x1024, .f32⟩
  | .hbm, ⟨68, _⟩ => ⟨S173x1024x1024, .f32⟩
  | .hbm, ⟨69, _⟩ => ⟨S173x1024x1024, .f32⟩
  | .hbm, ⟨70, _⟩ => ⟨S_, .f32⟩
  | .hbm, ⟨71, _⟩ => ⟨S173x1024x1024, .f32⟩
  | .hbm, ⟨72, _⟩ => ⟨S173x1024x1024, .f32⟩
  | .hbm, ⟨73, _⟩ => ⟨S_, .f32⟩
  | .hbm, ⟨74, _⟩ => ⟨S173x1024x1024, .f32⟩
  | .hbm, ⟨75, _⟩ => ⟨S173x1024x1024, .f32⟩
  | .hbm, ⟨76, _⟩ => ⟨S173x1024x1024, .f32⟩
  | .hbm, ⟨77, _⟩ => ⟨S_, .f32⟩
  | .hbm, ⟨78, _⟩ => ⟨S173x1024x1024, .f32⟩
  | .hbm, ⟨79, _⟩ => ⟨S173x1024x1024, .f32⟩
  | .hbm, ⟨80, _⟩ => ⟨S173x1024x1024, .f32⟩
  | .hbm, ⟨81, _⟩ => ⟨S_, .i32⟩
  | .hbm, ⟨82, _⟩ => ⟨S173, .i32⟩
  | .hbm, ⟨83, _⟩ => ⟨S173, .i1⟩
  | .hbm, ⟨84, _⟩ => ⟨S_, .i32⟩
  | .hbm, ⟨85, _⟩ => ⟨S173, .i32⟩
  | .hbm, ⟨86, _⟩ => ⟨S173, .i32⟩
  | .hbm, ⟨87, _⟩ => ⟨S173, .i32⟩
  | .hbm, ⟨88, _⟩ => ⟨S173x1, .i32⟩
  | .hbm, ⟨89, _⟩ => ⟨S173x1024x1024, .f32⟩
  | .hbm, ⟨90, _⟩ => ⟨S173x1024x1024, .f32⟩
  | .hbm, ⟨91, _⟩ => ⟨S_, .i32⟩
  | .hbm, ⟨92, _⟩ => ⟨S173, .i32⟩
  | .hbm, ⟨93, _⟩ => ⟨S173, .i1⟩
  | .hbm, ⟨94, _⟩ => ⟨S_, .i32⟩
  | .hbm, ⟨95, _⟩ => ⟨S173, .i32⟩
  | .hbm, ⟨96, _⟩ => ⟨S173, .i32⟩
  | .hbm, ⟨97, _⟩ => ⟨S173, .i32⟩
  | .hbm, ⟨98, _⟩ => ⟨S173x1, .i32⟩
  | .hbm, ⟨99, _⟩ => ⟨S173x1x1024, .f32⟩
  | .hbm, ⟨100, _⟩ => ⟨S173x1024x1024, .f32⟩
  | .hbm, ⟨101, _⟩ => ⟨S173x1024x1024, .f32⟩
  | .hbm, ⟨102, _⟩ => ⟨S173x1024x1024, .bf16⟩
  | .hbm, ⟨103, _⟩ => ⟨S44288x4x1024, .bf16⟩
  | _, _ => ⟨S173, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_c_14 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Kernel2.lean ====
abbrev S32768x1024 : Shape := ⟨2, ![32768, 1024]⟩
abbrev S1024x3080 : Shape := ⟨2, ![1024, 3080]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S32768x3072 : Shape := ⟨2, ![32768, 3072]⟩
abbrev S32768x128 : Shape := ⟨2, ![32768, 128]⟩
abbrev S16x8x2048 : Shape := ⟨3, ![16, 8, 2048]⟩
abbrev S512x1024 : Shape := ⟨2, ![512, 1024]⟩
abbrev S512x3072 : Shape := ⟨2, ![512, 3072]⟩
abbrev S512x128 : Shape := ⟨2, ![512, 128]⟩
abbrev S1x8x512 : Shape := ⟨3, ![1, 8, 512]⟩
abbrev S1024x512 : Shape := ⟨2, ![1024, 512]⟩
abbrev S512x512 : Shape := ⟨2, ![512, 512]⟩
abbrev S128x512 : Shape := ⟨2, ![128, 512]⟩
abbrev S8x512 : Shape := ⟨2, ![8, 512]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S1024x3072, .f32⟩
  | .hbm, ⟨3, _⟩ => ⟨S1024x3072, .bf16⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S32768x3072, .f32⟩
  | .hbm, ⟨10, _⟩ => ⟨S32768x128, .f32⟩
  | .hbm, ⟨11, _⟩ => ⟨S16x8x2048, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S512x3072, .f32⟩
  | .local _ .vmem, ⟨5, _⟩ => ⟨S512x3072, .f32⟩
  | .local _ .vmem, ⟨6, _⟩ => ⟨S512x128, .f32⟩
  | .local _ .vmem, ⟨7, _⟩ => ⟨S512x128, .f32⟩
  | .local _ .vmem, ⟨8, _⟩ => ⟨S1x8x512, .f32⟩
  | .local _ .vmem, ⟨9, _⟩ => ⟨S1x8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024x3080 : Shape := ⟨2, ![1024, 3080]⟩
abbrev S32768x3080 : Shape := ⟨2, ![32768, 3080]⟩
abbrev S32768x8 : Shape := ⟨2, ![32768, 8]⟩
abbrev S32768x3072 : Shape := ⟨2, ![32768, 3072]⟩
abbrev S_ : Shape := ⟨0, ![]⟩
abbrev S32768x128 : Shape := ⟨2, ![32768, 128]⟩
abbrev S16x2048x8 : Shape := ⟨3, ![16, 2048, 8]⟩
abbrev S16x8x2048 : Shape := ⟨3, ![16, 8, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S32768x3080, .f32⟩
  | .hbm, ⟨3, _⟩ => ⟨S32768x8, .f32⟩
  | .hbm, ⟨4, _⟩ => ⟨S32768x3072, .f32⟩
  | .hbm, ⟨5, _⟩ => ⟨S_, .i32⟩
  | .hbm, ⟨6, _⟩ => ⟨S_, .f32⟩
  | .hbm, ⟨7, _⟩ => ⟨S32768x128, .f32⟩
  | .hbm, ⟨8, _⟩ => ⟨S16x2048x8, .f32⟩
  | .hbm, ⟨9, _⟩ => ⟨S16x8x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S512x1024 : Shape := ⟨2, ![512, 1024]⟩
abbrev S1x1024 : Shape := ⟨2, ![1, 1024]⟩
abbrev S_ : Shape := ⟨0, ![]⟩
abbrev S1024x128 : Shape := ⟨2, ![1024, 128]⟩
abbrev S1x32 : Shape := ⟨2, ![1, 32]⟩
abbrev S1x128 : Shape := ⟨2, ![1, 128]⟩
abbrev S128x8x256 : Shape := ⟨3, ![128, 8, 256]⟩
abbrev S32768x128 : Shape := ⟨2, ![32768, 128]⟩
abbrev S128x8x128 : Shape := ⟨3, ![128, 8, 128]⟩
abbrev S8x128 : Shape := ⟨2, ![8, 128]⟩
abbrev S1024x512 : Shape := ⟨2, ![1024, 512]⟩
abbrev S4x8x256 : Shape := ⟨3, ![4, 8, 256]⟩
abbrev S4x8x128 : Shape := ⟨3, ![4, 8, 128]⟩
abbrev S32x256 : Shape := ⟨2, ![32, 256]⟩
abbrev S256x256 : Shape := ⟨2, ![256, 256]⟩
abbrev S32x32 : Shape := ⟨2, ![32, 32]⟩
abbrev S32x128 : Shape := ⟨2, ![32, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S32x1 : Shape := ⟨2, ![32, 1]⟩
abbrev S8x256 : Shape := ⟨2, ![8, 256]⟩
abbrev S1x8x256 : Shape := ⟨3, ![1, 8, 256]⟩
abbrev S120x256 : Shape := ⟨2, ![120, 256]⟩
abbrev S128 : Shape := ⟨1, ![128]⟩
abbrev S1x8x128 : Shape := ⟨3, ![1, 8, 128]⟩

abbrev nBuf : Space → Nat
  | .hbm => 26
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x32, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S32768x1024, .f32⟩
  | .hbm, ⟨22, _⟩ => ⟨S128x8x256, .f32⟩
  | .hbm, ⟨23, _⟩ => ⟨S32768x128, .f32⟩
  | .hbm, ⟨24, _⟩ => ⟨S128x8x128, .i32⟩
  | .hbm, ⟨25, _⟩ => ⟨S8x128, .i32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S1x128, .f32⟩
  | .local _ .vmem, ⟨12, _⟩ => ⟨S1024x1024, .f32⟩
  | .local _ .vmem, ⟨13, _⟩ => ⟨S1024x1024, .f32⟩
  | .local _ .vmem, ⟨14, _⟩ => ⟨S4x8x256, .f32⟩
  | .local _ .vmem, ⟨15, _⟩ => ⟨S4x8x256, .f32⟩
  | .local _ .vmem, ⟨16, _⟩ => ⟨S1024x128, .f32⟩
  | .local _ .vmem, ⟨17, _⟩ => ⟨S1024x128, .f32⟩
  | .local _ .vmem, ⟨18, _⟩ => ⟨S4x8x128, .i32⟩
  | .local _ .vmem, ⟨19, _⟩ => ⟨S4x8x128, .i32⟩
  | .local _ .vmem, ⟨20, _⟩ => ⟨S8x128, .i32⟩
  | .local _ .vmem, ⟨21, _⟩ => ⟨S1x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x32 : Shape := ⟨2, ![32768, 32]⟩
abbrev S1x32 : Shape := ⟨2, ![1, 32]⟩
abbrev S32768x4 : Shape := ⟨2, ![32768, 4]⟩
abbrev S128x256x4 : Shape := ⟨3, ![128, 256, 4]⟩
abbrev S128x4x256 : Shape := ⟨3, ![128, 4, 256]⟩
abbrev S32768x120 : Shape := ⟨2, ![32768, 120]⟩
abbrev S128x8x256 : Shape := ⟨3, ![128, 8, 256]⟩
abbrev S32768x128 : Shape := ⟨2, ![32768, 128]⟩

abbrev nBuf : Space → Nat
  | .hbm => 75
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x32, .f32⟩
  | .hbm, ⟨46, _⟩ => ⟨S1x32, .f32⟩
  | .hbm, ⟨47, _⟩ => ⟨S32768x32, .f32⟩
  | .hbm, ⟨48, _⟩ => ⟨S32768x32, .f32⟩
  | .hbm, ⟨49, _⟩ => ⟨S32768x4, .f32⟩
  | .hbm, ⟨50, _⟩ => ⟨S32768x4, .i32⟩
  | .hbm, ⟨51, _⟩ => ⟨S_, .f32⟩
  | .hbm, ⟨52, _⟩ => ⟨S32768, .f32⟩
  | .hbm, ⟨53, _⟩ => ⟨S_, .f32⟩
  | .hbm, ⟨54, _⟩ => ⟨S32768, .f32⟩
  | .hbm, ⟨55, _⟩ => ⟨S32768, .f32⟩
  | .hbm, ⟨56, _⟩ => ⟨S32768x1, .f32⟩
  | .hbm, ⟨57, _⟩ => ⟨S32768x4, .f32⟩
  | .hbm, ⟨58, _⟩ => ⟨S32768x4, .f32⟩
  | .hbm, ⟨59, _⟩ => ⟨S32768x4, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S32768x4, .f32⟩
  | .hbm, ⟨64, _⟩ => ⟨S32768x4, .f32⟩
  | .hbm, ⟨65, _⟩ => ⟨S128x256x4, .f32⟩
  | .hbm, ⟨66, _⟩ => ⟨S128x4x256, .f32⟩
  | .hbm, ⟨67, _⟩ => ⟨S_, .f32⟩
  | .hbm, ⟨68, _⟩ => ⟨S32768x4, .f32⟩
  | .hbm, ⟨69, _⟩ => ⟨S_, .f32⟩
  | .hbm, ⟨70, _⟩ => ⟨S32768x120, .f32⟩
  | .hbm, ⟨71, _⟩ => ⟨S_, .f32⟩
  | .hbm, ⟨72, _⟩ => ⟨S128x4x256, .f32⟩
  | .hbm, ⟨73, _⟩ => ⟨S128x8x256, .f32⟩
  | .hbm, ⟨74, _⟩ => ⟨S32768x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_values : Ref sig .tc := ⟨.hbm, 49, rfl⟩
abbrev main_indices : Ref sig .tc := ⟨.hbm, 50, rfl⟩
abbrev main_cst_5 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.KI.Setup.lean ====
/- The experts' feed-forward call: what its proof shares. The contents of the device's buffers when the grid starts, the
   prefetched tables read off them, each window's block at a grid point, and the memrefs the body is handed. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- Core `c`'s buffers when the grid starts: the launch memory after the host's copy of the rows into the result. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  exact rfl

set_option maxHeartbeats 800000 in
/-- The program runs the host's copy and then the grid, from the launch memory to the buffers `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host's copy writes the result's buffer only: every other buffer is found as launched. -/
theorem V_of_ne (c : Dev nD) {b : Ref sig .tc} (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-! ## The prefetched tables -/

/-- The three tables' contents when the grid starts (there is one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

/-- The tables address blocks inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body reads them. -/
abbrev tbM0_0 : Memref sig .tc .smem S173 .i32 := Memref.whole main_arg0
abbrev tbM0_1 : Memref sig .tc .smem S1 .i32 := Memref.whole main_arg1
abbrev tbM0_2 : Memref sig .tc .smem S173 .i32 := Memref.whole main_arg2

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, for any proof data over the arrays `V` whose body
    leaves each input block in place. -/
theorem before_in (hO : Ok m) {c : Dev nD} (dat : Dat τ (Elt F) Unit ℕ (UR sig nD τ) ℕ (cfgM m hO) c) (w : Fin (cfgM m hO).W)
    (hw : ((cfgM m hO).win w).isOut = false) (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hA : dat.A w = V m c (Pipeline.arrRef spec0 w))
    (hcut : ∀ t, ((cfgM m hO).win w).cut ((cfgM m hO).grid.coords t) (dat.after w t) = iblk m hO c w t)
    (t : Fin (cfgM m hO).N) (d) : dat.before w t d = dat.fetched w t d :=
  dat.before_in_eq_fetched w hw hlive hclip (fun t => by rw [hcut]; unfold Dat.blockOf iblk; rw [hA]) t d

/-- Each window's current staging memref at point `t`, spelled as the pipeline passes it (`bodyAt0`), and its wholeness. -/
abbrev ms0_0 (hO : Ok m) (t : Fin (cfgM m hO).N) : Memref sig .tc .vmem S256x4x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x4x1024 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S1024x1024 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The body at point `t`, on what the grid calls it with. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Exp

end
-- ==== Proof.KI.Cast.lean ====
/- Rounding an expert's three weight matrices into the scratch buffers, 128 rows at a time: after the loop each scratch
   holds its matrix rounded to the narrow format. -/
module

public import proofs.«01_k».proof.Proof.KI.Setup
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- A weight block's matrix rounded to the narrow format, element by element. -/
def castW (X : Vec F S1x1024x1024 .f32) : Vec F S1024x1024 .bf16 :=
  fun y => FloatOps.truncf .bf16 bitsLt_bf16_f32 (X (ix3 0 (y 0) (y 1)))

/-- One store's payload is the rounded matrix's rows: 128 rows from row `o`. -/
theorem chunk_eq (X : Vec F S1x1024x1024 .f32) (o : ℕ) (ho : o + 128 ≤ 1024) (inb : ∀ a, (![0, o, 0] : Fin 3 → ℕ) a + S1x128x1024.size a ≤ S1x1024x1024.size a)
    (y : S128x1024.Idx) (z : S1024x1024.Idx) (h0 : (z 0).val = o + (y 0).val) (h1 : (z 1).val = (y 1).val) :
    k0_pay21 (window (s := S1x1024x1024) X ![0, o, 0] S1x128x1024.size inb) y = castW X z := by
  unfold k0_pay21 castW
  dsimp only
  rw [shapeCast_self]
  rw [eq_ix2 y]
  show FloatOps.truncf .bf16 bitsLt_bf16_f32 _ = _
  refine congrArg _ ((shapeCast_1ab_ab_apply (a := 128) (b := 1024) _ _ (y 0) (y 1)).trans (congrArg X ?_))
  funext a
  match a with
  | ⟨0, _⟩ => exact Fin.ext rfl
  | ⟨1, _⟩ => exact Fin.ext (by show o + 1 * (y 0).val = (z 0).val; omega)
  | ⟨2, _⟩ => exact Fin.ext (by show 0 + 1 * (y 1).val = (z 1).val; omega)

/-- Before trip `k` of the rounding loop the first `128 k` rows of a scratch hold the rounded matrix. -/
def Rows (X : Vec F S1x1024x1024 .f32) (k : ℕ) (d : Vec F S1024x1024 .bf16) : Prop :=
  ∀ y : S1024x1024.Idx, (y 0).val < 128 * k → d y = castW X y

/-- One more store: the rows written grow by 128. -/
theorem Rows.step {X : Vec F S1x1024x1024 .f32} {k : ℕ} {d : Vec F S1024x1024 .bf16} (h : Rows X k d)
    (w : S128x1024.Idx → Elt F .bf16) (hw : ∀ (y : S128x1024.Idx) (z : S1024x1024.Idx), (z 0).val = 128 * k + (y 0).val → (z 1).val = (y 1).val → w y = castW X z) :
    Rows X (k + 1) (put (s := S1024x1024) d ![128 * k, 0] S128x1024.size w) := by
  intro y hy
  unfold put
  split
  · next hin => exact hw _ _ (by have := hin 0; show (y 0).val = 128 * k + ((y 0).val - 128 * k); have := this.1; change 128 * k ≤ (y 0).val at this; omega) (by show (y 1).val = (y 1).val - 0; omega)
  · next hout =>
    refine h y ?_
    by_contra hc
    refine hout fun a => ?_
    match a with
    | ⟨0, _⟩ => exact ⟨by show 128 * k ≤ (y 0).val; omega, by show (y 0).val < 128 * k + 128; omega⟩
    | ⟨1, _⟩ => exact ⟨Nat.zero_le _, by show (y 1).val < 0 + 1024; have := idx2_lt1 (n0 := 1024) (n1 := 1024) y; omega⟩

theorem Rows.all {X : Vec F S1x1024x1024 .f32} {d : Vec F S1024x1024 .bf16} (h : Rows X 8 d) : d = castW X :=
  funext fun y => h y (by have := idx2_lt0 (n0 := 1024) (n1 := 1024) y; omega)

section Loop
variable (c : Dev nD) (i : grid0.Coords) (arg1 : Memref sig .tc .smem S173 .i32) (harg1 : arg1.IsWhole) (arg2 : Memref sig .tc .smem S1 .i32) (harg2 : arg2.IsWhole) (arg3 : Memref sig .tc .smem S173 .i32) (harg3 : arg3.IsWhole) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)

/-- The invariant of the rounding loop before trip `k`: the three weight blocks in place, and each scratch holding the
    rows rounded so far. -/
def castInv (x1 x3 x5 : Vec F S1x1024x1024 .f32) (k : ℕ) (_ : PUnit) : sProp 𝕄 :=
  iprop((arg5.view.loc (c : Thread nD τ) ↦[arg5.view.set]{fullShare} arg5.view.rep x1) ∗ (arg7.view.loc (c : Thread nD τ) ↦[arg7.view.set]{fullShare} arg7.view.rep x3) ∗ (arg9.view.loc (c : Thread nD τ) ↦[arg9.view.set]{fullShare} arg9.view.rep x5)
    ∗ (∃ d, ⌜Rows x1 k d⌝ ∗ (arg13.view.loc (c : Thread nD τ) ↦[arg13.view.set]{fullShare} arg13.view.rep d))
    ∗ (∃ d, ⌜Rows x3 k d⌝ ∗ (arg14.view.loc (c : Thread nD τ) ↦[arg14.view.set]{fullShare} arg14.view.rep d))
    ∗ (∃ d, ⌜Rows x5 k d⌝ ∗ (arg15.view.loc (c : Thread nD τ) ↦[arg15.view.set]{fullShare} arg15.view.rep d)))

/-- One trip of the rounding loop takes the invariant to the next trip. -/
theorem castTrip (𝒱 : Variants) (bd : Option 𝒱.V) (E : Set ℕ) (x1 x3 x5 : Vec F S1x1024x1024 .f32) (k : Fin k0_t1_loop.trips) (u : Unit) :
    castInv (F := F) c arg5 arg7 arg9 arg13 arg14 arg15 x1 x3 x5 k.val u
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k u)
          (castInv (F := F) c arg5 arg7 arg9 arg13 arg14 arg15 x1 x3 x5 (k.val + 1)) := by
  have hk : k.val < 8 := Nat.lt_of_lt_of_le k.isLt k0_t1_abs.2.1
  have key : ∀ (M : Memref sig .tc .vmem S1x1024x1024 .f32) (x : Vec F S1x1024x1024 .f32) (y : S128x1024.Idx) (z : S1024x1024.Idx),
      (z 0).val = 128 * k.val + (y 0).val → (z 1).val = (y 1).val →
      k0_pay21 (M.view.readAt (Elt F) (Rect.unit (s := S1x1024x1024) (k0_off3 k) S1x128x1024.size (k0_off3_inb k)).toLoadRect (M.view.rep x)) y = castW x z := by
    intro M x y z h0 h1
    rw [View.readAt_rep_unit M.view x (k0_off3_inb k) (k0_off3_eq k) (by rw [← k0_off3_eq]; exact k0_off3_inb k)]
    exact chunk_eq x (128 * k.val) (by omega) _ y z h0 h1
  unfold castInv k0_t1_body
  iintro ⟨H1, H3, H5, ⟨%d13, %h13, H13⟩, ⟨%d14, %h14, H14⟩, ⟨%d15, %h15, H15⟩⟩
  sl_exec
  sl_step
  isplitl [H1]; · iexact H1
  isplitl [H3]; · iexact H3
  isplitl [H5]; · iexact H5
  isplitl [H13]
  · ihave H := (pointsTo_rep_of_read (c : Thread nD τ) arg13 _ _ _ (View.read_writes_rep_unit arg13.view d13 _ _ (k0_off4_eq k))) $$ H13
    iexists (put (s := S1024x1024) d13 ![128 * k.val, 0] S128x1024.size (k0_pay21 (View.readAt (Elt F) arg5.view (Rect.unit (s := S1x1024x1024) (k0_off3 k) S1x128x1024.size (k0_off3_inb k)).toLoadRect (arg5.view.rep x1))))
    isplitr
    rotate_left
    · iexact H
    · ipureintro; exact h13.step _ (key arg5 x1)
  isplitl [H14]
  · ihave H := (pointsTo_rep_of_read (c : Thread nD τ) arg14 _ _ _ (View.read_writes_rep_unit arg14.view d14 _ _ (k0_off4_eq k))) $$ H14
    iexists (put (s := S1024x1024) d14 ![128 * k.val, 0] S128x1024.size (k0_pay21 (View.readAt (Elt F) arg7.view (Rect.unit (s := S1x1024x1024) (k0_off3 k) S1x128x1024.size (k0_off3_inb k)).toLoadRect (arg7.view.rep x3))))
    isplitr
    rotate_left
    · iexact H
    · ipureintro; exact h14.step _ (key arg7 x3)
  ihave H := (pointsTo_rep_of_read (c : Thread nD τ) arg15 _ _ _ (View.read_writes_rep_unit arg15.view d15 _ _ (k0_off4_eq k))) $$ H15
  iexists (put (s := S1024x1024) d15 ![128 * k.val, 0] S128x1024.size (k0_pay21 (View.readAt (Elt F) arg9.view (Rect.unit (s := S1x1024x1024) (k0_off3 k) S1x128x1024.size (k0_off3_inb k)).toLoadRect (arg9.view.rep x5))))
  isplitr
  rotate_left
  · iexact H
  · ipureintro; exact h15.step _ (key arg9 x5)

/-- The rounding loop by its invariant. -/
@[instance_reducible] def castLoop (𝒱 : Variants) (bd : Option 𝒱.V) (E : Set ℕ) (x1 x3 x5 : Vec F S1x1024x1024 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := castInv (F := F) c arg5 arg7 arg9 arg13 arg14 arg15 x1 x3 x5
  step k u := castTrip c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd E x1 x3 x5 k u

theorem trips_eq : k0_t1_loop.trips = 8 := by decide +kernel

/-- THE ROUNDING STAGE under its condition: it leaves the three scratches at the rounded matrices, given that they hold
    them already where the condition fails. -/
theorem castStage (𝒱 : Variants) (bd : Option 𝒱.V) (E : Set ℕ) (x1 x3 x5 : Vec F S1x1024x1024 .f32) (d13 d14 d15 : Vec F S1024x1024 .bf16) (b : BitVec 1)
    (h13 : b ≠ 1#1 → d13 = castW x1) (h14 : b ≠ 1#1 → d14 = castW x3) (h15 : b ≠ 1#1 → d15 = castW x5)
    (kk : Prog (TpuEff nD τ sig (Elt F) Λ₀ .tc) PUnit) (K : PUnit → sProp 𝕄) :
    iprop((arg5.view.loc (c : Thread nD τ) ↦[arg5.view.set]{fullShare} arg5.view.rep x1) ∗ (arg7.view.loc (c : Thread nD τ) ↦[arg7.view.set]{fullShare} arg7.view.rep x3) ∗ (arg9.view.loc (c : Thread nD τ) ↦[arg9.view.set]{fullShare} arg9.view.rep x5)
        ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg5.view.loc (c : Thread nD τ) ↦[arg5.view.set]{fullShare} arg5.view.rep x1) ∗ (arg7.view.loc (c : Thread nD τ) ↦[arg7.view.set]{fullShare} arg7.view.rep x3) ∗ (arg9.view.loc (c : Thread nD τ) ↦[arg9.view.set]{fullShare} arg9.view.rep x5)
            ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5)))
          -∗ wp frame (wpE (defs₀ (F := F)) 𝒱 (c : Thread nD τ) bd) E kk K))
      ⊢ wp frame (wpE (defs₀ (F := F)) 𝒱 (c : Thread nD τ) bd) E
          (if b = 1#1 then (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) >>= fun _ => kk) else kk) K := by
  iintro ⟨H1, H3, H5, H13, H14, H15, Hk⟩
  by_cases hb : b = 1#1
  · rw [if_pos hb]
    iapply (BIClass.wand_elim (exec_loop frame (wpE (defs₀ (F := F)) 𝒱 (c : Thread nD τ) bd) E k0_t1_loop.lb k0_t1_loop.ub k0_t1_loop.st k0_t1_ok (⟨⟩ : PUnit) (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (castLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd E x1 x3 x5)))
    isplitl [H1 H3 H5 H13 H14 H15]
    · iapply (show castInv (F := F) c arg5 arg7 arg9 arg13 arg14 arg15 x1 x3 x5 0 ⟨⟩ ⊢ (castLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd E x1 x3 x5).inv 0 ⟨⟩ from .rfl)
      unfold castInv
      isplitl [H1]; · iexact H1
      isplitl [H3]; · iexact H3
      isplitl [H5]; · iexact H5
      isplitl [H13]
      · iexists d13; isplitr; · ipureintro; exact fun y hy => absurd hy (by omega)
        iexact H13
      isplitl [H14]
      · iexists d14; isplitr; · ipureintro; exact fun y hy => absurd hy (by omega)
        iexact H14
      iexists d15; isplitr; · ipureintro; exact fun y hy => absurd hy (by omega)
      iexact H15
    · iintro %acc HI
      ihave HI' := (show (castLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd E x1 x3 x5).inv (Scf.trips k0_t1_loop.lb k0_t1_loop.ub k0_t1_loop.st) acc ⊢ castInv (F := F) c arg5 arg7 arg9 arg13 arg14 arg15 x1 x3 x5 8 ⟨⟩ from by
        rw [show Scf.trips k0_t1_loop.lb k0_t1_loop.ub k0_t1_loop.st = 8 from trips_eq]; exact .rfl) $$ HI
      unfold castInv
      icases HI' with ⟨H1, H3, H5, ⟨%e13, %g13, H13⟩, ⟨%e14, %g14, H14⟩, ⟨%e15, %g15, H15⟩⟩
      obtain rfl := g13.all
      obtain rfl := g14.all
      obtain rfl := g15.all
      iapply Hk
      isplitl [H1]; · iexact H1
      isplitl [H3]; · iexact H3
      isplitl [H5]; · iexact H5
      isplitl [H13]; · iexact H13
      isplitl [H14]; · iexact H14
      iexact H15
  · rw [if_neg hb]
    obtain rfl := h13 hb
    obtain rfl := h14 hb
    obtain rfl := h15 hb
    iapply Hk
    isplitl [H1]; · iexact H1
    isplitl [H3]; · iexact H3
    isplitl [H5]; · iexact H5
    isplitl [H13]; · iexact H13
    isplitl [H14]; · iexact H14
    iexact H15

end Loop

end Cert.KernelIdeal.Exp

end
-- ==== Proof.KI.Words.lean ====
/- The prefetched tables' words: which block each window reads at a grid point, and which of the body's conditions hold. -/
module

public import proofs.«01_k».proof.Proof.KI.Cast
public import Idealize.ShloMosaic.Lib.VecWindow
public import Idealize.ShloMosaic.Lib.WordCmp
public import Idealize.ShloMosaic.Lib.WordArith
public import Idealize.ShloMosaic.Lib.Pipeline.AliasedRuns
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

open Idealize.ShloMosaic.WordCmp
open Idealize.ShloMosaic.WordArith (toNat_minsi_of_lt)

section Words
variable (pf : pre0.Contents (Elt F))

/-- The expert each block belongs to. -/
def eW : S173.Idx → BitVec 32 := pf 0
/-- The number of blocks used. -/
def nW : BitVec 32 := (pf 1 : S1.Idx → BitVec 32) (ix1 0)
/-- The number of valid rows of each block. -/
def vW : S173.Idx → BitVec 32 := pf 2

/-- What the precondition says of the tables: experts in range, at least one block used, at most 1024 rows valid. -/
structure Good : Prop where
  e0 : ∀ t, 0 ≤ (eW pf t).toInt
  e1 : ∀ t, (eW pf t).toInt < 32
  n1 : 1 ≤ (nW pf).toInt
  v1 : ∀ t, (vW pf t).toInt ≤ 1024

/-- The number of used blocks as a natural number. -/
def nu : ℕ := (nW pf).toNat
/-- The block number whose rows point `t` reads and whose block of the result it writes. -/
def blkOf (t : ℕ) : ℕ := min t (nu pf - 1)

variable {pf}

theorem toNat_of_nonneg {x : BitVec 32} (h : 0 ≤ x.toInt) : x.toInt = x.toNat ∧ x.toNat < 2 ^ 31 := by
  have := x.isLt
  rw [BitVec.toInt_eq_toNat_cond] at h ⊢
  split at h <;> rename_i hc
  · rw [if_pos hc]; exact ⟨rfl, by omega⟩
  · omega

theorem Good.nu_pos (hg : Good pf) : 1 ≤ nu pf ∧ nu pf < 2 ^ 31 ∧ (nW pf).toInt = nu pf := by
  have h := hg.n1
  have := toNat_of_nonneg (x := nW pf) (by omega)
  unfold nu; omega

theorem Good.e_lt (hg : Good pf) (t) : (eW pf t).toNat < 32 := by
  have h0 := hg.e0 t; have h1 := hg.e1 t
  have := toNat_of_nonneg h0; omega

theorem coord_lt (i : grid0.Coords) : (i 0).val < 173 := (i 0).isLt

theorem coord_val (t : Fin grid0.N) : ((grid0.coords t) 0).val = t.val := by
  have h : t.val < 173 := lt_of_lt_of_eq t.isLt N_0
  rw [Pipeline.Grid.coords_val t 0 (S := 1) (B := 173) (by decide) rfl]; omega

theorem at1 (inb) (h1 : (Rect.unit (s := S1) ![0] S1.size inb).shape.numel = 1) : pf.at 1 (Rect.unit (s := S1) ![0] S1.size inb) h1 = nW pf :=
  congrArg (pf 1 : S1.Idx → BitVec 32) (funext fun a => match a with
    | ⟨0, _⟩ => Subsingleton.elim (α := Fin 1) _ _)

/-- The one-element rectangle at offset `o` of a table reads the table's word `o`. -/
theorem emb_one (o : ℕ) (ho : o < 173) (off : Fin 1 → ℕ) (hoff : off = ![o]) (inb) (j) :
    (Rect.unit (s := S173) off S1.size inb).emb j = ix1 (n := 173) ⟨o, ho⟩ := by
  subst hoff
  funext a
  match a with
  | ⟨0, _⟩ =>
    have hj : (j 0).val = 0 := Nat.lt_one_iff.mp (j 0).isLt
    exact Fin.ext (by show o + 1 * (j 0).val = o; omega)

theorem ofNat_toInt {k : ℕ} (h : k < 173) : (BitVec.ofNat 32 k).toInt = k := by
  have := toNat_of_nonneg (x := BitVec.ofNat 32 k) (by rw [BitVec.toInt_eq_toNat_of_lt (by rw [BitVec.toNat_ofNat]; omega)]; omega)
  rw [this.1, BitVec.toNat_ofNat]; omega

/-- Point `i`'s row block, of the input and of the result. -/
theorem tr_rows (hg : Good pf) (i : grid0.Coords) : cc0_transform_0 inb_S1_S1_0 numel1_S1 pf i = ![blkOf pf (i 0).val, 0, 0] := by
  have hi := coord_lt i
  obtain ⟨h1, h2, h3⟩ := hg.nu_pos
  unfold cc0_transform_0
  dsimp only
  rw [at1 _ numel1_S1]
  have hsub : (nW pf - 1#32).toNat = nu pf - 1 := by
    unfold nu at *
    rw [BitVec.toNat_sub, show (1#32).toNat = 1 from rfl]; omega
  have : (Scalar.minsi (BitVec.ofNat 32 (i 0).val) (Scalar.subi (nW pf) 1#32)).toNat = blkOf pf (i 0).val := by
    show (IntOp.minsi _ (nW pf - 1#32)).toNat = _
    rw [toNat_minsi_of_lt _ _ (by rw [BitVec.toNat_ofNat]; omega) (by rw [hsub]; omega), hsub, BitVec.toNat_ofNat]
    unfold blkOf
    congr 1; omega
  rw [this]; rfl
theorem tr_out (hg : Good pf) (i : grid0.Coords) : cc0_transform_7 inb_S1_S1_0 numel1_S1 pf i = ![blkOf pf (i 0).val, 0, 0] := tr_rows hg i

/-- Point `i`'s block of the weights and biases: its expert's. -/
theorem tr_w (i : grid0.Coords) : cc0_transform_1 k0_off1_inb numel1_S1 pf i = ![(eW pf (ix1 (n := 173) ⟨(i 0).val, coord_lt i⟩)).toNat, 0, 0] := by
  unfold cc0_transform_1
  dsimp only
  have : pf.at 0 (Rect.unit (s := S173) (k0_off1 i) S1.size (k0_off1_inb i)) numel1_S1 = eW pf (ix1 (n := 173) ⟨(i 0).val, coord_lt i⟩) :=
    congrArg (eW pf) (emb_one (i 0).val (coord_lt i) _ (k0_off1_eq i) _ _)
  exact congrArg (fun w : BitVec 32 => (![w.toNat, 0, 0] : Fin 3 → ℕ)) this

theorem blkOf_lt (t : ℕ) (ht : t < 173) : blkOf pf t < 173 := lt_of_le_of_lt (Nat.min_le_left _ _) ht

theorem whole_rows (off : Fin 3 → ℕ) (h : ∀ a, (off a + 1) * S256x4x1024.size a ≤ S44288x4x1024.size a) (h1 : off 1 = 0) :
    (Rect.block (s := S44288x4x1024) S256x4x1024.size off h).WholeWords (EltTy.packing .bf16) :=
  .inr ⟨by decide, rfl, by show off 1 * 4 = 0; omega, rfl⟩

/-- Every table the precondition admits addresses blocks inside the arrays. -/
theorem Good.ok (hg : Good pf) : ok0 pf := by
  have hr : ∀ i : grid0.Coords, ∀ a, (cc0_transform_0 inb_S1_S1_0 numel1_S1 pf i a + 1) * S256x4x1024.size a ≤ S44288x4x1024.size a := by
    intro i a
    have := blkOf_lt (pf := pf) (i 0).val (coord_lt i)
    rw [tr_rows hg]
    match a with
    | ⟨0, _⟩ => show (blkOf pf (i 0).val + 1) * 256 ≤ 44288; omega
    | ⟨1, _⟩ => show (0 + 1) * 4 ≤ 4; omega
    | ⟨2, _⟩ => show (0 + 1) * 1024 ≤ 1024; omega
  have hw : ∀ i : grid0.Coords, ∀ a, (cc0_transform_1 k0_off1_inb numel1_S1 pf i a + 1) * S1x1024x1024.size a ≤ S32x1024x1024.size a := by
    intro i a
    have := hg.e_lt (ix1 (n := 173) ⟨(i 0).val, coord_lt i⟩)
    rw [tr_w]
    match a with
    | ⟨0, _⟩ => show ((eW pf _).toNat + 1) * 1 ≤ 32; omega
    | ⟨1, _⟩ => show (0 + 1) * 1024 ≤ 1024; omega
    | ⟨2, _⟩ => show (0 + 1) * 1024 ≤ 1024; omega
  have hb : ∀ i : grid0.Coords, ∀ a, (cc0_transform_2 k0_off1_inb numel1_S1 pf i a + 1) * S1x1x1024.size a ≤ S32x1x1024.size a := by
    intro i a
    have := hg.e_lt (ix1 (n := 173) ⟨(i 0).val, coord_lt i⟩)
    rw [show cc0_transform_2 k0_off1_inb numel1_S1 pf i = _ from tr_w i]
    match a with
    | ⟨0, _⟩ => show ((eW pf _).toNat + 1) * 1 ≤ 32; omega
    | ⟨1, _⟩ => show (0 + 1) * 1 ≤ 1; omega
    | ⟨2, _⟩ => show (0 + 1) * 1024 ≤ 1024; omega
  refine ⟨fun i => ⟨hr i, .inr (whole_rows _ _ (by rw [tr_rows hg]; rfl))⟩, fun i => ⟨hw i, .inl rfl⟩, fun i => ⟨hb i, .inl rfl⟩, fun i => ⟨hw i, .inl rfl⟩,
    fun i => ⟨hb i, .inl rfl⟩, fun i => ⟨hw i, .inl rfl⟩, fun i => ⟨hb i, .inl rfl⟩, fun i => ⟨hr i, .inr (whole_rows _ _ (by rw [tr_out hg]; rfl))⟩, ?_⟩
  refine ⟨by decide, by decide, by decide, by decide, fun x a a' h => ?_, fun u u' hlt _ hfl heq => ?_⟩
  · cases (Fin.ext h : a = a'); rfl
  · simp only [Pipeline.WinSpec.flushAt, Bool.and_eq_true, Bool.or_eq_true, decide_eq_true_eq] at hfl
    have hix : ∀ t : Fin grid0.N, ix0 pf 7 (grid0.coords t) = ![blkOf pf t.val, 0, 0] := fun t => by
      rw [show ix0 pf 7 (grid0.coords t) = _ from tr_out hg _]
      have : ((grid0.coords t) 0).val = t.val := coord_val t
      rw [this]
    rw [hix, hix] at heq
    have h0 : blkOf pf u'.val = blkOf pf u.val := congrFun heq 0
    rcases hfl.2 with h | ⟨h, hne⟩
    · have := u.isLt; omega
    · refine hne ?_
      rw [hix, hix]
      have : blkOf pf (u'.val + 1) = blkOf pf u'.val := by unfold blkOf at *; omega
      rw [this]

/-! ## The body's conditions -/

/-- How many 256-row steps a block with `v` valid rows computes. -/
def lvl (v : BitVec 32) : ℕ := if v.toInt ≤ 256 then 1 else if v.toInt ≤ 512 then 2 else if v.toInt ≤ 768 then 3 else 4

theorem guard_iff (b : Bool) : (Scalar.cmpi .ne (Scalar.extui (BitVec.ofBool b) : BitVec 32) 0#32 = 1#1) ↔ b = true := by
  cases b <;> decide

theorem cond2_iff (i : grid0.Coords) (n v : BitVec 32) : (k0_cond2 i n v = 1#1) ↔ ((BitVec.ofNat 32 (i 0).val).toInt < n.toInt ∧ v.toInt ≤ 256) := by
  unfold k0_cond2
  dsimp only
  simp only [Scalar.cmpi, Scalar.andi, cmpi_slt_eq, cmpi_sle_eq, cmpi_sgt_eq, andi_ofBool]
  refine (guard_iff _).trans ?_
  simp only [Bool.and_eq_true, decide_eq_true_eq]
  exact Iff.rfl

theorem cond3_iff (i : grid0.Coords) (n v : BitVec 32) : (k0_cond3 i n v = 1#1) ↔ ((BitVec.ofNat 32 (i 0).val).toInt < n.toInt ∧ 256 < v.toInt ∧ v.toInt ≤ 512) := by
  unfold k0_cond3
  dsimp only
  simp only [Scalar.cmpi, Scalar.andi, cmpi_slt_eq, cmpi_sle_eq, cmpi_sgt_eq, andi_ofBool]
  refine (guard_iff _).trans ?_
  simp only [Bool.and_eq_true, decide_eq_true_eq]
  exact Iff.rfl

theorem cond4_iff (i : grid0.Coords) (n v : BitVec 32) : (k0_cond4 i n v = 1#1) ↔ ((BitVec.ofNat 32 (i 0).val).toInt < n.toInt ∧ 512 < v.toInt ∧ v.toInt ≤ 768) := by
  unfold k0_cond4
  dsimp only
  simp only [Scalar.cmpi, Scalar.andi, cmpi_slt_eq, cmpi_sle_eq, cmpi_sgt_eq, andi_ofBool]
  refine (guard_iff _).trans ?_
  simp only [Bool.and_eq_true, decide_eq_true_eq]
  exact Iff.rfl

theorem cond5_iff (i : grid0.Coords) (n v : BitVec 32) : (k0_cond5 i n v = 1#1) ↔ ((BitVec.ofNat 32 (i 0).val).toInt < n.toInt ∧ 768 < v.toInt ∧ v.toInt ≤ 1024) := by
  unfold k0_cond5
  dsimp only
  simp only [Scalar.cmpi, Scalar.andi, cmpi_slt_eq, cmpi_sle_eq, cmpi_sgt_eq, andi_ofBool]
  refine (guard_iff _).trans ?_
  simp only [Bool.and_eq_true, decide_eq_true_eq]
  exact Iff.rfl

/-- The rounding condition: a used block, either the first or of an expert other than the block before it. -/
theorem newExpert_iff (i : grid0.Coords) (n e e' : BitVec 32) :
    (Scalar.cmpi .ne (Scalar.extui (Scalar.andi (Scalar.cmpi .slt (BitVec.ofNat 32 (i 0).val) n) (Scalar.ori (Scalar.cmpi .eq (BitVec.ofNat 32 (i 0).val) 0#32) (Scalar.cmpi .ne e e'))) : BitVec 32) 0#32 = 1#1)
      ↔ ((BitVec.ofNat 32 (i 0).val).toInt < n.toInt ∧ ((BitVec.ofNat 32 (i 0).val) = 0#32 ∨ e ≠ e')) := by
  rw [show (Scalar.andi (Scalar.cmpi .slt (BitVec.ofNat 32 (i 0).val) n) (Scalar.ori (Scalar.cmpi .eq (BitVec.ofNat 32 (i 0).val) 0#32) (Scalar.cmpi .ne e e')))
      = BitVec.ofBool (decide ((BitVec.ofNat 32 (i 0).val).toInt < n.toInt) && (decide (BitVec.ofNat 32 (i 0).val = 0#32) || decide (e ≠ e'))) from by
    simp only [Scalar.cmpi, Scalar.andi, Scalar.ori, cmpi_slt_eq, cmpi_eq_eq, cmpi_ne_eq, andi_ofBool, ori_ofBool]]
  refine (guard_iff _).trans ?_
  simp only [Bool.and_eq_true, Bool.or_eq_true, decide_eq_true_eq]

end Words

end Cert.KernelIdeal.Exp

end
-- ==== Proof.KI.Out.lean ====
/- What one grid point leaves in its output block, for each of the four row counts the body runs at. -/
module

public import proofs.«01_k».proof.Proof.KI.Cast
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- Two column halves side by side: columns below 512 from the first, the others from the second. -/
def cols {R : ℕ} (wl wr : (⟨2, ![R, 512]⟩ : Shape).Idx → Elt F .bf16) : (⟨2, ![R, 1024]⟩ : Shape).Idx → Elt F .bf16 :=
  fun y => if h : (y 1).val < 512 then wl (ix2 (y 0) ⟨(y 1).val, h⟩)
    else wr (ix2 (y 0) ⟨(y 1).val - 512, by have : (y 1).val < 1024 := (y 1).isLt; omega⟩)

/-- Row groups below `G` from the first vector, the remaining ones from the second. -/
def groups {G G' : ℕ} (hG : G + G' = 256) (w : (⟨3, ![G, 4, 1024]⟩ : Shape).Idx → Elt F .bf16) (z : (⟨3, ![G', 4, 1024]⟩ : Shape).Idx → Elt F .bf16) :
    Vec F S256x4x1024 .bf16 :=
  fun y => if h : (y 0).val < G then w (ix3 ⟨(y 0).val, h⟩ (y 1) (y 2))
    else z (ix3 ⟨(y 0).val - G, by have : (y 0).val < 256 := (y 0).isLt; omega⟩ (y 1) (y 2))

/-- Two stores that fill the first `R` rows of the hidden scratch, half the columns each, read back side by side. -/
theorem window_cols {R : ℕ} (d : Vec F S1024x1024 .bf16) (wl wr : (⟨2, ![R, 512]⟩ : Shape).Idx → Elt F .bf16)
    (inb : ∀ a, (![0, 0] : Fin 2 → ℕ) a + (![R, 1024] : Fin 2 → ℕ) a ≤ S1024x1024.size a) :
    window (s := S1024x1024) (put (s := S1024x1024) (put (s := S1024x1024) d ![0, 0] ![R, 512] wl) ![0, 512] ![R, 512] wr) ![0, 0] ![R, 1024] inb = cols wl wr := by
  funext y
  have hy0 : (y 0).val < R := (y 0).isLt
  have hy1 : (y 1).val < 1024 := (y 1).isLt
  unfold window put cols
  by_cases h : (y 1).val < 512
  · rw [dif_neg, dif_pos, dif_pos h]
    · refine congrArg wl ?_
      funext a
      match a with
      | ⟨0, _⟩ => exact Fin.ext (by show 0 + 1 * (y 0).val - 0 = (y 0).val; omega)
      | ⟨1, _⟩ => exact Fin.ext (by show 0 + 1 * (y 1).val - 0 = (y 1).val; omega)
    · intro a
      match a with
      | ⟨0, _⟩ => exact ⟨Nat.zero_le _, by show 0 + 1 * (y 0).val < 0 + R; omega⟩
      | ⟨1, _⟩ => exact ⟨Nat.zero_le _, by show 0 + 1 * (y 1).val < 0 + 512; omega⟩
    · intro hall
      have h1 : 512 ≤ 0 + 1 * (y 1).val := (hall 1).1
      omega
  · rw [dif_pos, dif_neg h]
    · refine congrArg wr ?_
      funext a
      match a with
      | ⟨0, _⟩ => exact Fin.ext (by show 0 + 1 * (y 0).val - 0 = (y 0).val; omega)
      | ⟨1, _⟩ => exact Fin.ext (by show 0 + 1 * (y 1).val - 512 = (y 1).val - 512; omega)
    · intro a
      match a with
      | ⟨0, _⟩ => exact ⟨Nat.zero_le _, by show 0 + 1 * (y 0).val < 0 + R; omega⟩
      | ⟨1, _⟩ => exact ⟨by show 512 ≤ 0 + 1 * (y 1).val; omega, by show 0 + 1 * (y 1).val < 512 + 512; omega⟩

/-- Two stores that fill the output block, the first `G` row groups and the rest. -/
theorem put_groups {G G' : ℕ} (hG : G + G' = 256) (d : Vec F S256x4x1024 .bf16) (w : (⟨3, ![G, 4, 1024]⟩ : Shape).Idx → Elt F .bf16)
    (z : (⟨3, ![G', 4, 1024]⟩ : Shape).Idx → Elt F .bf16) :
    put (s := S256x4x1024) (put (s := S256x4x1024) d ![0, 0, 0] ![G, 4, 1024] w) ![G, 0, 0] ![G', 4, 1024] z = groups hG w z := by
  funext y
  have hy0 : (y 0).val < 256 := (y 0).isLt
  have hy1 : (y 1).val < 4 := (y 1).isLt
  have hy2 : (y 2).val < 1024 := (y 2).isLt
  unfold put groups
  by_cases h : (y 0).val < G
  · rw [dif_neg, dif_pos, dif_pos h]
    · refine congrArg w ?_
      funext a
      match a with
      | ⟨0, _⟩ => exact Fin.ext (by show (y 0).val - 0 = (y 0).val; omega)
      | ⟨1, _⟩ => exact Fin.ext (by show (y 1).val - 0 = (y 1).val; omega)
      | ⟨2, _⟩ => exact Fin.ext (by show (y 2).val - 0 = (y 2).val; omega)
    · intro a
      match a with
      | ⟨0, _⟩ => exact ⟨Nat.zero_le _, by show (y 0).val < 0 + G; omega⟩
      | ⟨1, _⟩ => exact ⟨Nat.zero_le _, by show (y 1).val < 0 + 4; omega⟩
      | ⟨2, _⟩ => exact ⟨Nat.zero_le _, by show (y 2).val < 0 + 1024; omega⟩
    · intro hall
      have h1 : G ≤ (y 0).val := (hall 0).1
      omega
  · rw [dif_pos, dif_neg h]
    · refine congrArg z ?_
      funext a
      match a with
      | ⟨0, _⟩ => exact Fin.ext rfl
      | ⟨1, _⟩ => exact Fin.ext (by show (y 1).val - 0 = (y 1).val; omega)
      | ⟨2, _⟩ => exact Fin.ext (by show (y 2).val - 0 = (y 2).val; omega)
    · intro a
      match a with
      | ⟨0, _⟩ => exact ⟨by show G ≤ (y 0).val; omega, by show (y 0).val < G + G'; omega⟩
      | ⟨1, _⟩ => exact ⟨Nat.zero_le _, by show (y 1).val < 0 + 4; omega⟩
      | ⟨2, _⟩ => exact ⟨Nat.zero_le _, by show (y 2).val < 0 + 1024; omega⟩

/-- One store over the whole output block leaves its payload. -/
theorem put_whole (d : Vec F S256x4x1024 .bf16) (w : (⟨3, ![256, 4, 1024]⟩ : Shape).Idx → Elt F .bf16) :
    put (s := S256x4x1024) d ![0, 0, 0] ![256, 4, 1024] w = w := by
  funext y
  have hy0 : (y 0).val < 256 := (y 0).isLt
  have hy1 : (y 1).val < 4 := (y 1).isLt
  have hy2 : (y 2).val < 1024 := (y 2).isLt
  unfold put
  rw [dif_pos]
  · refine congrArg w ?_
    funext a
    match a with
    | ⟨0, _⟩ => exact Fin.ext (by show (y 0).val - 0 = (y 0).val; omega)
    | ⟨1, _⟩ => exact Fin.ext (by show (y 1).val - 0 = (y 1).val; omega)
    | ⟨2, _⟩ => exact Fin.ext (by show (y 2).val - 0 = (y 2).val; omega)
  · intro a
    match a with
    | ⟨0, _⟩ => exact ⟨Nat.zero_le _, by show (y 0).val < 0 + 256; omega⟩
    | ⟨1, _⟩ => exact ⟨Nat.zero_le _, by show (y 1).val < 0 + 4; omega⟩
    | ⟨2, _⟩ => exact ⟨Nat.zero_le _, by show (y 2).val < 0 + 1024; omega⟩

/-- A load off a buffer held at `x` is the window of `x`. -/
theorem rd_window {sp : Space} {s : Shape} {e : EltTy} (M : Memref sig .tc sp s e) (x : s.Idx → Elt F e) {off size : Fin s.rank → ℕ}
    (inb : ∀ a, off a + size a ≤ s.size a) :
    View.readAt (Elt F) M.view (Rect.unit off size inb).toLoadRect (M.view.rep x) = window x off size inb :=
  View.readAt_rep_unit M.view x inb rfl inb

/-- A load off a buffer after a list of stores is the window of what the stores leave. -/
theorem readCov_window {sp : Space} {s : Shape} {e : EltTy} (M : Memref sig .tc sp s e) (L : List (View.Piece (Elt F) s e)) {off size : Fin s.rank → ℕ}
    (inb : ∀ a, off a + size a ≤ s.size a) :
    M.view.readCov L (Rect.unit off size inb).toLoadRect = window (M.view.read (Elt F) (M.view.writes (Elt F) M.view.junk L)) off size inb := rfl

/-- The left half of a matrix's columns. -/
abbrev lft (x : Vec F S1024x1024 .bf16) : Vec F S1024x512 .bf16 := window (s := S1024x1024) x ![0, 0] S1024x512.size inb_S1024x1024_S1024x512_0_0
/-- The right half of a matrix's columns. -/
abbrev rgt (x : Vec F S1024x1024 .bf16) : Vec F S1024x512 .bf16 := window (s := S1024x1024) x ![0, 512] S1024x512.size inb_S1024x1024_S1024x512_0_512
/-- The left half of a bias row. -/
abbrev lftB (x : Vec F S1x1x1024 .f32) : Vec F S1x1x512 .f32 := window (s := S1x1x1024) x ![0, 0, 0] S1x1x512.size inb_S1x1x1024_S1x1x512_0_0_0
/-- The right half of a bias row. -/
abbrev rgtB (x : Vec F S1x1x1024 .f32) : Vec F S1x1x512 .f32 := window (s := S1x1x1024) x ![0, 0, 512] S1x1x512.size inb_S1x1x1024_S1x1x512_0_0_512

/-- The first 256 rows of the row block. -/
abbrev rows1 (x : Vec F S256x4x1024 .bf16) : Vec F S64x4x1024 .bf16 := window (s := S256x4x1024) x ![0, 0, 0] S64x4x1024.size inb_S256x4x1024_S64x4x1024_0_0_0
/-- The hidden values of the first 256 rows: gate and up products with their biases, clipped, gated and rounded. -/
def hid1 (x0 : Vec F S256x4x1024 .bf16) (x1 : Vec F S1x1024x1024 .f32) (x2 : Vec F S1x1x1024 .f32) (x3 : Vec F S1x1024x1024 .f32) (x4 : Vec F S1x1x1024 .f32) : Vec F S256x1024 .bf16 :=
  cols (R := 256) (k0_pay2 (rows1 x0) (lft (castW x1)) (lftB x2) (lft (castW x3)) (lftB x4))
    (k0_pay4 (k0_pay1 (rows1 x0)) (k0_pay3 (rows1 x0) (rgt (castW x1))) (rgtB x2) (rgt (castW x3)) (rgtB x4))
/-- The output block where 256 rows are computed: the rest is zero. -/
def out1 (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) : Vec F S256x4x1024 .bf16 :=
  groups (G := 64) (G' := 192) rfl (k0_pay5 (hid1 x0 x1 x2 x3 x4) (castW x5) x6) (k0_pay24 (F := F))

/-- The first 512 rows of the row block. -/
abbrev rows2 (x : Vec F S256x4x1024 .bf16) : Vec F S128x4x1024 .bf16 := window (s := S256x4x1024) x ![0, 0, 0] S128x4x1024.size inb_S256x4x1024_S128x4x1024_0_0_0
/-- The hidden values of the first 512 rows: gate and up products with their biases, clipped, gated and rounded. -/
def hid2 (x0 : Vec F S256x4x1024 .bf16) (x1 : Vec F S1x1024x1024 .f32) (x2 : Vec F S1x1x1024 .f32) (x3 : Vec F S1x1024x1024 .f32) (x4 : Vec F S1x1x1024 .f32) : Vec F S512x1024 .bf16 :=
  cols (R := 512) (k0_pay7 (rows2 x0) (lft (castW x1)) (lftB x2) (lft (castW x3)) (lftB x4))
    (k0_pay9 (k0_pay6 (rows2 x0)) (k0_pay8 (rows2 x0) (rgt (castW x1))) (rgtB x2) (rgt (castW x3)) (rgtB x4))
/-- The output block where 512 rows are computed: the rest is zero. -/
def out2 (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) : Vec F S256x4x1024 .bf16 :=
  groups (G := 128) (G' := 128) rfl (k0_pay10 (hid2 x0 x1 x2 x3 x4) (castW x5) x6) (k0_pay25 (F := F))

/-- The first 768 rows of the row block. -/
abbrev rows3 (x : Vec F S256x4x1024 .bf16) : Vec F S192x4x1024 .bf16 := window (s := S256x4x1024) x ![0, 0, 0] S192x4x1024.size inb_S256x4x1024_S192x4x1024_0_0_0
/-- The hidden values of the first 768 rows: gate and up products with their biases, clipped, gated and rounded. -/
def hid3 (x0 : Vec F S256x4x1024 .bf16) (x1 : Vec F S1x1024x1024 .f32) (x2 : Vec F S1x1x1024 .f32) (x3 : Vec F S1x1024x1024 .f32) (x4 : Vec F S1x1x1024 .f32) : Vec F S768x1024 .bf16 :=
  cols (R := 768) (k0_pay12 (rows3 x0) (lft (castW x1)) (lftB x2) (lft (castW x3)) (lftB x4))
    (k0_pay14 (k0_pay11 (rows3 x0)) (k0_pay13 (rows3 x0) (rgt (castW x1))) (rgtB x2) (rgt (castW x3)) (rgtB x4))
/-- The output block where 768 rows are computed: the rest is zero. -/
def out3 (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) : Vec F S256x4x1024 .bf16 :=
  groups (G := 192) (G' := 64) rfl (k0_pay15 (hid3 x0 x1 x2 x3 x4) (castW x5) x6) (k0_pay26 (F := F))

/-- The first 1024 rows of the row block. -/
abbrev rows4 (x : Vec F S256x4x1024 .bf16) : Vec F S256x4x1024 .bf16 := window (s := S256x4x1024) x ![0, 0, 0] S256x4x1024.size inb_S256x4x1024_S256x4x1024_0_0_0
/-- The hidden values of the first 1024 rows: gate and up products with their biases, clipped, gated and rounded. -/
def hid4 (x0 : Vec F S256x4x1024 .bf16) (x1 : Vec F S1x1024x1024 .f32) (x2 : Vec F S1x1x1024 .f32) (x3 : Vec F S1x1024x1024 .f32) (x4 : Vec F S1x1x1024 .f32) : Vec F S1024x1024 .bf16 :=
  cols (R := 1024) (k0_pay17 (rows4 x0) (lft (castW x1)) (lftB x2) (lft (castW x3)) (lftB x4))
    (k0_pay19 (k0_pay16 (rows4 x0)) (k0_pay18 (rows4 x0) (rgt (castW x1))) (rgtB x2) (rgt (castW x3)) (rgtB x4))
/-- The output block where 1024 rows are computed. -/
def out4 (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) : Vec F S256x4x1024 .bf16 :=
  k0_pay20 (hid4 x0 x1 x2 x3 x4) (castW x5) x6

end Cert.KernelIdeal.Exp

end
-- ==== Proof.KI.Body1.lean ====
/- The body run at the blocks where 256 rows are computed. -/
module

public import proofs.«01_k».proof.Proof.KI.Out
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- The body at a used block where 256 rows are computed: from the inputs, tables and scratches it leaves the output block of
    256 computed rows, the hidden scratch at something, and the weight scratches at the rounded weights. -/
theorem body1 (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (T0 : (S173.Idx → Elt F .i32)) (T1 : (S1.Idx → Elt F .i32)) (T2 : (S173.Idx → Elt F .i32))
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (h13 : (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) ≠ 1#1 → d13 = castW x1 ∧ d14 = castW x3 ∧ d15 = castW x5)
    (h2 : (k0_cond2 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h3 : ¬ (k0_cond3 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h4 : ¬ (k0_cond4 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h5 : ¬ (k0_cond5 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep (out1 x0 x1 x2 x3 x4 x5 x6)) ∗ (∃ d, (arg12.view.loc (c : Thread nD τ) ↦[arg12.view.set]{fullShare} arg12.view.rep d)) ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5))) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  rw [cc0_moe_experts_eq_skeleton]; unfold cc0_moe_experts_skel
  iintro ⟨H0, H1, H2, H3, H4, H5, H6, HT0, HT1, HT2, H11, H12, H13, H14, H15, Hk⟩
  have hT0 : tbM0_0.IsWhole := Memref.isWhole_whole _
  have hT1 : tbM0_1.IsWhole := Memref.isWhole_whole _
  have hT2 : tbM0_2.IsWhole := Memref.isWhole_whole _
  sl_exec!
  iapply (castStage c i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15 Variants.none none Set.univ x1 x3 x5 d13 d14 d15 (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) (fun h => (h13 h).1) (fun h => (h13 h).2.1) (fun h => (h13 h).2.2) _ _)
  isplitl [H1]; · iexact H1
  isplitl [H3]; · iexact H3
  isplitl [H5]; · iexact H5
  isplitl [H13]; · iexact H13
  isplitl [H14]; · iexact H14
  isplitl [H15]; · iexact H15
  iintro ⟨H1, H3, H5, H13, H14, H15⟩
  sl_exec! (disch := first | (guard_target = k0_cond2 _ _ _ = _; exact h2) | (guard_target = ¬(k0_cond3 _ _ _ = _); exact h3) | (guard_target = ¬(k0_cond4 _ _ _ = _); exact h4) | (guard_target = ¬(k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [H11]
  · iapply (pointsTo_rep_of_read (c : Thread nD τ) arg11 _ _ (out1 x0 x1 x2 x3 x4 x5 x6) ?hout)
    rotate_left
    · iexact H11
    · clear h13 h2 h3 h4 h5 hT0 hT1 hT2
      sl_unfold_run_names
      have e5 : ∀ inb, View.readAt (Elt F) arg15.view (Rect.unit (s := S1024x1024) ![0, 0] S1024x1024.size inb).toLoadRect (arg15.view.rep (castW x5)) = castW x5 :=
        fun inb => View.readAt_rep_full arg15.view _ inb
      have e6 : ∀ inb, View.readAt (Elt F) arg10.view (Rect.unit (s := S1x1x1024) ![0, 0, 0] S1x1x1024.size inb).toLoadRect (arg10.view.rep x6) = x6 :=
        fun inb => View.readAt_rep_full arg10.view _ inb
      rw [e5, e6]
      simp only [rd_window, readCov_window]
      rw [View.read_writes_cons_put arg12.view _ _ _ _ rfl, View.read_writes_cons_put arg12.view _ _ _ _ rfl]
      unfold out1 hid1
      rw [← window_cols (R := 256) (arg12.view.read (Elt F) arg12.view.junk) _ _ inb_S1024x1024_S256x1024_0_0]
      rw [View.read_writes_cons_put arg11.view _ _ _ _ rfl, View.read_writes_cons_put arg11.view _ _ _ _ rfl]
      exact put_groups (G := 64) (G' := 192) rfl _ _ _
  isplitl [H12]
  · iexists _
    iapply (pointsTo_rep_of_read (c : Thread nD τ) arg12 _ _ _ rfl)
    iexact H12
  isplitl [H13]; · iexact H13
  isplitl [H14]; · iexact H14
  iexact H15

end Cert.KernelIdeal.Exp

end
-- ==== Proof.KI.Body2.lean ====
/- The body run at the blocks where 512 rows are computed. -/
module

public import proofs.«01_k».proof.Proof.KI.Out
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- The body at a used block where 512 rows are computed: from the inputs, tables and scratches it leaves the output block of
    512 computed rows, the hidden scratch at something, and the weight scratches at the rounded weights. -/
theorem body2 (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (T0 : (S173.Idx → Elt F .i32)) (T1 : (S1.Idx → Elt F .i32)) (T2 : (S173.Idx → Elt F .i32))
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (h13 : (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) ≠ 1#1 → d13 = castW x1 ∧ d14 = castW x3 ∧ d15 = castW x5)
    (h2 : ¬ (k0_cond2 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h3 : (k0_cond3 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h4 : ¬ (k0_cond4 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h5 : ¬ (k0_cond5 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep (out2 x0 x1 x2 x3 x4 x5 x6)) ∗ (∃ d, (arg12.view.loc (c : Thread nD τ) ↦[arg12.view.set]{fullShare} arg12.view.rep d)) ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5))) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  rw [cc0_moe_experts_eq_skeleton]; unfold cc0_moe_experts_skel
  iintro ⟨H0, H1, H2, H3, H4, H5, H6, HT0, HT1, HT2, H11, H12, H13, H14, H15, Hk⟩
  have hT0 : tbM0_0.IsWhole := Memref.isWhole_whole _
  have hT1 : tbM0_1.IsWhole := Memref.isWhole_whole _
  have hT2 : tbM0_2.IsWhole := Memref.isWhole_whole _
  sl_exec!
  iapply (castStage c i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15 Variants.none none Set.univ x1 x3 x5 d13 d14 d15 (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) (fun h => (h13 h).1) (fun h => (h13 h).2.1) (fun h => (h13 h).2.2) _ _)
  isplitl [H1]; · iexact H1
  isplitl [H3]; · iexact H3
  isplitl [H5]; · iexact H5
  isplitl [H13]; · iexact H13
  isplitl [H14]; · iexact H14
  isplitl [H15]; · iexact H15
  iintro ⟨H1, H3, H5, H13, H14, H15⟩
  sl_exec! (disch := first | (guard_target = ¬(k0_cond2 _ _ _ = _); exact h2) | (guard_target = k0_cond3 _ _ _ = _; exact h3) | (guard_target = ¬(k0_cond4 _ _ _ = _); exact h4) | (guard_target = ¬(k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [H11]
  · iapply (pointsTo_rep_of_read (c : Thread nD τ) arg11 _ _ (out2 x0 x1 x2 x3 x4 x5 x6) ?hout)
    rotate_left
    · iexact H11
    · clear h13 h2 h3 h4 h5 hT0 hT1 hT2
      sl_unfold_run_names
      have e5 : ∀ inb, View.readAt (Elt F) arg15.view (Rect.unit (s := S1024x1024) ![0, 0] S1024x1024.size inb).toLoadRect (arg15.view.rep (castW x5)) = castW x5 :=
        fun inb => View.readAt_rep_full arg15.view _ inb
      have e6 : ∀ inb, View.readAt (Elt F) arg10.view (Rect.unit (s := S1x1x1024) ![0, 0, 0] S1x1x1024.size inb).toLoadRect (arg10.view.rep x6) = x6 :=
        fun inb => View.readAt_rep_full arg10.view _ inb
      rw [e5, e6]
      simp only [rd_window, readCov_window]
      rw [View.read_writes_cons_put arg12.view _ _ _ _ rfl, View.read_writes_cons_put arg12.view _ _ _ _ rfl]
      unfold out2 hid2
      rw [← window_cols (R := 512) (arg12.view.read (Elt F) arg12.view.junk) _ _ inb_S1024x1024_S512x1024_0_0]
      rw [View.read_writes_cons_put arg11.view _ _ _ _ rfl, View.read_writes_cons_put arg11.view _ _ _ _ rfl]
      exact put_groups (G := 128) (G' := 128) rfl _ _ _
  isplitl [H12]
  · iexists _
    iapply (pointsTo_rep_of_read (c : Thread nD τ) arg12 _ _ _ rfl)
    iexact H12
  isplitl [H13]; · iexact H13
  isplitl [H14]; · iexact H14
  iexact H15

end Cert.KernelIdeal.Exp

end
-- ==== Proof.KI.Body3.lean ====
/- The body run at the blocks where 768 rows are computed. -/
module

public import proofs.«01_k».proof.Proof.KI.Out
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- The body at a used block where 768 rows are computed: from the inputs, tables and scratches it leaves the output block of
    768 computed rows, the hidden scratch at something, and the weight scratches at the rounded weights. -/
theorem body3 (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (T0 : (S173.Idx → Elt F .i32)) (T1 : (S1.Idx → Elt F .i32)) (T2 : (S173.Idx → Elt F .i32))
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (h13 : (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) ≠ 1#1 → d13 = castW x1 ∧ d14 = castW x3 ∧ d15 = castW x5)
    (h2 : ¬ (k0_cond2 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h3 : ¬ (k0_cond3 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h4 : (k0_cond4 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h5 : ¬ (k0_cond5 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep (out3 x0 x1 x2 x3 x4 x5 x6)) ∗ (∃ d, (arg12.view.loc (c : Thread nD τ) ↦[arg12.view.set]{fullShare} arg12.view.rep d)) ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5))) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  rw [cc0_moe_experts_eq_skeleton]; unfold cc0_moe_experts_skel
  iintro ⟨H0, H1, H2, H3, H4, H5, H6, HT0, HT1, HT2, H11, H12, H13, H14, H15, Hk⟩
  have hT0 : tbM0_0.IsWhole := Memref.isWhole_whole _
  have hT1 : tbM0_1.IsWhole := Memref.isWhole_whole _
  have hT2 : tbM0_2.IsWhole := Memref.isWhole_whole _
  sl_exec!
  iapply (castStage c i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15 Variants.none none Set.univ x1 x3 x5 d13 d14 d15 (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) (fun h => (h13 h).1) (fun h => (h13 h).2.1) (fun h => (h13 h).2.2) _ _)
  isplitl [H1]; · iexact H1
  isplitl [H3]; · iexact H3
  isplitl [H5]; · iexact H5
  isplitl [H13]; · iexact H13
  isplitl [H14]; · iexact H14
  isplitl [H15]; · iexact H15
  iintro ⟨H1, H3, H5, H13, H14, H15⟩
  sl_exec! (disch := first | (guard_target = ¬(k0_cond2 _ _ _ = _); exact h2) | (guard_target = ¬(k0_cond3 _ _ _ = _); exact h3) | (guard_target = k0_cond4 _ _ _ = _; exact h4) | (guard_target = ¬(k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [H11]
  · iapply (pointsTo_rep_of_read (c : Thread nD τ) arg11 _ _ (out3 x0 x1 x2 x3 x4 x5 x6) ?hout)
    rotate_left
    · iexact H11
    · clear h13 h2 h3 h4 h5 hT0 hT1 hT2
      sl_unfold_run_names
      have e5 : ∀ inb, View.readAt (Elt F) arg15.view (Rect.unit (s := S1024x1024) ![0, 0] S1024x1024.size inb).toLoadRect (arg15.view.rep (castW x5)) = castW x5 :=
        fun inb => View.readAt_rep_full arg15.view _ inb
      have e6 : ∀ inb, View.readAt (Elt F) arg10.view (Rect.unit (s := S1x1x1024) ![0, 0, 0] S1x1x1024.size inb).toLoadRect (arg10.view.rep x6) = x6 :=
        fun inb => View.readAt_rep_full arg10.view _ inb
      rw [e5, e6]
      simp only [rd_window, readCov_window]
      rw [View.read_writes_cons_put arg12.view _ _ _ _ rfl, View.read_writes_cons_put arg12.view _ _ _ _ rfl]
      unfold out3 hid3
      rw [← window_cols (R := 768) (arg12.view.read (Elt F) arg12.view.junk) _ _ inb_S1024x1024_S768x1024_0_0]
      rw [View.read_writes_cons_put arg11.view _ _ _ _ rfl, View.read_writes_cons_put arg11.view _ _ _ _ rfl]
      exact put_groups (G := 192) (G' := 64) rfl _ _ _
  isplitl [H12]
  · iexists _
    iapply (pointsTo_rep_of_read (c : Thread nD τ) arg12 _ _ _ rfl)
    iexact H12
  isplitl [H13]; · iexact H13
  isplitl [H14]; · iexact H14
  iexact H15

end Cert.KernelIdeal.Exp

end
-- ==== Proof.KI.Body4.lean ====
/- The body run at the blocks where 1024 rows are computed. -/
module

public import proofs.«01_k».proof.Proof.KI.Out
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

/-- The body at a used block where 1024 rows are computed: from the inputs, tables and scratches it leaves the output block of
    1024 computed rows, the hidden scratch at something, and the weight scratches at the rounded weights. -/
theorem body4 (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (T0 : (S173.Idx → Elt F .i32)) (T1 : (S1.Idx → Elt F .i32)) (T2 : (S173.Idx → Elt F .i32))
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (h13 : (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) ≠ 1#1 → d13 = castW x1 ∧ d14 = castW x3 ∧ d15 = castW x5)
    (h2 : ¬ (k0_cond2 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h3 : ¬ (k0_cond3 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h4 : ¬ (k0_cond4 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (h5 : (k0_cond5 i (View.readAt (Elt F) (tbM0_1).view (Rect.unit (s := S1) ![0] S1.size inb_S1_S1_0).toLoadRect T1 (Shape.Idx.first (numel1_S1.symm ▸ Nat.one_pos))) (View.readAt (Elt F) (tbM0_2).view (Rect.unit (s := S173) (k0_off5 i) S1.size (k0_off5_inb i)).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} T0) ∗ (tbM0_1.view.loc (c : Thread nD τ) ↦{fullShare.right} T1) ∗ (tbM0_2.view.loc (c : Thread nD τ) ↦{fullShare.right} T2) ∗ (arg11.view.loc (c : Thread nD τ) ↦[arg11.view.set]{fullShare} arg11.view.rep (out4 x0 x1 x2 x3 x4 x5 x6)) ∗ (∃ d, (arg12.view.loc (c : Thread nD τ) ↦[arg12.view.set]{fullShare} arg12.view.rep d)) ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5))) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  rw [cc0_moe_experts_eq_skeleton]; unfold cc0_moe_experts_skel
  iintro ⟨H0, H1, H2, H3, H4, H5, H6, HT0, HT1, HT2, H11, H12, H13, H14, H15, Hk⟩
  have hT0 : tbM0_0.IsWhole := Memref.isWhole_whole _
  have hT1 : tbM0_1.IsWhole := Memref.isWhole_whole _
  have hT2 : tbM0_2.IsWhole := Memref.isWhole_whole _
  sl_exec!
  iapply (castStage c i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15 Variants.none none Set.univ x1 x3 x5 d13 d14 d15 (Scalar.cmpi .ne (Scalar.extui (Scalar.andi (Scalar.cmpi .slt (BitVec.ofNat 32 (i 0).val) (View.readAt (Elt F) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect T0 (Shape.Idx.first (numel1_S1.symm ▸ Nat.one_pos))) (View.readAt (Elt F) (tbM0_0).view (Rect.unit (s := S173) (k0_off2 i) S1.size (k0_off2_inb i)).toLoadRect T0 (Shape.Idx.first (numel1_S1.symm ▸ Nat.one_pos))))))) 0#32) (fun h => (h13 h).1) (fun h => (h13 h).2.1) (fun h => (h13 h).2.2) _ _)
  isplitl [H1]; · iexact H1
  isplitl [H3]; · iexact H3
  isplitl [H5]; · iexact H5
  isplitl [H13]; · iexact H13
  isplitl [H14]; · iexact H14
  isplitl [H15]; · iexact H15
  iintro ⟨H1, H3, H5, H13, H14, H15⟩
  sl_exec! (disch := first | (guard_target = ¬(k0_cond2 _ _ _ = _); exact h2) | (guard_target = ¬(k0_cond3 _ _ _ = _); exact h3) | (guard_target = ¬(k0_cond4 _ _ _ = _); exact h4) | (guard_target = k0_cond5 _ _ _ = _; exact h5))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [H11]
  · iapply (pointsTo_rep_of_read (c : Thread nD τ) arg11 _ _ (out4 x0 x1 x2 x3 x4 x5 x6) ?hout)
    rotate_left
    · iexact H11
    · clear h13 h2 h3 h4 h5 hT0 hT1 hT2
      sl_unfold_run_names
      have e5 : ∀ inb, View.readAt (Elt F) arg15.view (Rect.unit (s := S1024x1024) ![0, 0] S1024x1024.size inb).toLoadRect (arg15.view.rep (castW x5)) = castW x5 :=
        fun inb => View.readAt_rep_full arg15.view _ inb
      have e6 : ∀ inb, View.readAt (Elt F) arg10.view (Rect.unit (s := S1x1x1024) ![0, 0, 0] S1x1x1024.size inb).toLoadRect (arg10.view.rep x6) = x6 :=
        fun inb => View.readAt_rep_full arg10.view _ inb
      rw [e5, e6]
      simp only [rd_window, readCov_window]
      rw [View.read_writes_cons_put arg12.view _ _ _ _ rfl, View.read_writes_cons_put arg12.view _ _ _ _ rfl]
      unfold out4 hid4
      rw [← window_cols (R := 1024) (arg12.view.read (Elt F) arg12.view.junk) _ _ inb_S1024x1024_S1024x1024_0_0]
      rw [View.read_writes_cons_put arg11.view _ _ _ _ rfl]
      exact put_whole _ _
  isplitl [H12]
  · iexists _
    iapply (pointsTo_rep_of_read (c : Thread nD τ) arg12 _ _ _ rfl)
    iexact H12
  isplitl [H13]; · iexact H13
  isplitl [H14]; · iexact H14
  iexact H15

end Cert.KernelIdeal.Exp

end
-- ==== Proof.KI.Point.lean ====
/- The body at any point, from the tables' words: a used point computes its block, an unused one leaves everything. -/
module

public import proofs.«01_k».proof.Proof.KI.Words
public import proofs.«01_k».proof.Proof.KI.Body1
public import proofs.«01_k».proof.Proof.KI.Body2
public import proofs.«01_k».proof.Proof.KI.Body3
public import proofs.«01_k».proof.Proof.KI.Body4
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

open Idealize.ShloMosaic.WordCmp

/-- The block of the result a point computes in `l` steps of 256 rows. -/
def outL (l : ℕ) (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) : Vec F S256x4x1024 .bf16 :=
  if l = 1 then out1 x0 x1 x2 x3 x4 x5 x6 else if l = 2 then out2 x0 x1 x2 x3 x4 x5 x6 else if l = 3 then out3 x0 x1 x2 x3 x4 x5 x6 else out4 x0 x1 x2 x3 x4 x5 x6

section Point
variable (pf : pre0.Contents (Elt F))

theorem read_n : (View.readAt (Elt F) (tbM0_1).view (Rect.unit (s := S1) ![0] S1.size inb_S1_S1_0).toLoadRect (pf 1) (Shape.Idx.first (numel1_S1.symm ▸ Nat.one_pos))) = nW pf := at1 inb_S1_S1_0 numel1_S1
theorem read_e (i : grid0.Coords) : (View.readAt (Elt F) (tbM0_0).view (Rect.unit (s := S173) (k0_off1 i) S1.size (k0_off1_inb i)).toLoadRect (pf 0) (Shape.Idx.first (numel1_S1.symm ▸ Nat.one_pos))) = eW pf (ix1 (n := 173) ⟨(i 0).val, coord_lt i⟩) :=
  congrArg (eW pf) (emb_one (i 0).val (coord_lt i) _ (k0_off1_eq i) _ _)
theorem prev_lt (i : grid0.Coords) : max (i 0).val 1 - 1 < 173 := by have := coord_lt i; omega
theorem read_e' (i : grid0.Coords) : (View.readAt (Elt F) (tbM0_0).view (Rect.unit (s := S173) (k0_off2 i) S1.size (k0_off2_inb i)).toLoadRect (pf 0) (Shape.Idx.first (numel1_S1.symm ▸ Nat.one_pos))) = eW pf (ix1 (n := 173) ⟨max (i 0).val 1 - 1, prev_lt i⟩) :=
  congrArg (eW pf) (emb_one (max (i 0).val 1 - 1) (prev_lt i) _ (k0_off2_eq i) _ _)
theorem read_v (i : grid0.Coords) : (View.readAt (Elt F) (tbM0_2).view (Rect.unit (s := S173) (k0_off5 i) S1.size (k0_off5_inb i)).toLoadRect (pf 2) (Shape.Idx.first (numel1_S1.symm ▸ Nat.one_pos))) = vW pf (ix1 (n := 173) ⟨(i 0).val, coord_lt i⟩) :=
  congrArg (vW pf) (emb_one (i 0).val (coord_lt i) _ (k0_off5_eq i) _ _)

/-- At a used point the body leaves the point's block of the result, and the weight scratches at the point's rounded weights. -/
theorem bodyUsed (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (hu : (BitVec.ofNat 32 (i 0).val).toInt < (nW pf).toInt) (hv : (vW pf (ix1 (n := 173) ⟨(i 0).val, coord_lt i⟩)).toInt ≤ 1024)
    (hd : ((i 0).val = 0 ∨ eW pf (ix1 (n := 173) ⟨(i 0).val, coord_lt i⟩) ≠ eW pf (ix1 (n := 173) ⟨max (i 0).val 1 - 1, prev_lt i⟩)) ∨ (d13 = castW x1 ∧ d14 = castW x3 ∧ d15 = castW x5))
    (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} pf 0) ∗ (tbM0_1.view.loc (c : Thread nD τ) ↦{fullShare.right} pf 1) ∗ (tbM0_2.view.loc (c : Thread nD τ) ↦{fullShare.right} pf 2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} pf 0) ∗ (tbM0_1.view.loc (c : Thread nD τ) ↦{fullShare.right} pf 1) ∗ (tbM0_2.view.loc (c : Thread nD τ) ↦{fullShare.right} pf 2) ∗ (arg11.view.loc (c : Thread nD τ) ↦[arg11.view.set]{fullShare} arg11.view.rep (outL (lvl (vW pf (ix1 (n := 173) ⟨(i 0).val, coord_lt i⟩))) x0 x1 x2 x3 x4 x5 x6)) ∗ (∃ d, (arg12.view.loc (c : Thread nD τ) ↦[arg12.view.set]{fullShare} arg12.view.rep d)) ∗ (arg13.view.loc (c : Thread nD τ) ↦[arg13.view.set]{fullShare} arg13.view.rep (castW x1)) ∗ (arg14.view.loc (c : Thread nD τ) ↦[arg14.view.set]{fullShare} arg14.view.rep (castW x3)) ∗ (arg15.view.loc (c : Thread nD τ) ↦[arg15.view.set]{fullShare} arg15.view.rep (castW x5))) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  have h13 : (Scalar.cmpi .ne (Scalar.extui (Scalar.andi (Scalar.cmpi .slt (BitVec.ofNat 32 (i 0).val) (View.readAt (Elt F) (tbM0_1).view (Rect.unit (s := S1) ![0] S1.size inb_S1_S1_0).toLoadRect (pf 1) (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect (pf 0) (Shape.Idx.first (numel1_S1.symm ▸ Nat.one_pos))) (View.readAt (Elt F) (tbM0_0).view (Rect.unit (s := S173) (k0_off2 i) S1.size (k0_off2_inb i)).toLoadRect (pf 0) (Shape.Idx.first (numel1_S1.symm ▸ Nat.one_pos))))))) 0#32) ≠ 1#1 → d13 = castW x1 ∧ d14 = castW x3 ∧ d15 = castW x5 := fun hne => by
    rw [read_n, read_e, read_e', Ne, newExpert_iff] at hne
    rcases hd with h | h
    · refine absurd ⟨hu, h.imp (fun h => by rw [h]) id⟩ hne
    · exact h
  by_cases g1 : (vW pf (ix1 (n := 173) ⟨(i 0).val, coord_lt i⟩)).toInt ≤ 256
  · have h2 : (k0_cond2 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond2_iff]; omega
    have h3 : ¬ (k0_cond3 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond3_iff]; omega
    have h4 : ¬ (k0_cond4 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond4_iff]; omega
    have h5 : ¬ (k0_cond5 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond5_iff]; omega
    rw [show lvl (vW pf (ix1 (n := 173) ⟨(i 0).val, coord_lt i⟩)) = 1 from by unfold lvl; split_ifs <;> omega]
    exact body1 c i arg4 harg4 arg5 harg5 arg6 harg6 arg7 harg7 arg8 harg8 arg9 harg9 arg10 harg10 arg11 harg11 arg12 harg12 arg13 harg13 arg14 harg14 arg15 harg15 (pf 0) (pf 1) (pf 2) x0 x1 x2 x3 x4 x5 x6 d11 d12 d13 d14 d15 h13 h2 h3 h4 h5 K
  by_cases g2 : (vW pf (ix1 (n := 173) ⟨(i 0).val, coord_lt i⟩)).toInt ≤ 512
  · have h2 : ¬ (k0_cond2 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond2_iff]; omega
    have h3 : (k0_cond3 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond3_iff]; omega
    have h4 : ¬ (k0_cond4 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond4_iff]; omega
    have h5 : ¬ (k0_cond5 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond5_iff]; omega
    rw [show lvl (vW pf (ix1 (n := 173) ⟨(i 0).val, coord_lt i⟩)) = 2 from by unfold lvl; split_ifs <;> omega]
    exact body2 c i arg4 harg4 arg5 harg5 arg6 harg6 arg7 harg7 arg8 harg8 arg9 harg9 arg10 harg10 arg11 harg11 arg12 harg12 arg13 harg13 arg14 harg14 arg15 harg15 (pf 0) (pf 1) (pf 2) x0 x1 x2 x3 x4 x5 x6 d11 d12 d13 d14 d15 h13 h2 h3 h4 h5 K
  by_cases g3 : (vW pf (ix1 (n := 173) ⟨(i 0).val, coord_lt i⟩)).toInt ≤ 768
  · have h2 : ¬ (k0_cond2 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond2_iff]; omega
    have h3 : ¬ (k0_cond3 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond3_iff]; omega
    have h4 : (k0_cond4 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond4_iff]; omega
    have h5 : ¬ (k0_cond5 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond5_iff]; omega
    rw [show lvl (vW pf (ix1 (n := 173) ⟨(i 0).val, coord_lt i⟩)) = 3 from by unfold lvl; split_ifs <;> omega]
    exact body3 c i arg4 harg4 arg5 harg5 arg6 harg6 arg7 harg7 arg8 harg8 arg9 harg9 arg10 harg10 arg11 harg11 arg12 harg12 arg13 harg13 arg14 harg14 arg15 harg15 (pf 0) (pf 1) (pf 2) x0 x1 x2 x3 x4 x5 x6 d11 d12 d13 d14 d15 h13 h2 h3 h4 h5 K
  · have h2 : ¬ (k0_cond2 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond2_iff]; omega
    have h3 : ¬ (k0_cond3 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond3_iff]; omega
    have h4 : ¬ (k0_cond4 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond4_iff]; omega
    have h5 : (k0_cond5 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond5_iff]; omega
    rw [show lvl (vW pf (ix1 (n := 173) ⟨(i 0).val, coord_lt i⟩)) = 4 from by unfold lvl; split_ifs <;> omega]
    exact body4 c i arg4 harg4 arg5 harg5 arg6 harg6 arg7 harg7 arg8 harg8 arg9 harg9 arg10 harg10 arg11 harg11 arg12 harg12 arg13 harg13 arg14 harg14 arg15 harg15 (pf 0) (pf 1) (pf 2) x0 x1 x2 x3 x4 x5 x6 d11 d12 d13 d14 d15 h13 h2 h3 h4 h5 K

set_option maxHeartbeats 8000000 in
/-- At an unused point the body changes nothing. -/
theorem bodyIdle (c : Dev nD) (i : grid0.Coords) (arg4 : Memref sig .tc .vmem S256x4x1024 .bf16) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S256x4x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (x0 : Vec F S256x4x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32)
    (d11 : Vec F S256x4x1024 .bf16) (d12 d13 d14 d15 : Vec F S1024x1024 .bf16)
    (hu : ¬ (BitVec.ofNat 32 (i 0).val).toInt < (nW pf).toInt)
    (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} pf 0) ∗ (tbM0_1.view.loc (c : Thread nD τ) ↦{fullShare.right} pf 1) ∗ (tbM0_2.view.loc (c : Thread nD τ) ↦{fullShare.right} pf 2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (tbM0_0.view.loc (c : Thread nD τ) ↦{fullShare.right} pf 0) ∗ (tbM0_1.view.loc (c : Thread nD τ) ↦{fullShare.right} pf 1) ∗ (tbM0_2.view.loc (c : Thread nD τ) ↦{fullShare.right} pf 2) ∗ (arg11.view.loc (c : Thread nD τ) ↦[arg11.view.set]{fullShare} arg11.view.rep d11) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15)) -∗ K ⟨⟩))
      ⊢ wp frame (wpE (defs₀ (F := F)) Variants.none (c : Thread nD τ) none) Set.univ (cc0_moe_experts (F := F) i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11 arg12 harg12 arg13 harg13 arg14 harg14 arg15 harg15) K := by
  have hc0 : ¬ ((Scalar.cmpi .ne (Scalar.extui (Scalar.andi (Scalar.cmpi .slt (BitVec.ofNat 32 (i 0).val) (View.readAt (Elt F) (tbM0_1).view (Rect.unit (s := S1) ![0] S1.size inb_S1_S1_0).toLoadRect (pf 1) (Shape.Idx.first (numel1_S1.symm ▸ Nat.one_pos)))) (Scalar.ori (Scalar.cmpi .eq (BitVec.ofNat 32 (i 0).val) 0#32) (Scalar.cmpi .ne (View.readAt (Elt F) (tbM0_0).view (Rect.unit (s := S173) (k0_off1 i) S1.size (k0_off1_inb i)).toLoadRect (pf 0) (Shape.Idx.first (numel1_S1.symm ▸ Nat.one_pos))) (View.readAt (Elt F) (tbM0_0).view (Rect.unit (s := S173) (k0_off2 i) S1.size (k0_off2_inb i)).toLoadRect (pf 0) (Shape.Idx.first (numel1_S1.symm ▸ Nat.one_pos))))))) 0#32) = 1#1) := by rw [read_n, read_e, read_e', newExpert_iff]; exact fun h => hu h.1
  have h2 : ¬ (k0_cond2 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond2_iff]; exact fun h => hu h.1
  have h3 : ¬ (k0_cond3 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond3_iff]; exact fun h => hu h.1
  have h4 : ¬ (k0_cond4 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond4_iff]; exact fun h => hu h.1
  have h5 : ¬ (k0_cond5 i (View.readAt (Elt F) (tbM0_1).view (Rect.unit (s := S1) ![0] S1.size inb_S1_S1_0).toLoadRect (pf 1) (Shape.Idx.first (numel1_S1.symm ▸ Nat.one_pos))) (View.readAt (Elt F) (tbM0_2).view (Rect.unit (s := S173) (k0_off5 i) S1.size (k0_off5_inb i)).toLoadRect (pf 2) (Shape.Idx.first (numel1_S1.symm ▸ Nat.one_pos))) = 1#1) := by rw [read_n, read_v, cond5_iff]; exact fun h => hu h.1
  rw [cc0_moe_experts_eq_skeleton]; unfold cc0_moe_experts_skel
  iintro ⟨H0, H1, H2, H3, H4, H5, H6, HT0, HT1, HT2, H11, H12, H13, H14, H15, Hk⟩
  have hT0 : tbM0_0.IsWhole := Memref.isWhole_whole _
  have hT1 : tbM0_1.IsWhole := Memref.isWhole_whole _
  have hT2 : tbM0_2.IsWhole := Memref.isWhole_whole _
  sl_exec! (disch := first | (guard_target = ¬(Scalar.cmpi _ _ _ = _); exact hc0) | (guard_target = ¬(k0_cond2 _ _ _ = _); exact h2) | (guard_target = ¬(k0_cond3 _ _ _ = _); exact h3) | (guard_target = ¬(k0_cond4 _ _ _ = _); exact h4) | (guard_target = ¬(k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [H11]; · iexact H11
  isplitl [H12]; · iexact H12
  isplitl [H13]; · iexact H13
  isplitl [H14]; · iexact H14
  iexact H15

end Point

end Cert.KernelIdeal.Exp

end
-- ==== Proof.KI.Blocks.lean ====
/- Each input window's block at a grid point, element by element. -/
module

public import proofs.«01_k».proof.Proof.KI.Point
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem pt_lt {hO : Ok m} (t : Fin (cfgM m hO).N) : t.val < 173 := lt_of_lt_of_eq t.isLt N_0

/-- Point `t`'s expert, number of valid rows, and expert number below 32. -/
abbrev eAt {hO : Ok m} (t : Fin (cfgM m hO).N) : BitVec 32 := eW (tbl m) (ix1 (n := 173) ⟨t.val, pt_lt m t⟩)
abbrev vAt {hO : Ok m} (t : Fin (cfgM m hO).N) : BitVec 32 := vW (tbl m) (ix1 (n := 173) ⟨t.val, pt_lt m t⟩)

/-- Every window's block at every point, at its literal shape. -/
abbrev X0 (hO : Ok m) (c : Dev nD) (t : Fin (cfgM m hO).N) : Vec F S256x4x1024 .bf16 := iblk m hO c 0 t
abbrev X1 (hO : Ok m) (c : Dev nD) (t : Fin (cfgM m hO).N) : Vec F S1x1024x1024 .f32 := iblk m hO c 1 t
abbrev X2 (hO : Ok m) (c : Dev nD) (t : Fin (cfgM m hO).N) : Vec F S1x1x1024 .f32 := iblk m hO c 2 t
abbrev X3 (hO : Ok m) (c : Dev nD) (t : Fin (cfgM m hO).N) : Vec F S1x1024x1024 .f32 := iblk m hO c 3 t
abbrev X4 (hO : Ok m) (c : Dev nD) (t : Fin (cfgM m hO).N) : Vec F S1x1x1024 .f32 := iblk m hO c 4 t
abbrev X5 (hO : Ok m) (c : Dev nD) (t : Fin (cfgM m hO).N) : Vec F S1x1024x1024 .f32 := iblk m hO c 5 t
abbrev X6 (hO : Ok m) (c : Dev nD) (t : Fin (cfgM m hO).N) : Vec F S1x1x1024 .f32 := iblk m hO c 6 t

theorem coords_t {hO : Ok m} (t : Fin (cfgM m hO).N) : (((cfgM m hO).grid.coords t) 0).val = t.val := coord_val t

theorem e_coords {hO : Ok m} (t : Fin (cfgM m hO).N) :
    eW (tbl m) (ix1 (n := 173) ⟨(((cfgM m hO).grid.coords t) 0).val, coord_lt ((cfgM m hO).grid.coords t)⟩) = eAt m t :=
  congrArg (fun k : Fin 173 => eW (tbl m) (ix1 k)) (Fin.ext (coords_t m t))

/-- The rows' block at point `t`: block `blkOf t` of the rows. -/
theorem X0_apply (hg : Good (tbl m)) (c : Dev nD) (t : Fin (cfgM m hg.ok).N) (j : S256x4x1024.Idx) :
    X0 m hg.ok c t j = (m ((c : Thread nD τ).loc main_arg3) : S44288x4x1024.Idx → Elt F .bf16)
      (ix3 (n0 := 44288) (n1 := 4) (n2 := 1024) ⟨blkOf (tbl m) t.val * 256 + (j 0).val, by
        have := blkOf_lt (pf := tbl m) t.val (pt_lt m t); have : (j 0).val < 256 := (j 0).isLt; omega⟩ (j 1) (j 2)) := by
  have hv : V m c main_arg3 = m ((c : Thread nD τ).loc main_arg3) := V_of_ne m c (by decide)
  rw [← hv]
  refine congrArg (V m c main_arg3 : S44288x4x1024.Idx → Elt F .bf16) (funext fun a => ?_)
  have hx : cc0_transform_0 inb_S1_S1_0 numel1_S1 (tbl m) ((cfgM m hg.ok).grid.coords t) = ![blkOf (tbl m) t.val, 0, 0] := by
    rw [tr_rows hg, coords_t]
  match a with
  | ⟨0, _⟩ => exact Fin.ext (by
      show cc0_transform_0 inb_S1_S1_0 numel1_S1 (tbl m) ((cfgM m hg.ok).grid.coords t) 0 * 256 + 1 * (j 0).val = blkOf (tbl m) t.val * 256 + (j 0).val
      rw [hx, Nat.one_mul]; rfl)
  | ⟨1, _⟩ => exact Fin.ext (by
      show cc0_transform_0 inb_S1_S1_0 numel1_S1 (tbl m) ((cfgM m hg.ok).grid.coords t) 1 * 4 + 1 * (j 1).val = (j 1).val
      rw [hx, Nat.one_mul]; exact Nat.zero_add _)
  | ⟨2, _⟩ => exact Fin.ext (by
      show cc0_transform_0 inb_S1_S1_0 numel1_S1 (tbl m) ((cfgM m hg.ok).grid.coords t) 2 * 1024 + 1 * (j 2).val = (j 2).val
      rw [hx, Nat.one_mul]; exact Nat.zero_add _)

/-- Window 1's block at point `t`: the expert's own. -/
theorem X1_apply (hg : Good (tbl m)) (c : Dev nD) (t : Fin (cfgM m hg.ok).N) (j : S1x1024x1024.Idx) :
    X1 m hg.ok c t j = (m ((c : Thread nD τ).loc main_arg4) : S32x1024x1024.Idx → Elt F .f32)
      (ix3 (n0 := 32) (n1 := 1024) (n2 := 1024) ⟨(eAt m t).toNat, hg.e_lt _⟩ (j 1) (j 2)) := by
  have hv : V m c main_arg4 = m ((c : Thread nD τ).loc main_arg4) := V_of_ne m c (by decide)
  rw [← hv]
  refine congrArg (V m c main_arg4 : S32x1024x1024.Idx → Elt F .f32) (funext fun a => ?_)
  have hx : cc0_transform_1 k0_off1_inb numel1_S1 (tbl m) ((cfgM m hg.ok).grid.coords t) = ![(eAt m t).toNat, 0, 0] := by
    rw [show cc0_transform_1 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_1 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_1 k0_off1_inb numel1_S1 (tbl m) ((cfgM m hg.ok).grid.coords t) 1 * 1024 + 1 * (j 1).val = (j 1).val
      rw [hx, Nat.one_mul]; exact Nat.zero_add _)
  | ⟨2, _⟩ => exact Fin.ext (by
      show cc0_transform_1 k0_off1_inb numel1_S1 (tbl m) ((cfgM m hg.ok).grid.coords t) 2 * 1024 + 1 * (j 2).val = (j 2).val
      rw [hx, Nat.one_mul]; exact Nat.zero_add _)

/-- Window 2's block at point `t`: the expert's own. -/
theorem X2_apply (hg : Good (tbl m)) (c : Dev nD) (t : Fin (cfgM m hg.ok).N) (j : S1x1x1024.Idx) :
    X2 m hg.ok c t j = (m ((c : Thread nD τ).loc main_arg5) : S32x1x1024.Idx → Elt F .f32)
      (ix3 (n0 := 32) (n1 := 1) (n2 := 1024) ⟨(eAt m t).toNat, hg.e_lt _⟩ (j 1) (j 2)) := by
  have hv : V m c main_arg5 = m ((c : Thread nD τ).loc main_arg5) := V_of_ne m c (by decide)
  rw [← hv]
  refine congrArg (V m c main_arg5 : S32x1x1024.Idx → Elt F .f32) (funext fun a => ?_)
  have hx : cc0_transform_2 k0_off1_inb numel1_S1 (tbl m) ((cfgM m hg.ok).grid.coords t) = ![(eAt m t).toNat, 0, 0] := by
    rw [show cc0_transform_2 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_2 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_2 k0_off1_inb numel1_S1 (tbl m) ((cfgM m hg.ok).grid.coords t) 1 * 1 + 1 * (j 1).val = (j 1).val
      rw [hx, Nat.one_mul]; exact Nat.zero_add _)
  | ⟨2, _⟩ => exact Fin.ext (by
      show cc0_transform_2 k0_off1_inb numel1_S1 (tbl m) ((cfgM m hg.ok).grid.coords t) 2 * 1024 + 1 * (j 2).val = (j 2).val
      rw [hx, Nat.one_mul]; exact Nat.zero_add _)

/-- Window 3's block at point `t`: the expert's own. -/
theorem X3_apply (hg : Good (tbl m)) (c : Dev nD) (t : Fin (cfgM m hg.ok).N) (j : S1x1024x1024.Idx) :
    X3 m hg.ok c t j = (m ((c : Thread nD τ).loc main_arg6) : S32x1024x1024.Idx → Elt F .f32)
      (ix3 (n0 := 32) (n1 := 1024) (n2 := 1024) ⟨(eAt m t).toNat, hg.e_lt _⟩ (j 1) (j 2)) := by
  have hv : V m c main_arg6 = m ((c : Thread nD τ).loc main_arg6) := V_of_ne m c (by decide)
  rw [← hv]
  refine congrArg (V m c main_arg6 : S32x1024x1024.Idx → Elt F .f32) (funext fun a => ?_)
  have hx : cc0_transform_3 k0_off1_inb numel1_S1 (tbl m) ((cfgM m hg.ok).grid.coords t) = ![(eAt m t).toNat, 0, 0] := by
    rw [show cc0_transform_3 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_3 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_3 k0_off1_inb numel1_S1 (tbl m) ((cfgM m hg.ok).grid.coords t) 1 * 1024 + 1 * (j 1).val = (j 1).val
      rw [hx, Nat.one_mul]; exact Nat.zero_add _)
  | ⟨2, _⟩ => exact Fin.ext (by
      show cc0_transform_3 k0_off1_inb numel1_S1 (tbl m) ((cfgM m hg.ok).grid.coords t) 2 * 1024 + 1 * (j 2).val = (j 2).val
      rw [hx, Nat.one_mul]; exact Nat.zero_add _)

/-- Window 4's block at point `t`: the expert's own. -/
theorem X4_apply (hg : Good (tbl m)) (c : Dev nD) (t : Fin (cfgM m hg.ok).N) (j : S1x1x1024.Idx) :
    X4 m hg.ok c t j = (m ((c : Thread nD τ).loc main_arg7) : S32x1x1024.Idx → Elt F .f32)
      (ix3 (n0 := 32) (n1 := 1) (n2 := 1024) ⟨(eAt m t).toNat, hg.e_lt _⟩ (j 1) (j 2)) := by
  have hv : V m c main_arg7 = m ((c : Thread nD τ).loc main_arg7) := V_of_ne m c (by decide)
  rw [← hv]
  refine congrArg (V m c main_arg7 : S32x1x1024.Idx → Elt F .f32) (funext fun a => ?_)
  have hx : cc0_transform_4 k0_off1_inb numel1_S1 (tbl m) ((cfgM m hg.ok).grid.coords t) = ![(eAt m t).toNat, 0, 0] := by
    rw [show cc0_transform_4 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_4 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_4 k0_off1_inb numel1_S1 (tbl m) ((cfgM m hg.ok).grid.coords t) 1 * 1 + 1 * (j 1).val = (j 1).val
      rw [hx, Nat.one_mul]; exact Nat.zero_add _)
  | ⟨2, _⟩ => exact Fin.ext (by
      show cc0_transform_4 k0_off1_inb numel1_S1 (tbl m) ((cfgM m hg.ok).grid.coords t) 2 * 1024 + 1 * (j 2).val = (j 2).val
      rw [hx, Nat.one_mul]; exact Nat.zero_add _)

/-- Window 5's block at point `t`: the expert's own. -/
theorem X5_apply (hg : Good (tbl m)) (c : Dev nD) (t : Fin (cfgM m hg.ok).N) (j : S1x1024x1024.Idx) :
    X5 m hg.ok c t j = (m ((c : Thread nD τ).loc main_arg8) : S32x1024x1024.Idx → Elt F .f32)
      (ix3 (n0 := 32) (n1 := 1024) (n2 := 1024) ⟨(eAt m t).toNat, hg.e_lt _⟩ (j 1) (j 2)) := by
  have hv : V m c main_arg8 = m ((c : Thread nD τ).loc main_arg8) := V_of_ne m c (by decide)
  rw [← hv]
  refine congrArg (V m c main_arg8 : S32x1024x1024.Idx → Elt F .f32) (funext fun a => ?_)
  have hx : cc0_transform_5 k0_off1_inb numel1_S1 (tbl m) ((cfgM m hg.ok).grid.coords t) = ![(eAt m t).toNat, 0, 0] := by
    rw [show cc0_transform_5 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_5 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_5 k0_off1_inb numel1_S1 (tbl m) ((cfgM m hg.ok).grid.coords t) 1 * 1024 + 1 * (j 1).val = (j 1).val
      rw [hx, Nat.one_mul]; exact Nat.zero_add _)
  | ⟨2, _⟩ => exact Fin.ext (by
      show cc0_transform_5 k0_off1_inb numel1_S1 (tbl m) ((cfgM m hg.ok).grid.coords t) 2 * 1024 + 1 * (j 2).val = (j 2).val
      rw [hx, Nat.one_mul]; exact Nat.zero_add _)

/-- Window 6's block at point `t`: the expert's own. -/
theorem X6_apply (hg : Good (tbl m)) (c : Dev nD) (t : Fin (cfgM m hg.ok).N) (j : S1x1x1024.Idx) :
    X6 m hg.ok c t j = (m ((c : Thread nD τ).loc main_arg9) : S32x1x1024.Idx → Elt F .f32)
      (ix3 (n0 := 32) (n1 := 1) (n2 := 1024) ⟨(eAt m t).toNat, hg.e_lt _⟩ (j 1) (j 2)) := by
  have hv : V m c main_arg9 = m ((c : Thread nD τ).loc main_arg9) := V_of_ne m c (by decide)
  rw [← hv]
  refine congrArg (V m c main_arg9 : S32x1x1024.Idx → Elt F .f32) (funext fun a => ?_)
  have hx : cc0_transform_6 k0_off1_inb numel1_S1 (tbl m) ((cfgM m hg.ok).grid.coords t) = ![(eAt m t).toNat, 0, 0] := by
    rw [show cc0_transform_6 k0_off1_inb numel1_S1 (tbl m) ((cfgM m hg.ok).grid.coords t) = _ from tr_w _, e_coords]
  match a with
  | ⟨0, _⟩ => exact Fin.ext (by
      have hj : (j 0).val = 0 := Nat.lt_one_iff.mp (j 0).isLt
      show cc0_transform_6 k0_off1_inb numel1_S1 (tbl m) ((cfgM m hg.ok).grid.coords t) 0 * 1 + 1 * (j 0).val = (eAt m t).toNat
      rw [hx, hj]; exact Nat.mul_one _)
  | ⟨1, _⟩ => exact Fin.ext (by
      show cc0_transform_6 k0_off1_inb numel1_S1 (tbl m) ((cfgM m hg.ok).grid.coords t) 1 * 1 + 1 * (j 1).val = (j 1).val
      rw [hx, Nat.one_mul]; exact Nat.zero_add _)
  | ⟨2, _⟩ => exact Fin.ext (by
      show cc0_transform_6 k0_off1_inb numel1_S1 (tbl m) ((cfgM m hg.ok).grid.coords t) 2 * 1024 + 1 * (j 2).val = (j 2).val
      rw [hx, Nat.one_mul]; exact Nat.zero_add _)

/-- Two points of one expert have one block of window 1. -/
theorem X1_congr (hg : Good (tbl m)) (c : Dev nD) (t t' : Fin (cfgM m hg.ok).N) (h : eAt m t = eAt m t') : X1 m hg.ok c t = X1 m hg.ok c t' := by
  funext j
  rw [X1_apply m hg, X1_apply m hg]
  simp only [h]

/-- Two points of one expert have one block of window 3. -/
theorem X3_congr (hg : Good (tbl m)) (c : Dev nD) (t t' : Fin (cfgM m hg.ok).N) (h : eAt m t = eAt m t') : X3 m hg.ok c t = X3 m hg.ok c t' := by
  funext j
  rw [X3_apply m hg, X3_apply m hg]
  simp only [h]

/-- Two points of one expert have one block of window 5. -/
theorem X5_congr (hg : Good (tbl m)) (c : Dev nD) (t t' : Fin (cfgM m hg.ok).N) (h : eAt m t = eAt m t') : X5 m hg.ok c t = X5 m hg.ok c t' := by
  funext j
  rw [X5_apply m hg, X5_apply m hg]
  simp only [h]

end Cert.KernelIdeal.Exp

end
-- ==== Proof.KI.Dats.lean ====
/- What the device's buffers hold between grid points, and the body's step at every point. -/
module

public import proofs.«01_k».proof.Proof.KI.Blocks
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before point `k` the weight scratches hold the rounded weights of the point before, if that point was used. -/
def Rounded (hO : Ok m) (c : Dev nD) (k : ℕ) (d13 d14 d15 : Vec F S1024x1024 .bf16) : Prop :=
  ∀ t : Fin (cfgM m hO).N, k = t.val + 1 → t.val < nu (tbl m) →
    d13 = castW (X1 m hO c t) ∧ d14 = castW (X3 m hO c t) ∧ d15 = castW (X5 m hO c t)

/-- What the body holds besides the windows before point `k`: the four scratches, the generator register, and the tables. -/
def phiK (hO : Ok m) (c : Dev nD) (k : ℕ) : sProp 𝕄 :=
  iprop((∃ d, owns (c : Thread nD τ) scM0_0 fullShare d)
    ∗ (∃ d13 d14 d15, ⌜Rounded m hO c k d13 d14 d15⌝ ∗ owns (c : Thread nD τ) scM0_1 fullShare d13 ∗ owns (c : Thread nD τ) scM0_2 fullShare d14 ∗ owns (c : Thread nD τ) scM0_3 fullShare d15)
    ∗ (∃ r, prngReg c r)
    ∗ tbPt0 c tbM0_0 (tbl m 0) ∗ tbPt0 c tbM0_1 (tbl m 1) ∗ tbPt0 c tbM0_2 (tbl m 2))

/-- The point whose block of the result point `t`'s buffer holds: `t` itself while used, else the last used point. -/
def srcPt (hO : Ok m) (t : Fin (cfgM m hO).N) : Fin (cfgM m hO).N := ⟨blkOf (tbl m) t.val, lt_of_le_of_lt (Nat.min_le_left _ _) t.isLt⟩

/-- The block of the result computed at point `s`. -/
def outAt (hO : Ok m) (c : Dev nD) (s : Fin (cfgM m hO).N) : Vec F S256x4x1024 .bf16 :=
  outL (lvl (vAt m s)) (X0 m hO c s) (X1 m hO c s) (X2 m hO c s) (X3 m hO c s) (X4 m hO c s) (X5 m hO c s) (X6 m hO c s)

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c (srcPt m hO t)
  Φ k := phiK m hO c k.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outAt m hO c (srcPt m hO t) := by dsimp only [dats]; try rfl

theorem before_0 (hO : Ok m) (c : Dev nD) (t : Fin (cfgM m hO).N) (d) : (dats m hO 0 c).before 0 t d = iblk m hO c 0 t :=
  (before_in m hO (dats m hO 0 c) 0 rfl (fun _ => rfl) (fun _ _ _ => rfl) (A_eq m hO c 0) (fun t => by rw [after_0]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  (before_in m hO (dats m hO 0 c) 1 rfl (fun _ => rfl) (fun _ _ _ => rfl) (A_eq m hO c 1) (fun t => by rw [after_1]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  (before_in m hO (dats m hO 0 c) 2 rfl (fun _ => rfl) (fun _ _ _ => rfl) (A_eq m hO c 2) (fun t => by rw [after_2]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  (before_in m hO (dats m hO 0 c) 3 rfl (fun _ => rfl) (fun _ _ _ => rfl) (A_eq m hO c 3) (fun t => by rw [after_3]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  (before_in m hO (dats m hO 0 c) 4 rfl (fun _ => rfl) (fun _ _ _ => rfl) (A_eq m hO c 4) (fun t => by rw [after_4]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  (before_in m hO (dats m hO 0 c) 5 rfl (fun _ => rfl) (fun _ _ _ => rfl) (A_eq m hO c 5) (fun t => by rw [after_5]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  (before_in m hO (dats m hO 0 c) 6 rfl (fun _ => rfl) (fun _ _ _ => rfl) (A_eq m hO c 6) (fun t => by rw [after_6]; try rfl) t d).trans
    (by unfold Dat.fetched Dat.blockOf iblk; rw [A_eq]; try rfl)

/-! ## Where the result's window is idle -/

theorem atD_n (pf : pre0.Contents (Elt F)) : pf.atD 1 ![0] = nW pf := by
  unfold Pipeline.Prefetch.Contents.atD
  rw [dif_pos (by decide)]
  exact congrArg (pf 1 : S1.Idx → BitVec 32) (funext fun a => match a with
    | ⟨0, _⟩ => Subsingleton.elim (α := Fin 1) _ _)

theorem atD_v (pf : pre0.Contents (Elt F)) (i : grid0.Coords) : pf.atD 2 (k0_off5 i) = vW pf (ix1 (n := 173) ⟨(i 0).val, coord_lt i⟩) := by
  unfold Pipeline.Prefetch.Contents.atD
  have h : ∀ a, k0_off5 i a + 1 ≤ (pre0.ref 2).ty.shape.size a := fun a => by
    rw [k0_off5_eq]
    match a with
    | ⟨0, _⟩ => exact coord_lt i
  exact (dif_pos h).trans (congrArg (vW pf) (funext fun a => match a with
    | ⟨0, _⟩ => Fin.ext (congrFun (k0_off5_eq i) 0)))

theorem used_iff (hg : Good (tbl m)) (i : grid0.Coords) : (BitVec.ofNat 32 (i 0).val).toInt < (nW (tbl m)).toInt ↔ (i 0).val < nu (tbl m) := by
  rw [ofNat_toInt (coord_lt i), (hg.nu_pos).2.2]; omega

/-- The result's window is stored at exactly the used points. -/
theorem idle_eq (hg : Good (tbl m)) (i : grid0.Coords) : idle0 (tbl m) 7 i = !decide ((i 0).val < nu (tbl m)) := by
  have hv := hg.v1 (ix1 (n := 173) ⟨(i 0).val, coord_lt i⟩)
  have hu := used_iff m hg i
  show (!(k0_cond2 i ((tbl m).atD 1 ![0]) ((tbl m).atD 2 (k0_off5 i)) == 1#1) && !(k0_cond3 i ((tbl m).atD 1 ![0]) ((tbl m).atD 2 (k0_off5 i)) == 1#1) && !(k0_cond4 i ((tbl m).atD 1 ![0]) ((tbl m).atD 2 (k0_off5 i)) == 1#1) && !(k0_cond5 i ((tbl m).atD 1 ![0]) ((tbl m).atD 2 (k0_off5 i)) == 1#1)) = _
  rw [atD_n, atD_v, Bool.eq_iff_iff]
  simp only [Bool.and_eq_true, Bool.not_eq_true', beq_eq_false_iff_ne, Ne, cond2_iff, cond3_iff, cond4_iff, cond5_iff, decide_eq_false_iff_not]
  omega

theorem idle_used (hg : Good (tbl m)) (t : Fin (cfgM m hg.ok).N) (h : t.val < nu (tbl m)) : (cfgM m hg.ok).idle 7 ((cfgM m hg.ok).grid.coords t) = false := by
  rw [show (cfgM m hg.ok).idle 7 ((cfgM m hg.ok).grid.coords t) = _ from idle_eq m hg ((cfgM m hg.ok).grid.coords t), coords_t]
  simp [h]
theorem idle_unused (hg : Good (tbl m)) (t : Fin (cfgM m hg.ok).N) (h : ¬ t.val < nu (tbl m)) : (cfgM m hg.ok).idle 7 ((cfgM m hg.ok).grid.coords t) = true := by
  rw [show (cfgM m hg.ok).idle 7 ((cfgM m hg.ok).grid.coords t) = _ from idle_eq m hg ((cfgM m hg.ok).grid.coords t), coords_t]
  simp [h]

/-- The result's block index at point `t`. -/
theorem index_7 (hg : Good (tbl m)) (t : Fin (cfgM m hg.ok).N) : ((cfgM m hg.ok).win 7).index t = ![blkOf (tbl m) t.val, 0, 0] := by
  rw [show ((cfgM m hg.ok).win 7).index t = cc0_transform_7 inb_S1_S1_0 numel1_S1 (tbl m) ((cfgM m hg.ok).grid.coords t) from rfl, tr_out hg, coords_t]

/-- No point before the last whose next point is unused writes the result's buffer back. -/
theorem flush_7 (hg : Good (tbl m)) (n : ℕ) (hn : n < (cfgM m hg.ok).N) (h1 : n + 1 < (cfgM m hg.ok).N) (h : nu (tbl m) ≤ n + 1) : ((cfgM m hg.ok).win 7).flush ⟨n, hn⟩ = false := by
  unfold Window.flush
  have e : ((cfgM m hg.ok).win 7).index ⟨n + 1, h1⟩ = ((cfgM m hg.ok).win 7).index ⟨n, hn⟩ := by
    rw [index_7 m hg, index_7 m hg]
    have : blkOf (tbl m) (n + 1) = blkOf (tbl m) n := by unfold blkOf; omega
    exact congrArg (fun k : ℕ => (![k, 0, 0] : Fin 3 → ℕ)) this
  have hne : ¬ (n + 1 = (cfgM m hg.ok).N) := by omega
  have hno : ¬ ∃ h : n + 1 < (cfgM m hg.ok).grid.N, ((cfgM m hg.ok).win 7).index ⟨n + 1, h⟩ ≠ ((cfgM m hg.ok).win 7).index ⟨n, hn⟩ := fun ⟨_, hh⟩ => hh e
  simp only [Bool.and_eq_false_iff, Bool.or_eq_false_iff]
  exact Or.inr ⟨decide_eq_false hne, decide_eq_false hno⟩

/-- At an unused point the result's buffer holds a stored block. -/
theorem fresh_7 (hg : Good (tbl m)) : ∀ n : ℕ, n < (cfgM m hg.ok).N → nu (tbl m) ≤ n → (cfgM m hg.ok).fresh 7 n = false
  | 0, _, h => absurd hg.nu_pos.1 (by omega)
  | n + 1, hn, h => by
    rw [Cfg.fresh_succ _ _ _ (by omega), flush_7 m hg n (by omega) hn h, Bool.false_or]
    by_cases hu : n < nu (tbl m)
    · rw [idle_used m hg ⟨n, by omega⟩ hu, Bool.false_and]
    · rw [fresh_7 hg n (by omega) (by omega), Bool.and_false]

/-- At an unused point the result's buffer is found, and left, at the last used point's block. -/
theorem before_unused (hg : Good (tbl m)) (c : Dev nD) (t : Fin (cfgM m hg.ok).N) (h : ¬ t.val < nu (tbl m)) (d) :
    (dats m hg.ok 0 c).before 7 t d = (dats m hg.ok 0 c).after 7 t := by
  have hc : ∀ (t : Fin (cfgM m hg.ok).N) (_ : t.val ≠ 0), ¬ t.val < nu (tbl m) →
      (dats m hg.ok 0 c).after 7 t = (dats m hg.ok 0 c).after 7 ⟨t.val - 1, by omega⟩ := fun t h0 h => by
    rw [after_7, after_7]
    exact congrArg (outAt m hg.ok c) (Fin.ext (by
      show blkOf (tbl m) t.val = blkOf (tbl m) (t.val - 1)
      unfold blkOf; omega))
  have h0 : t.val ≠ 0 := fun h0 => absurd hg.nu_pos.1 (by omega)
  rw [(dats m hg.ok 0 c).before_out_traj 7 rfl (fun _ _ => rfl) (fun t h0 hi _ => hc t h0 (fun hu => by
      rw [idle_used m hg t hu] at hi; exact Bool.false_ne_true hi)) t.val t rfl d,
    fresh_7 m hg t.val t.isLt (by omega), hc t h0 h]
  rfl

/-! ## The body's step -/

/-- What the body is called with at point `t`, -/
def bodyPre (hg : Good (tbl m)) (c : Dev nD) (t : Fin (cfgM m hg.ok).N) : sProp 𝕄 :=
  iprop((dats m hg.ok 0 c).Φ t.castSucc ∗ (dats m hg.ok 0 c).owesAt () t.castSucc
    ∗ (∃ d, owns (c : Thread nD τ) (ms0_0 m hg.ok t) fullShare ((dats m hg.ok 0 c).before 0 t d))
    ∗ (∃ d, owns (c : Thread nD τ) (ms0_1 m hg.ok t) fullShare ((dats m hg.ok 0 c).before 1 t d))
    ∗ (∃ d, owns (c : Thread nD τ) (ms0_2 m hg.ok t) fullShare ((dats m hg.ok 0 c).before 2 t d))
    ∗ (∃ d, owns (c : Thread nD τ) (ms0_3 m hg.ok t) fullShare ((dats m hg.ok 0 c).before 3 t d))
    ∗ (∃ d, owns (c : Thread nD τ) (ms0_4 m hg.ok t) fullShare ((dats m hg.ok 0 c).before 4 t d))
    ∗ (∃ d, owns (c : Thread nD τ) (ms0_5 m hg.ok t) fullShare ((dats m hg.ok 0 c).before 5 t d))
    ∗ (∃ d, owns (c : Thread nD τ) (ms0_6 m hg.ok t) fullShare ((dats m hg.ok 0 c).before 6 t d))
    ∗ (∃ d, owns (c : Thread nD τ) (ms0_7 m hg.ok t) fullShare ((dats m hg.ok 0 c).before 7 t d)))

/-- and what it returns. -/
def bodyPost (hg : Good (tbl m)) (c : Dev nD) (t : Fin (cfgM m hg.ok).N) : sProp 𝕄 :=
  iprop((dats m hg.ok 0 c).Φ t.succ ∗ (dats m hg.ok 0 c).owesAt () t.succ
    ∗ owns (c : Thread nD τ) (ms0_0 m hg.ok t) fullShare ((dats m hg.ok 0 c).after 0 t)
    ∗ owns (c : Thread nD τ) (ms0_1 m hg.ok t) fullShare ((dats m hg.ok 0 c).after 1 t)
    ∗ owns (c : Thread nD τ) (ms0_2 m hg.ok t) fullShare ((dats m hg.ok 0 c).after 2 t)
    ∗ owns (c : Thread nD τ) (ms0_3 m hg.ok t) fullShare ((dats m hg.ok 0 c).after 3 t)
    ∗ owns (c : Thread nD τ) (ms0_4 m hg.ok t) fullShare ((dats m hg.ok 0 c).after 4 t)
    ∗ owns (c : Thread nD τ) (ms0_5 m hg.ok t) fullShare ((dats m hg.ok 0 c).after 5 t)
    ∗ owns (c : Thread nD τ) (ms0_6 m hg.ok t) fullShare ((dats m hg.ok 0 c).after 6 t)
    ∗ owns (c : Thread nD τ) (ms0_7 m hg.ok t) fullShare ((dats m hg.ok 0 c).after 7 t))

set_option maxHeartbeats 1600000 in
/-- The body's step at a used point. -/
theorem step_used (hg : Good (tbl m)) (c : Dev nD) (t : Fin (cfgM m hg.ok).N) (hu : t.val < nu (tbl m)) :
    bodyPre m hg c t ⊢ wp frame (wpE (defs₀ (F := F)) Variants.none c none) Set.univ (bodyAt0 (adm m hg.ok) t) (fun _ => bodyPost m hg c t) := by
  unfold bodyPre bodyPost bodyAt0
  simp only [before_0, before_1, before_2, before_3, before_4, before_5, before_6]
  rw [show (dats m hg.ok 0 c).owesAt () t.succ = (dats m hg.ok 0 c).owesAt () t.castSucc from rfl,
    after_0, after_1, after_2, after_3, after_4, after_5, after_6]
  rw [show (dats m hg.ok 0 c).Φ t.castSucc = phiK m hg.ok c t.val from rfl, show (dats m hg.ok 0 c).Φ t.succ = phiK m hg.ok c (t.val + 1) from rfl]
  unfold phiK
  iintro ⟨⟨⟨%d12, H12⟩, ⟨%d13, %d14, %d15, %hR, H13, H14, H15⟩, Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H11⟩⟩
  have hsrc : srcPt m hg.ok t = t := Fin.ext (by
    show blkOf (tbl m) t.val = t.val
    unfold blkOf; omega)
  have hD : ((grid0.coords t 0).val = 0 ∨ eW (tbl m) (ix1 (n := 173) ⟨(grid0.coords t 0).val, coord_lt _⟩) ≠ eW (tbl m) (ix1 (n := 173) ⟨max (grid0.coords t 0).val 1 - 1, prev_lt _⟩))
      ∨ (d13 = castW (X1 m hg.ok c t) ∧ d14 = castW (X3 m hg.ok c t) ∧ d15 = castW (X5 m hg.ok c t)) := by
    by_cases h0 : t.val = 0
    · exact .inl (.inl ((coord_val t).trans h0))
    · by_cases he : eAt m t = eAt m (hO := hg.ok) ⟨t.val - 1, by omega⟩
      · have := hR ⟨t.val - 1, by omega⟩ (by show t.val = t.val - 1 + 1; omega) (by show t.val - 1 < _; omega)
        rw [X1_congr m hg c t _ he, X3_congr m hg c t _ he, X5_congr m hg c t _ he]
        exact .inr this
      · refine .inl (.inr fun h => he ?_)
        have e1 : eW (tbl m) (ix1 (n := 173) ⟨(grid0.coords t 0).val, coord_lt _⟩) = eAt m t := e_coords m t
        have e2 : eW (tbl m) (ix1 (n := 173) ⟨max (grid0.coords t 0).val 1 - 1, prev_lt _⟩) = eAt m (hO := hg.ok) ⟨t.val - 1, by omega⟩ :=
          congrArg (fun k : Fin 173 => eW (tbl m) (ix1 k)) (Fin.ext (by
            show max (grid0.coords t 0).val 1 - 1 = t.val - 1
            rw [coord_val t]; omega))
        rw [← e1, ← e2]; exact h
  have hV : (vW (tbl m) (ix1 (n := 173) ⟨(grid0.coords t 0).val, coord_lt _⟩)) = vAt m t :=
    congrArg (fun k : Fin 173 => vW (tbl m) (ix1 k)) (Fin.ext (coord_val t))
  iapply (bodyUsed (tbl m) c (grid0.coords t) (ms0_0 m hg.ok t) (hs0_0 m hg.ok t) (ms0_1 m hg.ok t) (hs0_1 m hg.ok t) (ms0_2 m hg.ok t) (hs0_2 m hg.ok t) (ms0_3 m hg.ok t) (hs0_3 m hg.ok t) (ms0_4 m hg.ok t) (hs0_4 m hg.ok t) (ms0_5 m hg.ok t) (hs0_5 m hg.ok t) (ms0_6 m hg.ok t) (hs0_6 m hg.ok t) (ms0_7 m hg.ok t) (hs0_7 m hg.ok t) scM0_0 (Memref.isWhole_whole _) scM0_1 (Memref.isWhole_whole _) scM0_2 (Memref.isWhole_whole _) scM0_3 (Memref.isWhole_whole _) (X0 m hg.ok c t) (X1 m hg.ok c t) (X2 m hg.ok c t) (X3 m hg.ok c t) (X4 m hg.ok c t) (X5 m hg.ok c t) (X6 m hg.ok c t) _ d12 d13 d14 d15 ((used_iff m hg _).2 (by rw [coord_val t]; exact hu)) (hg.v1 _) hD _)
  isplitl [H0]; · iapply (rep_of_owns (c : Thread nD τ) (ms0_0 m hg.ok t) fullShare _); iexact H0
  isplitl [H1]; · iapply (rep_of_owns (c : Thread nD τ) (ms0_1 m hg.ok t) fullShare _); iexact H1
  isplitl [H2]; · iapply (rep_of_owns (c : Thread nD τ) (ms0_2 m hg.ok t) fullShare _); iexact H2
  isplitl [H3]; · iapply (rep_of_owns (c : Thread nD τ) (ms0_3 m hg.ok t) fullShare _); iexact H3
  isplitl [H4]; · iapply (rep_of_owns (c : Thread nD τ) (ms0_4 m hg.ok t) fullShare _); iexact H4
  isplitl [H5]; · iapply (rep_of_owns (c : Thread nD τ) (ms0_5 m hg.ok t) fullShare _); iexact H5
  isplitl [H6]; · iapply (rep_of_owns (c : Thread nD τ) (ms0_6 m hg.ok t) fullShare _); iexact H6
  isplitl [HT0]; · iexact HT0
  isplitl [HT1]; · iexact HT1
  isplitl [HT2]; · iexact HT2
  isplitl [H11]; · iapply (rep_of_owns (c : Thread nD τ) (ms0_7 m hg.ok t) fullShare _); iexact H11
  isplitl [H12]; · iapply (rep_of_owns (c : Thread nD τ) scM0_0 fullShare _); iexact H12
  isplitl [H13]; · iapply (rep_of_owns (c : Thread nD τ) scM0_1 fullShare _); iexact H13
  isplitl [H14]; · iapply (rep_of_owns (c : Thread nD τ) scM0_2 fullShare _); iexact H14
  isplitl [H15]; · iapply (rep_of_owns (c : Thread nD τ) scM0_3 fullShare _); iexact H15
  iintro ⟨H0, H1, H2, H3, H4, H5, H6, HT0, HT1, HT2, H11, ⟨%d12', H12⟩, H13, H14, H15⟩
  rw [after_7, hsrc]
  unfold outAt
  rw [← hV]
  isplitl [H12 H13 H14 H15 Hg HT0 HT1 HT2]
  · isplitl [H12]
    · iexists _; iapply (owns_of_rep (c : Thread nD τ) scM0_0 fullShare _); iexact H12
    isplitl [H13 H14 H15]
    · iexists (castW (X1 m hg.ok c t)), (castW (X3 m hg.ok c t)), (castW (X5 m hg.ok c t))
      isplitl []; · ipureintro; exact (fun t2 h2 _ => by obtain rfl : t2 = t := Fin.ext (by omega); exact ⟨rfl, rfl, rfl⟩)
      isplitl [H13]; · iapply (owns_of_rep (c : Thread nD τ) scM0_1 fullShare _); iexact H13
      isplitl [H14]; · iapply (owns_of_rep (c : Thread nD τ) scM0_2 fullShare _); iexact H14
      iapply (owns_of_rep (c : Thread nD τ) scM0_3 fullShare _); iexact H15
    isplitl [Hg]; · iexact Hg
    isplitl [HT0]; · iexact HT0
    isplitl [HT1]; · iexact HT1
    iexact HT2
  isplitl [Ho]; · iexact Ho
  isplitl [H0]; · iapply (owns_of_rep (c : Thread nD τ) (ms0_0 m hg.ok t) fullShare _); iexact H0
  isplitl [H1]; · iapply (owns_of_rep (c : Thread nD τ) (ms0_1 m hg.ok t) fullShare _); iexact H1
  isplitl [H2]; · iapply (owns_of_rep (c : Thread nD τ) (ms0_2 m hg.ok t) fullShare _); iexact H2
  isplitl [H3]; · iapply (owns_of_rep (c : Thread nD τ) (ms0_3 m hg.ok t) fullShare _); iexact H3
  isplitl [H4]; · iapply (owns_of_rep (c : Thread nD τ) (ms0_4 m hg.ok t) fullShare _); iexact H4
  isplitl [H5]; · iapply (owns_of_rep (c : Thread nD τ) (ms0_5 m hg.ok t) fullShare _); iexact H5
  isplitl [H6]; · iapply (owns_of_rep (c : Thread nD τ) (ms0_6 m hg.ok t) fullShare _); iexact H6
  iapply (owns_of_rep (c : Thread nD τ) (ms0_7 m hg.ok t) fullShare _); iexact H11

set_option maxHeartbeats 1600000 in
/-- The body's step at an unused point. -/
theorem step_unused (hg : Good (tbl m)) (c : Dev nD) (t : Fin (cfgM m hg.ok).N) (hu : ¬ t.val < nu (tbl m)) :
    bodyPre m hg c t ⊢ wp frame (wpE (defs₀ (F := F)) Variants.none c none) Set.univ (bodyAt0 (adm m hg.ok) t) (fun _ => bodyPost m hg c t) := by
  unfold bodyPre bodyPost bodyAt0
  simp only [before_0, before_1, before_2, before_3, before_4, before_5, before_6, before_unused m hg c t hu]
  rw [show (dats m hg.ok 0 c).owesAt () t.succ = (dats m hg.ok 0 c).owesAt () t.castSucc from rfl,
    after_0, after_1, after_2, after_3, after_4, after_5, after_6]
  rw [show (dats m hg.ok 0 c).Φ t.castSucc = phiK m hg.ok c t.val from rfl, show (dats m hg.ok 0 c).Φ t.succ = phiK m hg.ok c (t.val + 1) from rfl]
  unfold phiK
  iintro ⟨⟨⟨%d12, H12⟩, ⟨%d13, %d14, %d15, %hR, H13, H14, H15⟩, Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H11⟩⟩

  iapply (bodyIdle (tbl m) c (grid0.coords t) (ms0_0 m hg.ok t) (hs0_0 m hg.ok t) (ms0_1 m hg.ok t) (hs0_1 m hg.ok t) (ms0_2 m hg.ok t) (hs0_2 m hg.ok t) (ms0_3 m hg.ok t) (hs0_3 m hg.ok t) (ms0_4 m hg.ok t) (hs0_4 m hg.ok t) (ms0_5 m hg.ok t) (hs0_5 m hg.ok t) (ms0_6 m hg.ok t) (hs0_6 m hg.ok t) (ms0_7 m hg.ok t) (hs0_7 m hg.ok t) scM0_0 (Memref.isWhole_whole _) scM0_1 (Memref.isWhole_whole _) scM0_2 (Memref.isWhole_whole _) scM0_3 (Memref.isWhole_whole _) (X0 m hg.ok c t) (X1 m hg.ok c t) (X2 m hg.ok c t) (X3 m hg.ok c t) (X4 m hg.ok c t) (X5 m hg.ok c t) (X6 m hg.ok c t) _ d12 d13 d14 d15 (fun h => hu (by rw [used_iff m hg, coord_val t] at h; exact h)) _)
  isplitl [H0]; · iapply (rep_of_owns (c : Thread nD τ) (ms0_0 m hg.ok t) fullShare _); iexact H0
  isplitl [H1]; · iapply (rep_of_owns (c : Thread nD τ) (ms0_1 m hg.ok t) fullShare _); iexact H1
  isplitl [H2]; · iapply (rep_of_owns (c : Thread nD τ) (ms0_2 m hg.ok t) fullShare _); iexact H2
  isplitl [H3]; · iapply (rep_of_owns (c : Thread nD τ) (ms0_3 m hg.ok t) fullShare _); iexact H3
  isplitl [H4]; · iapply (rep_of_owns (c : Thread nD τ) (ms0_4 m hg.ok t) fullShare _); iexact H4
  isplitl [H5]; · iapply (rep_of_owns (c : Thread nD τ) (ms0_5 m hg.ok t) fullShare _); iexact H5
  isplitl [H6]; · iapply (rep_of_owns (c : Thread nD τ) (ms0_6 m hg.ok t) fullShare _); iexact H6
  isplitl [HT0]; · iexact HT0
  isplitl [HT1]; · iexact HT1
  isplitl [HT2]; · iexact HT2
  isplitl [H11]; · iapply (rep_of_owns (c : Thread nD τ) (ms0_7 m hg.ok t) fullShare _); iexact H11
  isplitl [H12]; · iapply (rep_of_owns (c : Thread nD τ) scM0_0 fullShare _); iexact H12
  isplitl [H13]; · iapply (rep_of_owns (c : Thread nD τ) scM0_1 fullShare _); iexact H13
  isplitl [H14]; · iapply (rep_of_owns (c : Thread nD τ) scM0_2 fullShare _); iexact H14
  isplitl [H15]; · iapply (rep_of_owns (c : Thread nD τ) scM0_3 fullShare _); iexact H15
  iintro ⟨H0, H1, H2, H3, H4, H5, H6, HT0, HT1, HT2, H11, H12, H13, H14, H15⟩
  isplitl [H12 H13 H14 H15 Hg HT0 HT1 HT2]
  · isplitl [H12]
    · iexists _; iapply (owns_of_rep (c : Thread nD τ) scM0_0 fullShare _); iexact H12
    isplitl [H13 H14 H15]
    · iexists d13, d14, d15
      isplitl []; · ipureintro; exact (fun t2 h2 h3 => absurd h3 (by omega))
      isplitl [H13]; · iapply (owns_of_rep (c : Thread nD τ) scM0_1 fullShare _); iexact H13
      isplitl [H14]; · iapply (owns_of_rep (c : Thread nD τ) scM0_2 fullShare _); iexact H14
      iapply (owns_of_rep (c : Thread nD τ) scM0_3 fullShare _); iexact H15
    isplitl [Hg]; · iexact Hg
    isplitl [HT0]; · iexact HT0
    isplitl [HT1]; · iexact HT1
    iexact HT2
  isplitl [Ho]; · iexact Ho
  isplitl [H0]; · iapply (owns_of_rep (c : Thread nD τ) (ms0_0 m hg.ok t) fullShare _); iexact H0
  isplitl [H1]; · iapply (owns_of_rep (c : Thread nD τ) (ms0_1 m hg.ok t) fullShare _); iexact H1
  isplitl [H2]; · iapply (owns_of_rep (c : Thread nD τ) (ms0_2 m hg.ok t) fullShare _); iexact H2
  isplitl [H3]; · iapply (owns_of_rep (c : Thread nD τ) (ms0_3 m hg.ok t) fullShare _); iexact H3
  isplitl [H4]; · iapply (owns_of_rep (c : Thread nD τ) (ms0_4 m hg.ok t) fullShare _); iexact H4
  isplitl [H5]; · iapply (owns_of_rep (c : Thread nD τ) (ms0_5 m hg.ok t) fullShare _); iexact H5
  isplitl [H6]; · iapply (owns_of_rep (c : Thread nD τ) (ms0_6 m hg.ok t) fullShare _); iexact H6
  iapply (owns_of_rep (c : Thread nD τ) (ms0_7 m hg.ok t) fullShare _); iexact H11

end Cert.KernelIdeal.Exp

end
-- ==== Proof.KI.Run.lean ====
/- The run of the whole program: every execution ends, with the result's buffer assembled from the computed blocks and the
   arguments unchanged. -/
module

public import proofs.«01_k».proof.Proof.KI.Dats
public import Idealize.ShloMosaic.Lib.VecWindow
public import Idealize.ShloMosaic.Lib.ValueLayout
public import Idealize.ShloMosaic.Lib.Pointwise.ElementwiseCore

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.VecWindow
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 1600000 in
/-- The body's step, at every point, as the pipeline's theorem asks for it. -/
theorem body_obligation (hg : Good (tbl m)) (c : Dev nD) : BodyObligation (dats (F := F) m hg.ok 0 c) (defs₀ (F := F)) Variants.none () Set.univ := fun t => by
  rw [bigSep_W0, bigSep_W0, defs₀_row m hg.ok]
  by_cases hu : t.val < nu (tbl m)
  · refine triple_restated (step_used m hg c t hu) rfl .rfl fun _ => ?_
    have hi : idle0 (tbl m) 7 ((pcfg0 (F := F).gridAt (tbl m)).coords t) = false := idle_used m hg t hu
    simp only [hi]
    exact BIBase.Entails.rfl (P := bodyPost m hg c t)
  · refine triple_restated (step_unused m hg c t hu) rfl .rfl fun _ => ?_
    have hi : idle0 (tbl m) 7 ((pcfg0 (F := F).gridAt (tbl m)).coords t) = true := idle_unused m hg t hu
    simp only [hi]
    split
    · unfold bodyPost
      iintro ⟨HΦ, Ho, H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists ((dats m hg.ok 0 c).after 7 t)
      rw [before_unused m hg c t hu]
      iexact H7
    · exact BIBase.Entails.rfl (P := bodyPost m hg c t)

theorem phi_in (hO : Ok m) (c : Dev nD) : (iprop(Pipeline.ΦA spec0 c ∗ Pipeline.ΦT pre0 (tbl m) c) : sProp 𝕄) ⊢ phiK m hO c 0 := by
  rw [PhiA0_eq, PhiT0_eq]
  unfold phiK
  iintro ⟨⟨⟨H0, ⟨%d1, H1⟩, ⟨%d2, H2⟩, ⟨%d3, H3⟩⟩, Hg⟩, HT0, HT1, HT2⟩
  isplitl [H0]; · iexact H0
  isplitl [H1 H2 H3]
  · iexists d1, d2, d3
    isplitl []; · ipureintro; exact (fun t h _ => absurd h (by omega))
    isplitl [H1]; · iexact H1
    isplitl [H2]; · iexact H2
    iexact H3
  isplitl [Hg]; · iexact Hg
  isplitl [HT0]; · iexact HT0
  isplitl [HT1]; · iexact HT1
  iexact HT2

theorem phi_out (hO : Ok m) (c : Dev nD) (k : ℕ) : phiK m hO c k ⊢ (Pipeline.ΦA spec0 c : sProp 𝕄) := by
  rw [PhiA0_eq]
  unfold phiK
  iintro ⟨H0, ⟨%d1, %d2, %d3, %hR, H1, H2, H3⟩, Hg, HT0, HT1, HT2⟩
  isplitl [H0 H1 H2 H3]
  · isplitl [H0]; · iexact H0
    isplitl [H1]; · iexists d1; iexact H1
    isplitl [H2]; · iexists d2; iexact H2
    iexists d3; iexact H3
  iexact Hg

set_option backward.isDefEq.respectTransparency.types false in
/-- From any launch memory with admissible tables and zero counters every execution ends; the arrays then hold what the write-backs
    left, every other buffer what it held when the grid started, and every counter is zero. -/
theorem run_main (hg : Good (tbl m)) : θ_run defs (onTc (τ := τ) (main (F := F))) (s₀ m ρ)
    (fun r => Pipeline.FramePost (Pipeline.pin pcfgs fun _ => adm m hg.ok) (dats m hg.ok) 0 (V m) r ∧ r.2.sem = fun _ => 0) :=
  Pipeline.θ_run_frameP_track (Q' := _) pcfgs (fun _ => adm m hg.ok) (dats m hg.ok) (0 : Fin 1) launch0 defs₀ Variants.none m ρ main
    (hbody := fun c => (body_obligation m hg c).loose) (hshare := fun c => (dats m hg.ok 0 c).share_full fun _ => rfl)
    (howed := fun _ _ => rfl) (V := V m) (hmain := hmain m Variants.none) (hA := A_eq m hg.ok) (hpf := V_pre m)
    (hin := fun c => phi_in m hg.ok c) (hout := fun c => phi_out m hg.ok c _)

/-- The result's buffer after the run. -/
def result (hg : Good (tbl m)) (c : Dev nD) : Buf (Elt F) ((c : Thread nD τ).loc main_v0) := (dats m hg.ok 0 c).arrAt 7 (cfgM m hg.ok).N

/-- Every execution ends with the result's buffer at `result`, the arguments unchanged and every counter at zero. -/
theorem run_result (hg : Good (tbl m)) : θ_run defs (onTc (τ := τ) (main (F := F))) ⟨m, fun _ => 0, ρ⟩ (fun r => (∀ c : Dev nD,
      r.2.mem ((c.tc : Thread nD τ).loc main_v0) = result m hg c ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 7,
      ((h.1 c).2 main_arg0 (by decide : main_arg0 ∈ Pipeline.restRefs sig spec0)).trans (V_of_ne m c (by decide)),
      ((h.1 c).2 main_arg1 (by decide : main_arg1 ∈ Pipeline.restRefs sig spec0)).trans (V_of_ne m c (by decide)),
      ((h.1 c).2 main_arg2 (by decide : main_arg2 ∈ Pipeline.restRefs sig spec0)).trans (V_of_ne m c (by decide)),
      ((h.1 c).1 0).trans (((dats m hg.ok 0 c).arrAt_in (w := 0) rfl _).trans ((A_eq m hg.ok c 0).trans (V_of_ne m c (b := main_arg3) (by decide)))),
      ((h.1 c).1 1).trans (((dats m hg.ok 0 c).arrAt_in (w := 1) rfl _).trans ((A_eq m hg.ok c 1).trans (V_of_ne m c (b := main_arg4) (by decide)))),
      ((h.1 c).1 2).trans (((dats m hg.ok 0 c).arrAt_in (w := 2) rfl _).trans ((A_eq m hg.ok c 2).trans (V_of_ne m c (b := main_arg5) (by decide)))),
      ((h.1 c).1 3).trans (((dats m hg.ok 0 c).arrAt_in (w := 3) rfl _).trans ((A_eq m hg.ok c 3).trans (V_of_ne m c (b := main_arg6) (by decide)))),
      ((h.1 c).1 4).trans (((dats m hg.ok 0 c).arrAt_in (w := 4) rfl _).trans ((A_eq m hg.ok c 4).trans (V_of_ne m c (b := main_arg7) (by decide)))),
      ((h.1 c).1 5).trans (((dats m hg.ok 0 c).arrAt_in (w := 5) rfl _).trans ((A_eq m hg.ok c 5).trans (V_of_ne m c (b := main_arg8) (by decide)))),
      ((h.1 c).1 6).trans (((dats m hg.ok 0 c).arrAt_in (w := 6) rfl _).trans ((A_eq m hg.ok c 6).trans (V_of_ne m c (b := main_arg9) (by decide))))⟩, h.2⟩) (run_main m ρ hg)

/-- Every execution ends with the arguments unchanged and every counter at zero. -/
theorem frame (hg : Good (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_result m ρ hg)

end Cert.KernelIdeal.Exp

end
-- ==== Proof.Tables.lean ====
/- What the precondition says of the three tables, word by word. -/
module

public import proofs.«01_k».proof.Pre_tables
public import proofs.«01_k».proof.Proof.Gen.Pre_tables
public import Idealize.ShloMosaic.Lib.ReduceAll
public import Idealize.ShloMosaic.Lib.WordCmp

@[expose] public section

set_option maxRecDepth 16384

noncomputable section

namespace Cert.Exp

open Idealize.ShloMosaic Cert.Pre_tables Cert.Pre_tables.Gen

variable {F : FTy → Type} [FloatOps F]

/-- Where the precondition holds, every expert is between 0 and 31, at least one block is used, and no block has more than 1024
    valid rows. -/
theorem of_pre [Cert.Pre_tables.Facts] (a0 : IVec S173 32) (a1 : IVec S1 32) (a2 : IVec S173 32) (a3 : FVec F S44288x4x1024 .bf16)
    (a4 : FVec F S32x1024x1024 .f32) (a5 : FVec F S32x1x1024 .f32) (a6 : FVec F S32x1024x1024 .f32) (a7 : FVec F S32x1x1024 .f32)
    (a8 : FVec F S32x1024x1024 .f32) (a9 : FVec F S32x1x1024 .f32)
    (h : Cert.Pre_tables.fn (F := F) a0 a1 a2 a3 a4 a5 a6 a7 a8 a9 = (fun _ => 1#1)) :
    (∀ t, 0 ≤ (a0 t).toInt) ∧ (∀ t, (a0 t).toInt < 32) ∧ (∀ t, 1 ≤ (a1 t).toInt) ∧ (∀ t, (a2 t).toInt ≤ 1024) := by
  have h0 := congrFun h (Shape.Idx.first (by decide))
  unfold Cert.Pre_tables.fn at h0
  dsimp only at h0
  obtain ⟨h1, h4⟩ := IntOp.andi_eq_one.1 h0
  obtain ⟨h2, h3⟩ := IntOp.andi_eq_one.1 h1
  have e0 := fun t => IntOp.andi_eq_one.1 (Host.reduce_andi_all _ _ _ _ _ h2 t)
  have e1 := fun t => Host.reduce_andi_all _ _ _ _ _ h3 t
  have e2 := fun t => Host.reduce_andi_all _ _ _ _ _ h4 t
  exact ⟨fun t => IntOp.cmpi_sge.1 (e0 t).1, fun t => IntOp.cmpi_slt.1 (e0 t).2, fun t => IntOp.cmpi_sge.1 (e1 t), fun t => IntOp.cmpi_sle.1 (e2 t)⟩

end Cert.Exp

end
-- ==== Proof.Val.Mlp.lean ====
/- One row through one expert: the function that both programs compute, over the extended reals. -/
module

public import Idealize.ShloMosaic.PureOps.Ideal
public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pipeline.Value
public import Idealize.ShloMosaic.Lib.Pointwise.ElementwiseCore
public import Idealize.ShloMosaic.Lib.Pointwise.Reshape

@[expose] public section

noncomputable section

namespace Cert.Exp

open Idealize.ShloMosaic hiding ix2 ix3
open Idealize.ShloMosaic.ValueIdx
open scoped BigOperators

/-- The clipped and gated unit: the gate capped at 7, times its logistic at slope 1.702, times one more than the up value clipped
    to [-7, 7]. The three literals are the rationals that their words are. -/
def gated (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + Ideal.ofBits .f32 0x3F800000#32)

/-- A hidden value of a row: the gated unit of its products with a gate column and an up column, each with its bias. -/
def hidden (x wg wu : Fin 1024 → EReal) (bg bu : EReal) : EReal := gated (∑ k, x k * wg k + bg) (∑ k, x k * wu k + bu)

/-- Equal rows, columns and biases give equal hidden values. -/
theorem hidden_congr {x x' wg wg' wu wu' : Fin 1024 → EReal} {bg bg' bu bu' : EReal} (hx : ∀ k, x k = x' k) (hg : ∀ k, wg k = wg' k) (hu : ∀ k, wu k = wu' k)
    (hbg : bg = bg') (hbu : bu = bu') : hidden x wg wu bg bu = hidden x' wg' wu' bg' bu' := by
  rw [funext hx, funext hg, funext hu, hbg, hbu]

/-- An entry of a row's result: its hidden values times a column of the last matrix, with its bias. -/
def mlp (x : Fin 1024 → EReal) (wg wu wd : Fin 1024 → Fin 1024 → EReal) (bg bu bd : Fin 1024 → EReal) (d : Fin 1024) : EReal :=
  ∑ f, hidden x (fun k => wg k f) (fun k => wu k f) (bg f) (bu f) * wd f d + bd d

/-- A bias row spread over `R` rows, read at an entry. -/
theorem bias_apply {R N : ℕ} (b : (⟨3, ![1, 1, N]⟩ : Shape).Idx → EReal) (h : (⟨3, ![1, 1, N]⟩ : Shape).ShapeCasts ⟨2, ![1, N]⟩)
    (h' : (⟨2, ![1, N]⟩ : Shape).Broadcasts ⟨2, ![R, N]⟩) (r : Fin R) (f : Fin N) :
    broadcastTo (⟨2, ![R, N]⟩ : Shape) (shapeCast (⟨2, ![1, N]⟩ : Shape) b h) h' (ix2 r f) = b (ix3 0 0 f) := by
  rw [broadcastTo_1b_ab_apply, shapeCast_1ab_ab_apply]

/-- The gated unit as the vector operations spell it, read at an entry. -/
theorem gated_apply {s : Shape} (a b : FVec Ideal s .f32) (hb : FTy.bits .bf16 < FTy.bits .f32) (i : s.Idx) :
    truncf .bf16 (mulf (mulf (minimumf a (broadcast s (Scalar.ofBits (F := Ideal) .f32 0x40E00000#32)))
        (logistic (mulf (broadcast s (Scalar.ofBits (F := Ideal) .f32 0x3FD9DB23#32)) (minimumf a (broadcast s (Scalar.ofBits (F := Ideal) .f32 0x40E00000#32))))))
        (addf (minimumf (broadcast s (Scalar.ofBits (F := Ideal) .f32 0x40E00000#32)) (maximumf (broadcast s (Scalar.ofBits (F := Ideal) .f32 0xC0E00000#32)) b))
          (broadcast s (Scalar.ofBits (F := Ideal) .f32 0x3F800000#32)))) hb i
      = gated (a i) (b i) := rfl

/-- A product of `R` rows with a matrix, plus a bias row, read at an entry. -/
theorem affine_apply {R N : ℕ} (x : FVec Ideal ⟨2, ![R, 1024]⟩ .bf16) (w : FVec Ideal ⟨2, ![1024, N]⟩ .bf16) (b : FVec Ideal ⟨3, ![1, 1, N]⟩ .f32)
    (h : (⟨3, ![1, 1, N]⟩ : Shape).ShapeCasts ⟨2, ![1, N]⟩) (h' : (⟨2, ![1, N]⟩ : Shape).Broadcasts ⟨2, ![R, N]⟩) (r : Fin R) (f : Fin N) :
    addf (F := Ideal) (φ := .f32) (matmul (F := Ideal) (DotDims.plain R 1024 N) none x w (constant (⟨2, ![R, N]⟩ : Shape) .f32 0x00000000#32))
        (broadcastTo (⟨2, ![R, N]⟩ : Shape) (shapeCast (⟨2, ![1, N]⟩ : Shape) b h) h') (ix2 r f)
      = ∑ k, x (ix2 r k) * w (ix2 k f) + b (ix3 0 0 f) := by
  rw [addf_apply, bias_apply]
  simp only [matmul]
  rw [Ideal.matmul_plain_apply, constant_apply, Ideal.ofBits_zero_f32, zero_add]

/-- Rows in groups of four laid out one after another: row `r` is sub-row `r mod 4` of group `r / 4`. -/
theorem flat_apply {α : Type} {G R : ℕ} (x : (⟨3, ![G, 4, 1024]⟩ : Shape).Idx → α) (h : (⟨3, ![G, 4, 1024]⟩ : Shape).ShapeCasts ⟨2, ![R, 1024]⟩)
    (r : Fin R) (k : Fin 1024) (g : Fin G) (s : Fin 4) (hr : r.val = 4 * g.val + s.val) :
    shapeCast (⟨2, ![R, 1024]⟩ : Shape) x h (ix2 r k) = x (ix3 g s k) := by
  refine shapeCast_apply x h _ _ ?_
  rw [rowMajor_val3 _ 4096 1024 rfl rfl, rowMajor_val2 _ 1024 rfl]
  show g.val * 4096 + s.val * 1024 + k.val = r.val * 1024 + k.val
  omega

/-- The same layout the other way. -/
theorem unflat_apply {α : Type} {G R : ℕ} (x : (⟨2, ![R, 1024]⟩ : Shape).Idx → α) (h : (⟨2, ![R, 1024]⟩ : Shape).ShapeCasts ⟨3, ![G, 4, 1024]⟩)
    (r : Fin R) (k : Fin 1024) (g : Fin G) (s : Fin 4) (hr : r.val = 4 * g.val + s.val) :
    shapeCast (⟨3, ![G, 4, 1024]⟩ : Shape) x h (ix3 g s k) = x (ix2 r k) := by
  refine shapeCast_apply x h _ _ ?_
  rw [rowMajor_val3 _ 4096 1024 rfl rfl, rowMajor_val2 _ 1024 rfl]
  show r.val * 1024 + k.val = g.val * 4096 + s.val * 1024 + k.val
  omega

end Cert.Exp

end
-- ==== Proof.Val.Block.lean ====
/- What one grid point computes, over the extended reals: each row it computes is the row's feed-forward through the block's expert. -/
module

public import proofs.«01_k».proof.Proof.KI.Point
public import proofs.«01_k».proof.Proof.Val.Mlp

@[expose] public section

set_option maxRecDepth 16384

noncomputable section

namespace Cert.KernelIdeal.Exp

open Cert.KernelIdeal Cert.KernelIdeal.Gen
open Idealize.ShloMosaic hiding ix2 ix3
open Idealize.ShloMosaic.ValueIdx Idealize.ShloMosaic.VecWindow
open Cert.Exp (gated hidden_congr hidden mlp gated_apply affine_apply flat_apply unflat_apply)
open scoped BigOperators

/-- The columns of a block's rounded matrix, over the extended reals: the matrix itself. -/
theorem castW_apply (x : Vec Ideal S1x1024x1024 .f32) (k f : Fin 1024) : castW (F := Ideal) x (ix2 k f) = x (ix3 0 k f) := rfl

theorem lft_apply (w : Vec Ideal S1024x1024 .bf16) (k : Fin 1024) (f : Fin 512) : lft (F := Ideal) w (ix2 k f) = w (ix2 k ⟨f.val, by omega⟩) := by
  refine congrArg w ?_
  funext a
  match a with
  | ⟨0, _⟩ => exact Fin.ext (by show 0 + 1 * k.val = k.val; omega)
  | ⟨1, _⟩ => exact Fin.ext (by show 0 + 1 * f.val = f.val; omega)
theorem rgt_apply (w : Vec Ideal S1024x1024 .bf16) (k : Fin 1024) (f : Fin 512) : rgt (F := Ideal) w (ix2 k f) = w (ix2 k ⟨512 + f.val, by omega⟩) := by
  refine congrArg w ?_
  funext a
  match a with
  | ⟨0, _⟩ => exact Fin.ext (by show 0 + 1 * k.val = k.val; omega)
  | ⟨1, _⟩ => exact Fin.ext (by show 512 + 1 * f.val = 512 + f.val; omega)
theorem lftB_apply (b : Vec Ideal S1x1x1024 .f32) (f : Fin 512) : lftB (F := Ideal) b (ix3 0 0 f) = b (ix3 0 0 ⟨f.val, by omega⟩) := by
  refine congrArg b ?_
  funext a
  match a with
  | ⟨0, _⟩ => rfl
  | ⟨1, _⟩ => rfl
  | ⟨2, _⟩ => exact Fin.ext (by show 0 + 1 * f.val = f.val; omega)
theorem rgtB_apply (b : Vec Ideal S1x1x1024 .f32) (f : Fin 512) : rgtB (F := Ideal) b (ix3 0 0 f) = b (ix3 0 0 ⟨512 + f.val, by omega⟩) := by
  refine congrArg b ?_
  funext a
  match a with
  | ⟨0, _⟩ => rfl
  | ⟨1, _⟩ => rfl
  | ⟨2, _⟩ => exact Fin.ext (by show 512 + 1 * f.val = 512 + f.val; omega)

/-- The first groups of a row block, read at a row. -/
theorem rows_apply {G : ℕ} (x : Vec Ideal S256x4x1024 .bf16) (inb : ∀ a, (![0, 0, 0] : Fin 3 → ℕ) a + (![G, 4, 1024] : Fin 3 → ℕ) a ≤ S256x4x1024.size a)
    (g : Fin G) (hg : g.val < 256) (s : Fin 4) (k : Fin 1024) :
    window (s := S256x4x1024) x ![0, 0, 0] ![G, 4, 1024] inb (ix3 g s k) = x (ix3 ⟨g.val, hg⟩ s k) := by
  refine congrArg x ?_
  funext a
  match a with
  | ⟨0, _⟩ => exact Fin.ext (by show 0 + 1 * g.val = g.val; omega)
  | ⟨1, _⟩ => exact Fin.ext (by show 0 + 1 * s.val = s.val; omega)
  | ⟨2, _⟩ => exact Fin.ext (by show 0 + 1 * k.val = k.val; omega)

/-- Two halves of hidden values side by side, each read by its own columns of the same matrices, are the hidden values. -/
theorem cols_apply {R : ℕ} (wl wr : (⟨2, ![R, 512]⟩ : Shape).Idx → Elt Ideal .bf16) (x : Fin 1024 → EReal) (x1 x3 : Vec Ideal S1x1024x1024 .f32)
    (x2 x4 : Vec Ideal S1x1x1024 .f32) (r : Fin R)
    (hl : ∀ f : Fin 512, wl (ix2 r f) = hidden x (fun k => lft (castW x1) (ix2 k f)) (fun k => lft (castW x3) (ix2 k f)) (lftB x2 (ix3 0 0 f)) (lftB x4 (ix3 0 0 f)))
    (hr : ∀ f : Fin 512, wr (ix2 r f) = hidden x (fun k => rgt (castW x1) (ix2 k f)) (fun k => rgt (castW x3) (ix2 k f)) (rgtB x2 (ix3 0 0 f)) (rgtB x4 (ix3 0 0 f)))
    (f : Fin 1024) :
    cols (F := Ideal) wl wr (ix2 r f) = hidden x (fun k => x1 (ix3 0 k f)) (fun k => x3 (ix3 0 k f)) (x2 (ix3 0 0 f)) (x4 (ix3 0 0 f)) := by
  by_cases h : f.val < 512
  · refine (dif_pos h).trans ((hl ⟨f.val, h⟩).trans ?_)
    exact hidden_congr (fun _ => rfl) (fun k => lft_apply (castW x1) k _) (fun k => lft_apply (castW x3) k _) (lftB_apply x2 _) (lftB_apply x4 _)
  · have hf := f.isLt
    refine (dif_neg h).trans ((hr ⟨f.val - 512, by omega⟩).trans ?_)
    have e : (⟨512 + (f.val - 512), by omega⟩ : Fin 1024) = f := Fin.ext (by show 512 + (f.val - 512) = f.val; omega)
    exact hidden_congr (fun _ => rfl) (fun k => (rgt_apply (castW x1) k _).trans (by rw [e]; rfl)) (fun k => (rgt_apply (castW x3) k _).trans (by rw [e]; rfl))
      ((rgtB_apply x2 _).trans (by rw [e])) ((rgtB_apply x4 _).trans (by rw [e]))

/-- The hidden values of the first 256 rows, read at an entry. -/
theorem hid1_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (r : Fin 256) (g : Fin 256) (s : Fin 4) (hr : r.val = 4 * g.val + s.val) (f : Fin 1024) :
    hid1 (F := Ideal) x0 x1 x2 x3 x4 (ix2 r f)
      = hidden (fun k => x0 (ix3 g s k)) (fun k => x1 (ix3 0 k f)) (fun k => x3 (ix3 0 k f)) (x2 (ix3 0 0 f)) (x4 (ix3 0 0 f)) := by
  have hg : g.val < 64 := by have := r.isLt; have := s.isLt; omega
  have ex : ∀ k : Fin 1024, k0_pay1 (F := Ideal) (rows1 x0) (ix2 r k) = x0 (ix3 g s k) := fun k =>
    (flat_apply (G := 64) (R := 256) _ _ r k ⟨g.val, hg⟩ s hr).trans (rows_apply x0 _ ⟨g.val, hg⟩ g.isLt s k)
  refine cols_apply _ _ (fun k => x0 (ix3 g s k)) x1 x3 x2 x4 r (fun f => ?_) (fun f => ?_) f
  · unfold k0_pay2
    rw [shapeCast_self, gated_apply]
    refine (congrArg₂ gated (affine_apply (R := 256) (N := 512) _ _ _ _ _ r f) (affine_apply (R := 256) (N := 512) _ _ _ _ _ r f)).trans ?_
    simp only [ex]; rfl
  · unfold k0_pay4 k0_pay3
    rw [shapeCast_self, gated_apply]
    refine (congrArg₂ gated (affine_apply (R := 256) (N := 512) _ _ _ _ _ r f) (affine_apply (R := 256) (N := 512) _ _ _ _ _ r f)).trans ?_
    simp only [ex]; rfl

/-- The block computed over 256 rows, read in one of them. -/
theorem out1_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (x5 : Vec Ideal S1x1024x1024 .f32) (x6 : Vec Ideal S1x1x1024 .f32) (g : Fin 256) (s : Fin 4) (d : Fin 1024)
    (h : 4 * g.val + s.val < 256) :
    out1 (F := Ideal) x0 x1 x2 x3 x4 x5 x6 (ix3 g s d)
      = mlp (fun k => x0 (ix3 g s k)) (fun k f => x1 (ix3 0 k f)) (fun k f => x3 (ix3 0 k f)) (fun f d => x5 (ix3 0 f d))
          (fun f => x2 (ix3 0 0 f)) (fun f => x4 (ix3 0 0 f)) (fun d => x6 (ix3 0 0 d)) d := by
  have hg : g.val < 64 := by omega
  refine (dif_pos hg).trans ?_
  unfold k0_pay5
  refine (unflat_apply (G := 64) (R := 256) _ _ ⟨4 * g.val + s.val, h⟩ d ⟨g.val, hg⟩ s rfl).trans ?_
  refine (affine_apply (R := 256) (N := 1024) _ _ _ _ _ ⟨4 * g.val + s.val, h⟩ d).trans ?_
  unfold mlp
  simp only [hid1_apply x0 x1 x2 x3 x4 ⟨4 * g.val + s.val, h⟩ g s rfl, castW_apply]

/-- The hidden values of the first 512 rows, read at an entry. -/
theorem hid2_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (r : Fin 512) (g : Fin 256) (s : Fin 4) (hr : r.val = 4 * g.val + s.val) (f : Fin 1024) :
    hid2 (F := Ideal) x0 x1 x2 x3 x4 (ix2 r f)
      = hidden (fun k => x0 (ix3 g s k)) (fun k => x1 (ix3 0 k f)) (fun k => x3 (ix3 0 k f)) (x2 (ix3 0 0 f)) (x4 (ix3 0 0 f)) := by
  have hg : g.val < 128 := by have := r.isLt; have := s.isLt; omega
  have ex : ∀ k : Fin 1024, k0_pay6 (F := Ideal) (rows2 x0) (ix2 r k) = x0 (ix3 g s k) := fun k =>
    (flat_apply (G := 128) (R := 512) _ _ r k ⟨g.val, hg⟩ s hr).trans (rows_apply x0 _ ⟨g.val, hg⟩ g.isLt s k)
  refine cols_apply _ _ (fun k => x0 (ix3 g s k)) x1 x3 x2 x4 r (fun f => ?_) (fun f => ?_) f
  · unfold k0_pay7
    rw [shapeCast_self, gated_apply]
    refine (congrArg₂ gated (affine_apply (R := 512) (N := 512) _ _ _ _ _ r f) (affine_apply (R := 512) (N := 512) _ _ _ _ _ r f)).trans ?_
    simp only [ex]; rfl
  · unfold k0_pay9 k0_pay8
    rw [shapeCast_self, gated_apply]
    refine (congrArg₂ gated (affine_apply (R := 512) (N := 512) _ _ _ _ _ r f) (affine_apply (R := 512) (N := 512) _ _ _ _ _ r f)).trans ?_
    simp only [ex]; rfl

/-- The block computed over 512 rows, read in one of them. -/
theorem out2_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (x5 : Vec Ideal S1x1024x1024 .f32) (x6 : Vec Ideal S1x1x1024 .f32) (g : Fin 256) (s : Fin 4) (d : Fin 1024)
    (h : 4 * g.val + s.val < 512) :
    out2 (F := Ideal) x0 x1 x2 x3 x4 x5 x6 (ix3 g s d)
      = mlp (fun k => x0 (ix3 g s k)) (fun k f => x1 (ix3 0 k f)) (fun k f => x3 (ix3 0 k f)) (fun f d => x5 (ix3 0 f d))
          (fun f => x2 (ix3 0 0 f)) (fun f => x4 (ix3 0 0 f)) (fun d => x6 (ix3 0 0 d)) d := by
  have hg : g.val < 128 := by omega
  refine (dif_pos hg).trans ?_
  unfold k0_pay10
  refine (unflat_apply (G := 128) (R := 512) _ _ ⟨4 * g.val + s.val, h⟩ d ⟨g.val, hg⟩ s rfl).trans ?_
  refine (affine_apply (R := 512) (N := 1024) _ _ _ _ _ ⟨4 * g.val + s.val, h⟩ d).trans ?_
  unfold mlp
  simp only [hid2_apply x0 x1 x2 x3 x4 ⟨4 * g.val + s.val, h⟩ g s rfl, castW_apply]

/-- The hidden values of the first 768 rows, read at an entry. -/
theorem hid3_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (r : Fin 768) (g : Fin 256) (s : Fin 4) (hr : r.val = 4 * g.val + s.val) (f : Fin 1024) :
    hid3 (F := Ideal) x0 x1 x2 x3 x4 (ix2 r f)
      = hidden (fun k => x0 (ix3 g s k)) (fun k => x1 (ix3 0 k f)) (fun k => x3 (ix3 0 k f)) (x2 (ix3 0 0 f)) (x4 (ix3 0 0 f)) := by
  have hg : g.val < 192 := by have := r.isLt; have := s.isLt; omega
  have ex : ∀ k : Fin 1024, k0_pay11 (F := Ideal) (rows3 x0) (ix2 r k) = x0 (ix3 g s k) := fun k =>
    (flat_apply (G := 192) (R := 768) _ _ r k ⟨g.val, hg⟩ s hr).trans (rows_apply x0 _ ⟨g.val, hg⟩ g.isLt s k)
  refine cols_apply _ _ (fun k => x0 (ix3 g s k)) x1 x3 x2 x4 r (fun f => ?_) (fun f => ?_) f
  · unfold k0_pay12
    rw [shapeCast_self, gated_apply]
    refine (congrArg₂ gated (affine_apply (R := 768) (N := 512) _ _ _ _ _ r f) (affine_apply (R := 768) (N := 512) _ _ _ _ _ r f)).trans ?_
    simp only [ex]; rfl
  · unfold k0_pay14 k0_pay13
    rw [shapeCast_self, gated_apply]
    refine (congrArg₂ gated (affine_apply (R := 768) (N := 512) _ _ _ _ _ r f) (affine_apply (R := 768) (N := 512) _ _ _ _ _ r f)).trans ?_
    simp only [ex]; rfl

/-- The block computed over 768 rows, read in one of them. -/
theorem out3_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (x5 : Vec Ideal S1x1024x1024 .f32) (x6 : Vec Ideal S1x1x1024 .f32) (g : Fin 256) (s : Fin 4) (d : Fin 1024)
    (h : 4 * g.val + s.val < 768) :
    out3 (F := Ideal) x0 x1 x2 x3 x4 x5 x6 (ix3 g s d)
      = mlp (fun k => x0 (ix3 g s k)) (fun k f => x1 (ix3 0 k f)) (fun k f => x3 (ix3 0 k f)) (fun f d => x5 (ix3 0 f d))
          (fun f => x2 (ix3 0 0 f)) (fun f => x4 (ix3 0 0 f)) (fun d => x6 (ix3 0 0 d)) d := by
  have hg : g.val < 192 := by omega
  refine (dif_pos hg).trans ?_
  unfold k0_pay15
  refine (unflat_apply (G := 192) (R := 768) _ _ ⟨4 * g.val + s.val, h⟩ d ⟨g.val, hg⟩ s rfl).trans ?_
  refine (affine_apply (R := 768) (N := 1024) _ _ _ _ _ ⟨4 * g.val + s.val, h⟩ d).trans ?_
  unfold mlp
  simp only [hid3_apply x0 x1 x2 x3 x4 ⟨4 * g.val + s.val, h⟩ g s rfl, castW_apply]

/-- The hidden values of the first 1024 rows, read at an entry. -/
theorem hid4_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (r : Fin 1024) (g : Fin 256) (s : Fin 4) (hr : r.val = 4 * g.val + s.val) (f : Fin 1024) :
    hid4 (F := Ideal) x0 x1 x2 x3 x4 (ix2 r f)
      = hidden (fun k => x0 (ix3 g s k)) (fun k => x1 (ix3 0 k f)) (fun k => x3 (ix3 0 k f)) (x2 (ix3 0 0 f)) (x4 (ix3 0 0 f)) := by
  have hg : g.val < 256 := by have := r.isLt; have := s.isLt; omega
  have ex : ∀ k : Fin 1024, k0_pay16 (F := Ideal) (rows4 x0) (ix2 r k) = x0 (ix3 g s k) := fun k =>
    (flat_apply (G := 256) (R := 1024) _ _ r k ⟨g.val, hg⟩ s hr).trans (rows_apply x0 _ ⟨g.val, hg⟩ g.isLt s k)
  refine cols_apply _ _ (fun k => x0 (ix3 g s k)) x1 x3 x2 x4 r (fun f => ?_) (fun f => ?_) f
  · unfold k0_pay17
    rw [shapeCast_self, gated_apply]
    refine (congrArg₂ gated (affine_apply (R := 1024) (N := 512) _ _ _ _ _ r f) (affine_apply (R := 1024) (N := 512) _ _ _ _ _ r f)).trans ?_
    simp only [ex]; rfl
  · unfold k0_pay19 k0_pay18
    rw [shapeCast_self, gated_apply]
    refine (congrArg₂ gated (affine_apply (R := 1024) (N := 512) _ _ _ _ _ r f) (affine_apply (R := 1024) (N := 512) _ _ _ _ _ r f)).trans ?_
    simp only [ex]; rfl

/-- The block computed over 1024 rows, read in one of them. -/
theorem out4_apply (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (x5 : Vec Ideal S1x1024x1024 .f32) (x6 : Vec Ideal S1x1x1024 .f32) (g : Fin 256) (s : Fin 4) (d : Fin 1024)
    (h : 4 * g.val + s.val < 1024) :
    out4 (F := Ideal) x0 x1 x2 x3 x4 x5 x6 (ix3 g s d)
      = mlp (fun k => x0 (ix3 g s k)) (fun k f => x1 (ix3 0 k f)) (fun k f => x3 (ix3 0 k f)) (fun f d => x5 (ix3 0 f d))
          (fun f => x2 (ix3 0 0 f)) (fun f => x4 (ix3 0 0 f)) (fun d => x6 (ix3 0 0 d)) d := by
  have hg : g.val < 256 := by omega
  unfold out4
  unfold k0_pay20
  refine (unflat_apply (G := 256) (R := 1024) _ _ ⟨4 * g.val + s.val, h⟩ d ⟨g.val, hg⟩ s rfl).trans ?_
  refine (affine_apply (R := 1024) (N := 1024) _ _ _ _ _ ⟨4 * g.val + s.val, h⟩ d).trans ?_
  unfold mlp
  simp only [hid4_apply x0 x1 x2 x3 x4 ⟨4 * g.val + s.val, h⟩ g s rfl, castW_apply]

/-- The block a point computes in `l` steps of 256 rows, read in one of these rows. -/
theorem outL_apply (l : ℕ) (h1 : 1 ≤ l) (h4 : l ≤ 4) (x0 : Vec Ideal S256x4x1024 .bf16) (x1 : Vec Ideal S1x1024x1024 .f32) (x2 : Vec Ideal S1x1x1024 .f32) (x3 : Vec Ideal S1x1024x1024 .f32)
    (x4 : Vec Ideal S1x1x1024 .f32) (x5 : Vec Ideal S1x1024x1024 .f32) (x6 : Vec Ideal S1x1x1024 .f32) (g : Fin 256) (s : Fin 4) (d : Fin 1024)
    (h : 4 * g.val + s.val < 256 * l) :
    outL (F := Ideal) l x0 x1 x2 x3 x4 x5 x6 (ix3 g s d)
      = mlp (fun k => x0 (ix3 g s k)) (fun k f => x1 (ix3 0 k f)) (fun k f => x3 (ix3 0 k f)) (fun f d => x5 (ix3 0 f d))
          (fun f => x2 (ix3 0 0 f)) (fun f => x4 (ix3 0 0 f)) (fun d => x6 (ix3 0 0 d)) d := by
  unfold outL
  split
  · exact out1_apply x0 x1 x2 x3 x4 x5 x6 g s d (by omega)
  split
  · exact out2_apply x0 x1 x2 x3 x4 x5 x6 g s d (by omega)
  split
  · exact out3_apply x0 x1 x2 x3 x4 x5 x6 g s d (by omega)
  · exact out4_apply x0 x1 x2 x3 x4 x5 x6 g s d (by omega)

end Cert.KernelIdeal.Exp

end
-- ==== Proof.Val.Result.lean ====
/- The kernel's result at one entry: the row through its block's expert. -/
module

public import proofs.«01_k».proof.Proof.KI.Run
public import proofs.«01_k».proof.Proof.Val.Block

@[expose] public section

set_option maxRecDepth 16384

noncomputable section

namespace Cert.KernelIdeal.Exp

open Cert.KernelIdeal Cert.KernelIdeal.Gen Cert.Exp
open Idealize.ShloMosaic hiding ix1 ix2 ix3
open Idealize.ShloMosaic.TcCoe Idealize.SL.Sem
open Idealize.ShloMosaic.ValueIdx Idealize.ShloMosaic.VecWindow
open Idealize.ShloMosaic.Pipeline (Dat Cfg Window)

section
variable {F : FTy → Type} [FloatOps F]
variable (m : (ℓ : Loc nD τ sig) → Buf (Elt F) ℓ)

/-- The point of the grid that an entry's group lies in. -/
def ptOf (hg : Good (tbl m)) (G : Fin 44288) : Fin (cfgM m hg.ok).N := ⟨G.val / 256, lt_of_lt_of_eq (by have := G.isLt; omega : G.val / 256 < 173) N_0.symm⟩

/-- That point's number. -/
theorem ptOf_val (hg : Good (tbl m)) (G : Fin 44288) : (ptOf m hg G).val = G.val / 256 := rfl

/-- What every written entry of the result is: the entry of the block computed at its group's point. -/
def outArr (hg : Good (tbl m)) (c : Dev nD) : S44288x4x1024.Idx → Elt F .bf16 := fun i =>
  outAt m hg.ok c (ptOf m hg (i 0)) (ix3 (n0 := 256) (n1 := 4) (n2 := 1024) ⟨(i 0).val % 256, Nat.mod_lt _ (by decide)⟩ (i 1) (i 2))

/-- Where the result's block at point `t` lies: at the groups from `256 * blkOf t` on. -/
theorem emb_7 (hg : Good (tbl m)) (t : Fin (cfgM m hg.ok).N) (y : S256x4x1024.Idx) :
    ((((cfgM m hg.ok).win 7).blk t).view.emb y : S44288x4x1024.Idx)
      = ix3 (n0 := 44288) (n1 := 4) (n2 := 1024) ⟨blkOf (tbl m) t.val * 256 + (y 0).val, by
          have := blkOf_lt (pf := tbl m) t.val (pt_lt m t); have : (y 0).val < 256 := (y 0).isLt; omega⟩ (y 1) (y 2) := by
  have hx : cc0_transform_7 inb_S1_S1_0 numel1_S1 (tbl m) ((cfgM m hg.ok).grid.coords t) = ![blkOf (tbl m) t.val, 0, 0] := by
    rw [tr_out hg, coords_t]
  funext a
  match a with
  | ⟨0, _⟩ => exact Fin.ext (by
      show cc0_transform_7 inb_S1_S1_0 numel1_S1 (tbl m) ((cfgM m hg.ok).grid.coords t) 0 * 256 + 1 * (y 0).val = blkOf (tbl m) t.val * 256 + (y 0).val
      rw [hx, Nat.one_mul]; rfl)
  | ⟨1, _⟩ => exact Fin.ext (by
      show cc0_transform_7 inb_S1_S1_0 numel1_S1 (tbl m) ((cfgM m hg.ok).grid.coords t) 1 * 4 + 1 * (y 1).val = (y 1).val
      rw [hx, Nat.one_mul]; exact Nat.zero_add _)
  | ⟨2, _⟩ => exact Fin.ext (by
      show cc0_transform_7 inb_S1_S1_0 numel1_S1 (tbl m) ((cfgM m hg.ok).grid.coords t) 2 * 1024 + 1 * (y 2).val = (y 2).val
      rw [hx, Nat.one_mul]; exact Nat.zero_add _)

/-- What every point writes back is its block of the one array `outArr`. -/
theorem flushed_7 (hg : Good (tbl m)) (c : Dev nD) (t : Fin (cfgM m hg.ok).N) :
    (dats m hg.ok 0 c).flushed 7 t = (((cfgM m hg.ok).win 7).blk t).view.read (Elt F) (outArr m hg c) := by
  have hb := blkOf_lt (pf := tbl m) t.val (pt_lt m t)
  show (dats m hg.ok 0 c).after 7 t = fun y : S256x4x1024.Idx => outArr m hg c ((((cfgM m hg.ok).win 7).blk t).view.emb y : S44288x4x1024.Idx)
  rw [after_7]
  funext y
  have hy : (y 0).val < 256 := (y 0).isLt
  rw [emb_7 m hg]
  unfold outArr
  have e1 : ptOf m hg ⟨blkOf (tbl m) t.val * 256 + (y 0).val, by omega⟩ = srcPt m hg.ok t := Fin.ext ((ptOf_val m hg _).trans (by
    show (blkOf (tbl m) t.val * 256 + (y 0).val) / 256 = blkOf (tbl m) t.val
    omega))
  show _ = outAt m hg.ok c (ptOf m hg ⟨blkOf (tbl m) t.val * 256 + (y 0).val, _⟩) _
  rw [e1]
  refine congrArg (outAt m hg.ok c (srcPt m hg.ok t)) (funext fun a => ?_)
  match a with
  | ⟨0, _⟩ => exact Fin.ext (by
      show (y 0).val = (blkOf (tbl m) t.val * 256 + (y 0).val) % 256
      omega)
  | ⟨1, _⟩ => rfl
  | ⟨2, _⟩ => rfl

/-- Every used block is written back at some point. -/
theorem flush_used (hg : Good (tbl m)) (j : ℕ) (hj : j < 173) (hu : j < nu (tbl m)) :
    ∃ t : Fin (cfgM m hg.ok).N, ((cfgM m hg.ok).win 7).flush t = true ∧ blkOf (tbl m) t.val = j := by
  have hN : (cfgM m hg.ok).grid.N = 173 := N_0
  by_cases h : j + 1 < nu (tbl m) ∧ j + 1 < 173
  · refine ⟨⟨j, lt_of_lt_of_eq hj N_0.symm⟩, ?_, by unfold blkOf; show min j _ = j; omega⟩
    unfold Window.flush
    have e : ((cfgM m hg.ok).win 7).index ⟨j + 1, by omega⟩ ≠ ((cfgM m hg.ok).win 7).index ⟨j, lt_of_lt_of_eq hj N_0.symm⟩ := fun he => by
      rw [index_7 m hg, index_7 m hg] at he
      have h0 : blkOf (tbl m) (j + 1) = blkOf (tbl m) j := congrFun he 0
      unfold blkOf at h0; omega
    rw [Bool.and_eq_true, Bool.or_eq_true]
    exact ⟨rfl, .inr (decide_eq_true ⟨lt_of_lt_of_eq h.2 N_0.symm, e⟩)⟩
  · refine ⟨⟨172, lt_of_lt_of_eq (by decide) N_0.symm⟩, ?_, by unfold blkOf; show min 172 _ = j; omega⟩
    unfold Window.flush
    rw [Bool.and_eq_true, Bool.or_eq_true]
    exact ⟨rfl, .inl (decide_eq_true (by show 172 + 1 = (cfgM m hg.ok).grid.N; omega))⟩

/-- The result at group `256 j + g` of a used block `j`: the block computed at point `j`. -/
theorem result_used (hg : Good (tbl m)) (c : Dev nD) (G : Fin 44288) (s : Fin 4) (d : Fin 1024) (j : Fin 173) (g : Fin 256)
    (hG : G.val = j.val * 256 + g.val) (hu : j.val < nu (tbl m)) (t : Fin (cfgM m hg.ok).N) (ht : t.val = j.val) :
    (result m hg c : S44288x4x1024.Idx → Elt F .bf16) (ix3 G s d) = outAt m hg.ok c t (ix3 g s d) := by
  obtain ⟨t', hf, hb⟩ := flush_used m hg j.val j.isLt hu
  have hi : (ix3 G s d : S44288x4x1024.Idx) ∈ (((cfgM m hg.ok).win 7).blk t').view.set := by
    have := (((cfgM m hg.ok).win 7).blk t').view.emb_mem_set (ix3 g s d : S256x4x1024.Idx)
    rw [emb_7 m hg] at this
    have e : (ix3 G s d : S44288x4x1024.Idx) = ix3 (n0 := 44288) (n1 := 4) (n2 := 1024) ⟨blkOf (tbl m) t'.val * 256 + g.val, by
        have := blkOf_lt (pf := tbl m) t'.val (pt_lt m t'); have := g.isLt; omega⟩ s d :=
      congrArg (fun k : Fin 44288 => (ix3 k s d : S44288x4x1024.Idx)) (Fin.ext (by show G.val = blkOf (tbl m) t'.val * 256 + g.val; omega))
    rw [e]; exact this
  refine ((dats m hg.ok 0 c).arrAt_apply_of_mem 7 (outArr m hg c) (fun t _ => flushed_7 m hg c t) _ t' _ t'.isLt hf hi).trans ?_
  have hgl := g.isLt
  have e1 : ptOf m hg G = t := Fin.ext ((ptOf_val m hg G).trans (by omega))
  show outAt m hg.ok c (ptOf m hg G) _ = _
  rw [e1]
  refine congrArg (fun k : Fin 256 => outAt m hg.ok c t (ix3 k s d)) (Fin.ext ?_)
  show G.val % 256 = g.val
  omega

end

variable (m : (ℓ : Loc nD τ sig) → Buf (Elt Ideal) ℓ)

/-- A block's level is between one and four. -/
theorem lvl_bounds (v : BitVec 32) : 1 ≤ lvl v ∧ lvl v ≤ 4 := by
  unfold lvl; split_ifs <;> omega

/-- The rows that a level covers hold every valid row. -/
theorem lvl_covers (v : BitVec 32) (h : v.toInt ≤ 1024) : v.toInt ≤ 256 * (lvl v : ℤ) := by
  unfold lvl; split_ifs <;> push_cast <;> omega

/-- The kernel's result at group `256 j + g`, sub-row `s` and column `d`, where block `j` is used and the row is valid: the row
    through expert `e`, block `j`'s. -/
theorem result_apply (hg : Good (tbl m)) (c : Dev nD) (G : Fin 44288) (s : Fin 4) (d : Fin 1024) (j : Fin 173) (g : Fin 256) (e : Fin 32)
    (hG : G.val = j.val * 256 + g.val) (hu : j.val < nu (tbl m)) (hv : ((4 * g.val + s.val : ℕ) : ℤ) < (vW (tbl m) (ix1 j)).toInt)
    (hv' : (vW (tbl m) (ix1 j)).toInt ≤ 1024) (he : (eW (tbl m) (ix1 j)).toNat = e.val) :
    (result m hg c : S44288x4x1024.Idx → EReal) (ix3 G s d)
      = mlp (fun k => (m ((c.tc : Thread nD τ).loc main_arg3) : S44288x4x1024.Idx → EReal) (ix3 G s k))
        (fun k f => (m ((c.tc : Thread nD τ).loc main_arg4) : S32x1024x1024.Idx → EReal) (ix3 e k f))
        (fun k f => (m ((c.tc : Thread nD τ).loc main_arg6) : S32x1024x1024.Idx → EReal) (ix3 e k f))
        (fun k f => (m ((c.tc : Thread nD τ).loc main_arg8) : S32x1024x1024.Idx → EReal) (ix3 e k f))
        (fun f => (m ((c.tc : Thread nD τ).loc main_arg5) : S32x1x1024.Idx → EReal) (ix3 e 0 f))
        (fun f => (m ((c.tc : Thread nD τ).loc main_arg7) : S32x1x1024.Idx → EReal) (ix3 e 0 f))
        (fun f => (m ((c.tc : Thread nD τ).loc main_arg9) : S32x1x1024.Idx → EReal) (ix3 e 0 f)) d := by
  have hN : (cfgM m hg.ok).N = 173 := N_0
  let t : Fin (cfgM m hg.ok).N := ⟨j.val, lt_of_lt_of_eq j.isLt N_0.symm⟩
  rw [result_used m hg c G s d j g hG hu t rfl]
  unfold outAt
  have hvt : vAt m t = vW (tbl m) (ix1 j) := rfl
  have het : (eAt m t).toNat = e.val := he
  have hcov := lvl_covers (vAt m t) (by rw [hvt]; exact hv')
  rw [outL_apply (lvl (vAt m t)) (lvl_bounds _).1 (lvl_bounds _).2 _ _ _ _ _ _ _ g s d (by rw [hvt] at hcov ⊢; omega)]
  have hb : blkOf (tbl m) t.val = j.val := by unfold blkOf; show min j.val _ = _; omega
  have hE : ∀ p, (⟨(eAt m t).toNat, p⟩ : Fin 32) = e := fun p => Fin.ext het
  congr 1
  · funext k
    rw [X0_apply m hg]
    exact congrArg (fun q : Fin 44288 => (m ((c.tc : Thread nD τ).loc main_arg3) : S44288x4x1024.Idx → EReal) (ix3 q s k)) (Fin.ext (by
      show blkOf (tbl m) t.val * 256 + g.val = G.val
      rw [hb, hG]))
  · funext k f; rw [X1_apply m hg, hE]
  · funext k f; rw [X3_apply m hg, hE]
  · funext k f; rw [X5_apply m hg, hE]
  · funext f; rw [X2_apply m hg, hE]
  · funext f; rw [X4_apply m hg, hE]
  · funext f; rw [X6_apply m hg, hE]

end Cert.KernelIdeal.Exp

end
-- ==== Proof.Val.Ref.lean ====
/- The reference's result at one entry: the row through its block's expert. -/
module

public import proofs.«01_k».proof.Proof.Gen.ReferenceIdeal.Run
public import proofs.«01_k».proof.Proof.Val.Mlp
public import Idealize.ShloMosaic.Lib.WordCmp
public import Idealize.ShloMosaic.Lib.IdealHost

@[expose] public section

set_option maxRecDepth 16384

noncomputable section

namespace Cert.Exp

open Idealize.ShloMosaic hiding ix1 ix2 ix3
open Idealize.ShloMosaic.ValueIdx
open scoped BigOperators

/-- The reading of whole matrices out of a stack of `E` by a column of `R` row numbers: the dimension numbers. -/
abbrev bankDims (E R B C : ℕ) (wf : GatherDims.WF ⟨3, ![E, B, C]⟩ ⟨2, ![R, 1]⟩ ⟨3, ![R, B, C]⟩ [1, 2] [0] [] [0] [] 1 ![1, B, C]) :
    GatherDims ⟨3, ![E, B, C]⟩ ⟨2, ![R, 1]⟩ ⟨3, ![R, B, C]⟩ where
  offsetDims := [1, 2]
  collapsedSliceDims := [0]
  operandBatchingDims := []
  startIndicesBatchingDims := []
  startIndexMap := [0]
  indexVectorDim := 1
  sliceSizes := ![1, B, C]
  wf := wf

/-- Where the row number is one of the stack's, the matrix read is the stack's at that number. -/
theorem bank_apply {α : Type} {E R B C : ℕ} (wf : GatherDims.WF ⟨3, ![E, B, C]⟩ ⟨2, ![R, 1]⟩ ⟨3, ![R, B, C]⟩ [1, 2] [0] [] [0] [] 1 ![1, B, C])
    (x : (⟨3, ![E, B, C]⟩ : Shape).Idx → α) (idx : IVec ⟨2, ![R, 1]⟩ 32) (j : Fin R) (b : Fin B) (c : Fin C) (e : Fin E)
    (he : (idx (ix2 j (0 : Fin 1))).toInt = (e.val : ℤ)) :
    Host.gather (bankDims E R B C wf) x idx (ix3 j b c) = x (ix3 e b c) := by
  unfold Host.gather
  congr 1
  funext a
  refine Fin.ext ?_
  show (bankDims E R B C wf).start (ix3 j b c) idx a + (bankDims E R B C wf).batchCoord (ix3 j b c) a + (bankDims E R B C wf).offCoord (ix3 j b c) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (bankDims E R B C wf).startIndexMap from List.mem_singleton.mpr rfl)]
    have hsi : (bankDims E R B C wf).siIdx (ix3 j b c) ⟨List.idxOf (0 : Fin 3) (bankDims E R B C wf).startIndexMap,
        List.idxOf_lt_length_iff.2 (List.mem_singleton.mpr rfl)⟩ = ix2 j (0 : Fin 1) := by
      funext q; refine Fin.ext ?_
      match q with
      | ⟨0, _⟩ => rfl
      | ⟨1, _⟩ => rfl
    rw [hsi, he]
    have := e.isLt
    show min (e.val : ℤ).toNat (E - 1) = e.val
    rw [Int.toNat_natCast]; omega
  · unfold GatherDims.start
    rw [dif_neg (show (1 : Fin 3) ∉ (bankDims E R B C wf).startIndexMap from by simp)]
    show 0 + 0 + b.val = b.val
    omega
  · unfold GatherDims.start
    rw [dif_neg (show (2 : Fin 3) ∉ (bankDims E R B C wf).startIndexMap from by simp)]
    show 0 + 0 + c.val = c.val
    omega

/-- A stack of products `[R, M, K] × [R, K, N]`: the dimension numbers. -/
abbrev stackDims (R M K N : ℕ) (wf : DotDims.WF ⟨3, ![R, M, K]⟩ ⟨3, ![R, K, N]⟩ ⟨3, ![R, M, N]⟩ [2] [1] [1] [2] [0] [0]) :
    DotDims ⟨3, ![R, M, K]⟩ ⟨3, ![R, K, N]⟩ ⟨3, ![R, M, N]⟩ where
  lhsContracting := [2]
  rhsContracting := [1]
  lhsNonContracting := [1]
  rhsNonContracting := [2]
  lhsBatch := [0]
  rhsBatch := [0]
  wf := wf

/-- A stack of products read at an entry: the sum over the contracted coordinate. -/
theorem stack_apply {R M K N : ℕ} (wf : DotDims.WF ⟨3, ![R, M, K]⟩ ⟨3, ![R, K, N]⟩ ⟨3, ![R, M, N]⟩ [2] [1] [1] [2] [0] [0])
    (x : FVec Ideal ⟨3, ![R, M, K]⟩ .f32) (y : FVec Ideal ⟨3, ![R, K, N]⟩ .f32) (j : Fin R) (r : Fin M) (f : Fin N) :
    Host.dotGeneral (F := Ideal) (stackDims R M K N wf) none x y (ix3 j r f) = ∑ k : Fin K, x (ix3 j r k) * y (ix3 j k f) := by
  have hr : (stackDims R M K N wf).contr.rank = 1 := rfl
  have hs : (stackDims R M K N wf).contr.size ⟨0, by rw [hr]; exact Nat.one_pos⟩ = K := rfl
  simp only [Host.dotGeneral]
  rw [Ideal.dotGeneral_apply, ← Equiv.sum_comp (contrEquiv1 (stackDims R M K N wf) K hr hs).symm]
  refine Finset.sum_congr rfl fun k _ => ?_
  have hk := contrEquiv1_symm_val _ K hr hs k
  have el : (stackDims R M K N wf).lhsIdx (ix3 j r f) ((contrEquiv1 (stackDims R M K N wf) K hr hs).symm k) = ix3 j r k := by
    funext a; apply Fin.ext
    match a with
    | ⟨0, _⟩ => rfl
    | ⟨1, _⟩ => rfl
    | ⟨2, _⟩ => exact hk
  have er : (stackDims R M K N wf).rhsIdx (ix3 j r f) ((contrEquiv1 (stackDims R M K N wf) K hr hs).symm k) = ix3 j k f := by
    funext a; apply Fin.ext
    match a with
    | ⟨0, _⟩ => rfl
    | ⟨1, _⟩ => exact hk
    | ⟨2, _⟩ => rfl
  rw [el, er]

/-- Blocks of 1024 rows laid out as groups of four: the same row, counted the other way. -/
theorem groups_apply {α : Type} (x : (⟨3, ![173, 1024, 1024]⟩ : Shape).Idx → α) (h : (⟨3, ![173, 1024, 1024]⟩ : Shape).ShapeCasts ⟨3, ![44288, 4, 1024]⟩)
    (G : Fin 44288) (s : Fin 4) (d : Fin 1024) (j : Fin 173) (r : Fin 1024) (hr : G.val * 4 + s.val = j.val * 1024 + r.val) :
    shapeCast (⟨3, ![44288, 4, 1024]⟩ : Shape) x h (ix3 G s d) = x (ix3 j r d) := by
  refine shapeCast_apply x h _ _ ?_
  rw [rowMajor_val3 _ 1048576 1024 rfl rfl, rowMajor_val3 _ 4096 1024 rfl rfl]
  show j.val * 1048576 + r.val * 1024 + d.val = G.val * 4096 + s.val * 1024 + d.val
  omega

/-- The word of the literal one is the number one. -/
theorem ofBits_one : Ideal.ofBits .f32 0x3F800000#32 = 1 := by
  simp [Ideal.ofBits, Ideal.ieee]
  rw [← EReal.coe_mul]; norm_num

/-- The gated unit as the reference spells it, read at an entry. -/
theorem gatedRef_apply {S : Shape} (hb : (⟨0, ![]⟩ : Shape).BroadcastsInDim S ![]) (a b : FVec Ideal S .f32) (i : S.Idx) :
    mulf (mulf (minimumf a (broadcastInDim S ![] hb (constant ⟨0, ![]⟩ .f32 0x40E00000#32)))
        (Host.divf (broadcastInDim S ![] hb (constant ⟨0, ![]⟩ .f32 0x3F800000#32))
          (addf (broadcastInDim S ![] hb (constant ⟨0, ![]⟩ .f32 0x3F800000#32))
            (Host.exp (Host.negf (mulf (broadcastInDim S ![] hb (constant ⟨0, ![]⟩ .f32 0x3FD9DB23#32))
              (minimumf a (broadcastInDim S ![] hb (constant ⟨0, ![]⟩ .f32 0x40E00000#32)))))))))
        (addf (minimumf (broadcastInDim S ![] hb (id (constant ⟨0, ![]⟩ .f32 0x40E00000#32)))
            (maximumf (broadcastInDim S ![] hb (id (constant ⟨0, ![]⟩ .f32 0xC0E00000#32))) b))
          (broadcastInDim S ![] hb (constant ⟨0, ![]⟩ .f32 0x3F800000#32))) i
      = gated (a i) (b i) := by
  have h1 : ∀ z : EReal, Ideal.div (Ideal.ofBits .f32 0x3F800000#32) (Ideal.ofBits .f32 0x3F800000#32 + Ideal.exp (-z)) = Ideal.logistic z := by
    intro z; rw [ofBits_one]; rfl
  exact congrArg (fun q : EReal => min (a i) (Ideal.ofBits .f32 0x40E00000#32) * q
    * (min (Ideal.ofBits .f32 0x40E00000#32) (max (Ideal.ofBits .f32 0xC0E00000#32) (b i)) + Ideal.ofBits .f32 0x3F800000#32)) (h1 _)

section

variable (arg0 : IVec ⟨1, ![173]⟩ 32) (hb1 : (⟨0, ![]⟩ : Shape).BroadcastsInDim ⟨1, ![173]⟩ ![]) (hb2 : (⟨1, ![173]⟩ : Shape).BroadcastsInDim ⟨2, ![173, 1]⟩ ![0])

/-- The column of row numbers that the reference reads its stacks by: a number below zero counts from the end. -/
abbrev rowNo : IVec ⟨2, ![173, 1]⟩ 32 :=
  broadcastInDim ⟨2, ![173, 1]⟩ ![0] hb2 (select (cmpi .slt arg0 (broadcastInDim ⟨1, ![173]⟩ ![] hb1 (constantI ⟨0, ![]⟩ 32 0#32)))
    (addi arg0 (broadcastInDim ⟨1, ![173]⟩ ![] hb1 (constantI ⟨0, ![]⟩ 32 32#32))) arg0)

/-- A number that is not below zero is read as it stands. -/
theorem rowNo_apply (j : Fin 173) (h : 0 ≤ (arg0 (ix1 j)).toInt) : rowNo arg0 hb1 hb2 (ix2 j (0 : Fin 1)) = arg0 (ix1 j) := by
  rw [rowNo, broadcastInDim_apply _ _ _ _ (ix1 j) (fun a => by
    match a with
    | ⟨0, _⟩ => rfl), select_apply]
  have hc : ¬ (cmpi .slt arg0 (broadcastInDim ⟨1, ![173]⟩ ![] hb1 (constantI ⟨0, ![]⟩ 32 0#32)) (ix1 j) = 1#1) := fun hc => by
    have h0 := IntOp.cmpi_slt.1 hc
    rw [broadcastInDim_scalar_apply] at h0
    have h1 : (arg0 (ix1 j)).toInt < 0 := h0
    omega
  exact if_neg hc

/-- Every row of a block through one matrix of a stack, with a row of a stack of biases, read at an entry. -/
theorem affineRef_apply (wf : DotDims.WF ⟨3, ![173, 1024, 1024]⟩ ⟨3, ![173, 1024, 1024]⟩ ⟨3, ![173, 1024, 1024]⟩ [2] [1] [1] [2] [0] [0])
    (ww : GatherDims.WF ⟨3, ![32, 1024, 1024]⟩ ⟨2, ![173, 1]⟩ ⟨3, ![173, 1024, 1024]⟩ [1, 2] [0] [] [0] [] 1 ![1, 1024, 1024])
    (wb : GatherDims.WF ⟨3, ![32, 1, 1024]⟩ ⟨2, ![173, 1]⟩ ⟨3, ![173, 1, 1024]⟩ [1, 2] [0] [] [0] [] 1 ![1, 1, 1024])
    (hb : (⟨3, ![173, 1, 1024]⟩ : Shape).BroadcastsInDim ⟨3, ![173, 1024, 1024]⟩ ![0, 1, 2])
    (x : FVec Ideal ⟨3, ![173, 1024, 1024]⟩ .f32) (w : FVec Ideal ⟨3, ![32, 1024, 1024]⟩ .f32) (b : FVec Ideal ⟨3, ![32, 1, 1024]⟩ .f32)
    (idx : IVec ⟨2, ![173, 1]⟩ 32) (j : Fin 173) (r f : Fin 1024) (e : Fin 32) (he : (idx (ix2 j (0 : Fin 1))).toInt = (e.val : ℤ)) :
    addf (F := Ideal) (Host.dotGeneral (F := Ideal) (stackDims 173 1024 1024 1024 wf) none x (Host.gather (bankDims 32 173 1024 1024 ww) w idx))
        (broadcastInDim ⟨3, ![173, 1024, 1024]⟩ ![0, 1, 2] hb (Host.gather (bankDims 32 173 1 1024 wb) b idx)) (ix3 j r f)
      = ∑ k : Fin 1024, x (ix3 j r k) * w (ix3 e k f) + b (ix3 e 0 f) := by
  rw [addf_apply, stack_apply, broadcastInDim_apply _ _ _ _ (ix3 j (0 : Fin 1) f) (fun a => by
    match a with
    | ⟨0, _⟩ => rfl
    | ⟨1, _⟩ => rfl
    | ⟨2, _⟩ => rfl), bank_apply _ _ _ _ _ _ e he]
  exact congrArg (· + b (ix3 e 0 f)) (Finset.sum_congr rfl fun k _ => by rw [bank_apply _ _ _ _ _ _ e he])

end

section

open Cert.ReferenceIdeal Cert.ReferenceIdeal.Gen Cert.ReferenceIdeal.Value Idealize.ShloMosaic.TcCoe

/-- The reference's result at group `256 j + g`, sub-row `s` and column `d`: that row through expert `e`, where block `j`'s expert
    number is `e`. -/
theorem reference_apply (m : (ℓ : Loc nD τ sig) → Buf (Elt Ideal) ℓ) (c : Dev nD) (G : Fin 44288) (s : Fin 4) (d : Fin 1024) (j : Fin 173)
    (g : Fin 256) (e : Fin 32) (hG : G.val = j.val * 256 + g.val)
    (he : ((m ((c.tc : Thread nD τ).loc main_arg0) : S173.Idx → BitVec 32) (ix1 j)).toInt = (e.val : ℤ)) :
    (res_main_v69 m c : S44288x4x1024.Idx → EReal) (ix3 G s d)
      = mlp (fun k => (m ((c.tc : Thread nD τ).loc main_arg3) : S44288x4x1024.Idx → EReal) (ix3 G s k))
        (fun k f => (m ((c.tc : Thread nD τ).loc main_arg4) : S32x1024x1024.Idx → EReal) (ix3 e k f))
        (fun k f => (m ((c.tc : Thread nD τ).loc main_arg6) : S32x1024x1024.Idx → EReal) (ix3 e k f))
        (fun k f => (m ((c.tc : Thread nD τ).loc main_arg8) : S32x1024x1024.Idx → EReal) (ix3 e k f))
        (fun f => (m ((c.tc : Thread nD τ).loc main_arg5) : S32x1x1024.Idx → EReal) (ix3 e 0 f))
        (fun f => (m ((c.tc : Thread nD τ).loc main_arg7) : S32x1x1024.Idx → EReal) (ix3 e 0 f))
        (fun f => (m ((c.tc : Thread nD τ).loc main_arg9) : S32x1x1024.Idx → EReal) (ix3 e 0 f)) d := by
  have hr : 4 * g.val + s.val < 1024 := by have := g.isLt; have := s.isLt; omega
  have hi : (rowNo (m ((c.tc : Thread nD τ).loc main_arg0) : S173.Idx → BitVec 32) bcast_S_S173 bcast_S173_S173x1_0 (ix2 j (0 : Fin 1))).toInt = (e.val : ℤ) := by
    rw [rowNo_apply _ _ _ j (by rw [he]; exact Int.natCast_nonneg _), he]
  have hx : ∀ k : Fin 1024, shapeCast S173x1024x1024 (extf (F := Ideal) .f32 (m ((c.tc : Thread nD τ).loc main_arg3) : S44288x4x1024.Idx → EReal) bitsLt_bf16_f32)
      shapeCasts_S44288x4x1024_S173x1024x1024 (ix3 j (⟨4 * g.val + s.val, hr⟩ : Fin 1024) k)
        = (m ((c.tc : Thread nD τ).loc main_arg3) : S44288x4x1024.Idx → EReal) (ix3 G s k) := fun k => by
    rw [shapeCast_apply _ _ _ (ix3 G s k) (by
      rw [rowMajor_val3 _ 4096 1024 rfl rfl, rowMajor_val3 _ 1048576 1024 rfl rfl]
      show G.val * 4096 + s.val * 1024 + k.val = j.val * 1048576 + (4 * g.val + s.val) * 1024 + k.val
      omega)]
    rfl
  unfold res_main_v69
  refine (groups_apply _ _ G s d j (⟨4 * g.val + s.val, hr⟩ : Fin 1024) (by show G.val * 4 + s.val = j.val * 1024 + (4 * g.val + s.val); omega)).trans ?_
  change addf (F := Ideal) (φ := .f32) _ _ (ix3 j (⟨4 * g.val + s.val, hr⟩ : Fin 1024) d) = _
  refine (affineRef_apply _ _ _ _ _ _ _ _ j _ d e hi).trans ?_
  refine congrArg (· + _) (Finset.sum_congr rfl fun f _ => ?_)
  refine congrArg (· * _) ?_
  refine (gatedRef_apply _ _ _ _).trans ?_
  refine congrArg₂ gated ?_ ?_
  · refine (affineRef_apply _ _ _ _ _ _ _ _ j _ f e hi).trans ?_
    exact congrArg (· + _) (Finset.sum_congr rfl fun k _ => congrArg (· * _) (hx k))
  · refine (affineRef_apply _ _ _ _ _ _ _ _ j _ f e hi).trans ?_
    exact congrArg (· + _) (Finset.sum_congr rfl fun k _ => congrArg (· * _) (hx k))

end

end Cert.Exp

end
-- ==== Proof.Val.Mask.lean ====
/- Where the mask holds: the row's block is in use, and the row is one of the block's valid ones. -/
module

public import proofs.«01_k».proof.On_valid_rows
public import proofs.«01_k».proof.Proof.Gen.On_valid_rows
public import Idealize.ShloMosaic.Lib.ValueIdx
public import Idealize.ShloMosaic.Lib.WordCmp
public import Idealize.ShloMosaic.Lib.IdealHost
public import Idealize.ShloMosaic.Lib.ReduceAll
public import Idealize.ShloMosaic.Lib.Pipeline.Value
public import Idealize.ShloMosaic.Lib.Pointwise.Reshape

@[expose] public section

set_option maxRecDepth 16384

noncomputable section

namespace Cert.Exp

open Idealize.ShloMosaic hiding ix1 ix2 ix3
open Idealize.ShloMosaic.ValueIdx
open Cert.On_valid_rows Cert.On_valid_rows.Gen

variable {F : FTy → Type} [FloatOps F]

/-- Where the mask holds at group `256 j + g` and sub-row `s`: `j` is below the number of used blocks, and `4 g + s` is below the
    number of the block's valid rows. -/
theorem of_mask [Cert.On_valid_rows.Facts] (a0 : IVec S173 32) (a1 : IVec S1 32) (a2 : IVec S173 32) (a3 : FVec F S44288x4x1024 .bf16)
    (a4 : FVec F S32x1024x1024 .f32) (a5 : FVec F S32x1x1024 .f32) (a6 : FVec F S32x1024x1024 .f32) (a7 : FVec F S32x1x1024 .f32)
    (a8 : FVec F S32x1024x1024 .f32) (a9 : FVec F S32x1x1024 .f32) (G : Fin 44288) (s : Fin 4) (d : Fin 1024) (j : Fin 173) (g : Fin 256)
    (hG : G.val = j.val * 256 + g.val)
    (h : Cert.On_valid_rows.fn (F := F) a0 a1 a2 a3 a4 a5 a6 a7 a8 a9 (ix3 G s d) = 1#1) :
    (j.val : ℤ) < (a1 (ix1 0)).toInt ∧ ((4 * g.val + s.val : ℕ) : ℤ) < (a2 (ix1 j)).toInt := by
  unfold Cert.On_valid_rows.fn at h
  dsimp only at h
  have hr : 4 * g.val + s.val < 1024 := by have := g.isLt; have := s.isLt; omega
  rw [broadcastInDim_apply _ _ _ _ (ix3 G s (0 : Fin 1)) (fun a => by
    match a with
    | ⟨0, _⟩ => rfl
    | ⟨1, _⟩ => rfl
    | ⟨2, _⟩ => rfl)] at h
  rw [shapeCast_apply _ _ _ (ix2 j (⟨4 * g.val + s.val, hr⟩ : Fin 1024)) (by
    rw [rowMajor_val3 _ 4 1 rfl rfl, rowMajor_val2 _ 1024 rfl]
    show j.val * 1024 + (4 * g.val + s.val) = G.val * 4 + s.val * 1 + 0
    omega)] at h
  obtain ⟨h1, h2⟩ := IntOp.andi_eq_one.1 h
  rw [broadcastInDim_apply _ _ _ _ (ix2 j (0 : Fin 1)) (fun a => by
    match a with
    | ⟨0, _⟩ => rfl
    | ⟨1, _⟩ => rfl)] at h1
  have h1' := IntOp.cmpi_slt.1 h1
  have h2' := IntOp.cmpi_slt.1 h2
  rw [broadcastInDim_apply _ _ _ _ (ix1 j) (fun a => by
    match a with
    | ⟨0, _⟩ => rfl), iotaInDim_apply] at h1'
  rw [broadcastInDim_scalar_apply, shapeCast_apply _ _ _ (ix1 (0 : Fin 1)) (by rfl)] at h1'
  rw [broadcastInDim_apply _ _ _ _ (ix2 (0 : Fin 1) (⟨4 * g.val + s.val, hr⟩ : Fin 1024)) (fun a => by
    match a with
    | ⟨0, _⟩ => rfl
    | ⟨1, _⟩ => rfl), broadcastInDim_apply _ _ _ _ (ix1 (⟨4 * g.val + s.val, hr⟩ : Fin 1024)) (fun a => by
    match a with
    | ⟨0, _⟩ => rfl), iotaInDim_apply] at h2'
  rw [broadcastInDim_apply _ _ _ _ (ix2 j (0 : Fin 1)) (fun a => by
    match a with
    | ⟨0, _⟩ => rfl
    | ⟨1, _⟩ => rfl), broadcastInDim_apply _ _ _ _ (ix1 j) (fun a => by
    match a with
    | ⟨0, _⟩ => rfl)] at h2'
  have hj := j.isLt
  rw [WordCmp.toInt_ofNat_of_lt (by show j.val < 2 ^ 31; omega)] at h1'
  rw [WordCmp.toInt_ofNat_of_lt (by show 4 * g.val + s.val < 2 ^ 31; omega)] at h2'
  exact ⟨h1', h2'⟩

end Cert.Exp

end
-- ==== Proof.Proj.Block.lean ====
/- The input projection's blocks: what one point of the grid leaves in each of the three results' blocks, entry by entry. -/
module

public import proofs.«01_k».proof.Proof.Gen.Kernel2Ideal.Value
public import Idealize.ShloMosaic.PureOps.Ideal
public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pointwise.Reshape

@[expose] public section

set_option maxRecDepth 16384

noncomputable section

namespace Cert.Kernel2Ideal.Proj

open Cert.Kernel2Ideal Cert.Kernel2Ideal.Gen
open Idealize.ShloMosaic hiding ix1 ix2 ix3
open Idealize.ShloMosaic.TcCoe Idealize.SL.Sem
open Idealize.ShloMosaic.ValueIdx
open scoped BigOperators

/-- An entry of a product into a zero accumulator: the sum over the shared axis. -/
theorem prod_apply {R N : ℕ} (x : FVec Ideal ⟨2, ![R, 1024]⟩ .bf16) (w : FVec Ideal ⟨2, ![1024, N]⟩ .bf16) (r : Fin R) (f : Fin N) :
    matmul (F := Ideal) (DotDims.plain R 1024 N) none x w (constant (⟨2, ![R, N]⟩ : Shape) .f32 0x00000000#32) (ix2 r f)
      = ∑ k, x (ix2 r k) * w (ix2 k f) := by
  simp only [matmul]
  rw [Ideal.matmul_plain_apply, constant_apply, Ideal.ofBits_zero_f32, zero_add]

/-- The first result's block: the block's rows times the matrix's columns. -/
def rows3 (x0 : Vec Ideal S512x1024 .f32) (x1 : Vec Ideal S1024x3072 .bf16) : Vec Ideal S512x3072 .f32 := fun y =>
  (∑ k : Fin 1024, (x0 : S512x1024.Idx → EReal) (ix2 (y 0) k) * (x1 : S1024x3072.Idx → EReal) (ix2 k (y 1)) : EReal)

/-- The second result's block: the block's rows times the gate columns. -/
def rows4 (x0 : Vec Ideal S512x1024 .f32) (x2 : Vec Ideal S1024x128 .bf16) : Vec Ideal S512x128 .f32 := fun y =>
  (∑ k : Fin 1024, (x0 : S512x1024.Idx → EReal) (ix2 (y 0) k) * (x2 : S1024x128.Idx → EReal) (ix2 k (y 1)) : EReal)

/-- The product of the block's rows with the gate columns, as the body computes it. -/
theorem pay2_apply (x0 : Vec Ideal S512x1024 .f32) (x2 : Vec Ideal S1024x128 .bf16) (y : S512x128.Idx) :
    k0_pay2 (k0_pay4 x0) x2 y = rows4 x0 x2 y := by
  have e : y = ix2 (y 0) (y 1) := by funext a; match a with | ⟨0, _⟩ => rfl | ⟨1, _⟩ => rfl
  rw [e]
  unfold k0_pay2 k0_pay4
  rw [shapeCast_self]
  exact prod_apply (R := 512) (N := 128) (truncf .bf16 x0 bitsLt_bf16_f32) x2 (y 0) (y 1)

/-- The product of the block's rows with 512 of the matrix's columns, as the body computes it. -/
theorem pay5_apply (x0 : Vec Ideal S512x1024 .f32) (w : Vec Ideal S1024x512 .bf16) (y : S512x512.Idx) :
    k0_pay5 x0 w y = (∑ k : Fin 1024, (x0 : S512x1024.Idx → EReal) (ix2 (y 0) k) * (w : S1024x512.Idx → EReal) (ix2 k (y 1)) : EReal) := by
  have e : y = ix2 (n0 := 512) (n1 := 512) (y 0) (y 1) := by funext a; match a with | ⟨0, _⟩ => rfl | ⟨1, _⟩ => rfl
  rw [e]
  unfold k0_pay5 k0_pay4
  rw [shapeCast_self]
  exact prod_apply (R := 512) (N := 512) (truncf .bf16 x0 bitsLt_bf16_f32) w (y 0) (y 1)

/-- A strip of columns: from column `n` on, the product lands where the whole product has it. -/
theorem strip_apply (x0 : Vec Ideal S512x1024 .f32) (x1 : Vec Ideal S1024x3072 .bf16) (n : ℕ)
    (hw : ∀ a, (![0, n] : Fin 2 → ℕ) a + S1024x512.size a ≤ S1024x3072.size a) (ho : ∀ a, (![0, n] : Fin 2 → ℕ) a + S512x512.size a ≤ S512x3072.size a)
    (y : S512x512.Idx) :
    k0_pay5 (View.ld x0 r0_0) (View.ld x1 (Rect.unit (s := S1024x3072) ![0, n] S1024x512.size hw)) y
      = rows3 x0 x1 ((Rect.unit (s := S512x3072) ![0, n] S512x512.size ho).idx y) := by
  rw [pay5_apply]
  unfold rows3
  refine Finset.sum_congr rfl fun k _ => congrArg₂ (· * ·) (congrArg (x0 : S512x1024.Idx → EReal) ?_) (congrArg (x1 : S1024x3072.Idx → EReal) ?_)
  · funext a
    match a with
    | ⟨0, _⟩ => exact Fin.ext (by show 0 + 1 * (y 0).val = 0 + 1 * (y 0).val; rfl)
    | ⟨1, _⟩ => exact Fin.ext (by show 0 + 1 * k.val = k.val; omega)
  · funext a
    match a with
    | ⟨0, _⟩ => exact Fin.ext (by show 0 + 1 * k.val = k.val; omega)
    | ⟨1, _⟩ => exact Fin.ext (by show n + 1 * (y 1).val = n + 1 * (y 1).val; rfl)

/-- What the body leaves in the first result's block. -/
theorem out3_apply (x0 : Vec Ideal S512x1024 .f32) (x1 : Vec Ideal S1024x3072 .bf16) (x2 : Vec Ideal S1024x128 .bf16) (y : S512x3072.Idx) :
    out0_3 x0 x1 x2 y = rows3 x0 x1 y := by
  unfold out0_3 k0_pay11
  refine View.canon_apply_of_pieces (rows3 x0 x1) _ ?_ y (cover0_3 _ _ _ _ _ _ y)
  intro pc hpc
  rcases List.mem_cons.mp hpc with rfl | hpc
  · exact fun z => strip_apply x0 x1 2560 inb_S1024x3072_S1024x512_0_2560 inb_S512x3072_S512x512_0_2560 z
  rcases List.mem_cons.mp hpc with rfl | hpc
  · exact fun z => strip_apply x0 x1 2048 inb_S1024x3072_S1024x512_0_2048 inb_S512x3072_S512x512_0_2048 z
  rcases List.mem_cons.mp hpc with rfl | hpc
  · exact fun z => strip_apply x0 x1 1536 inb_S1024x3072_S1024x512_0_1536 inb_S512x3072_S512x512_0_1536 z
  rcases List.mem_cons.mp hpc with rfl | hpc
  · exact fun z => strip_apply x0 x1 1024 inb_S1024x3072_S1024x512_0_1024 inb_S512x3072_S512x512_0_1024 z
  rcases List.mem_cons.mp hpc with rfl | hpc
  · exact fun z => strip_apply x0 x1 512 inb_S1024x3072_S1024x512_0_512 inb_S512x3072_S512x512_0_512 z
  rcases List.mem_cons.mp hpc with rfl | hpc
  · exact fun z => strip_apply x0 x1 0 inb_S1024x3072_S1024x512_0_0 inb_S512x3072_S512x512_0_0 z
  nomatch hpc

/-- A load of a whole block is the block. -/
theorem ld_x (x0 : Vec Ideal S512x1024 .f32) : View.ld x0 r0_0 = x0 := by
  funext y
  refine congrArg (x0 : S512x1024.Idx → EReal) (funext fun a => Fin.ext ?_)
  match a with
  | ⟨0, _⟩ => show 0 + 1 * (y 0).val = (y 0).val; omega
  | ⟨1, _⟩ => show 0 + 1 * (y 1).val = (y 1).val; omega

/-- A load of the whole gate matrix is the matrix. -/
theorem ld_g (x2 : Vec Ideal S1024x128 .bf16) : View.ld x2 r0_13 = x2 := by
  funext y
  refine congrArg (x2 : S1024x128.Idx → EReal) (funext fun a => Fin.ext ?_)
  match a with
  | ⟨0, _⟩ => show 0 + 1 * (y 0).val = (y 0).val; omega
  | ⟨1, _⟩ => show 0 + 1 * (y 1).val = (y 1).val; omega

/-- What the body leaves in the second result's block. -/
theorem out4_apply (x0 : Vec Ideal S512x1024 .f32) (x1 : Vec Ideal S1024x3072 .bf16) (x2 : Vec Ideal S1024x128 .bf16) (y : S512x128.Idx) :
    out0_4 x0 x1 x2 y = rows4 x0 x2 y := by
  unfold out0_4 k0_pay11
  rw [ld_x, ld_g]
  refine View.canon_apply_of_pieces (rows4 x0 x2) _ ?_ y (cover0_4 _ y)
  intro pc hpc
  rcases List.mem_cons.mp hpc with rfl | hpc
  · intro z
    show k0_pay2 (k0_pay4 x0) x2 z = rows4 x0 x2 (r0_14.idx z)
    rw [pay2_apply]
    refine congrArg (rows4 x0 x2) (funext fun a => Fin.ext ?_)
    match a with
    | ⟨0, _⟩ => show (z 0).val = 0 + 1 * (z 0).val; omega
    | ⟨1, _⟩ => show (z 1).val = 0 + 1 * (z 1).val; omega
  nomatch hpc

/-- What the body leaves in the third result's block: the first eight gate columns, turned. -/
theorem out5_apply (x0 : Vec Ideal S512x1024 .f32) (x1 : Vec Ideal S1024x3072 .bf16) (x2 : Vec Ideal S1024x128 .bf16) (y : S1x8x512.Idx) :
    out0_5 x0 x1 x2 y = rows4 x0 x2 (Value.ix5_0 y) := by
  unfold out0_5 k0_pay11
  rw [ld_x, ld_g, Value.canon5_eq]
  exact pay2_apply x0 x2 _

end Cert.Kernel2Ideal.Proj

end
-- ==== Proof.Proj.Result.lean ====
/- The input projection's three results, entry by entry, from the two arguments. -/
module

public import proofs.«01_k».proof.Proof.Proj.Block
public import Idealize.ShloMosaic.Lib.KernelVsHost

@[expose] public section

set_option maxRecDepth 16384

noncomputable section

namespace Cert.Kernel2Ideal.Proj

open Cert.Kernel2Ideal Cert.Kernel2Ideal.Gen
open Idealize.ShloMosaic hiding ix1 ix2 ix3
open Idealize.ShloMosaic.TcCoe Idealize.SL.Sem
open Idealize.ShloMosaic.ValueIdx
open Idealize.ShloMosaic.Pipeline (Dat Cfg Window)
open scoped BigOperators

/-- Column `3072 + l` of the weights for the first eight lanes, zero in the other lanes. -/
def gate (w : S1024x3080.Idx → EReal) (k : Fin 1024) (l : Fin 128) : EReal :=
  if h : l.val < 8 then w (ix2 k ⟨3072 + l.val, by omega⟩) else 0

/-- The first result: the rows times the first 3072 columns of the weights. -/
def out3 (x : S32768x1024.Idx → EReal) (w : S1024x3080.Idx → EReal) : S32768x3072.Idx → EReal := fun i =>
  ∑ k : Fin 1024, x (ix2 (n0 := 32768) (i 0) k) * w (ix2 k ⟨(i 1).val, by have : (i 1).val < 3072 := (i 1).isLt; omega⟩)

/-- The second result: the rows times the gate lanes. -/
def out4 (x : S32768x1024.Idx → EReal) (w : S1024x3080.Idx → EReal) : S32768x128.Idx → EReal := fun i =>
  ∑ k : Fin 1024, x (ix2 (n0 := 32768) (i 0) k) * gate w k (i 1)

/-- The third result: at batch `b`, gate `l` and position `s`, row `2048 b + s` times gate `l`. -/
def out5 (x : S32768x1024.Idx → EReal) (w : S1024x3080.Idx → EReal) : S16x8x2048.Idx → EReal := fun i =>
  ∑ k : Fin 1024, x (ix2 (n0 := 32768) ⟨(i 0).val * 2048 + (i 2).val, by
      have : (i 0).val < 16 := (i 0).isLt; have : (i 2).val < 2048 := (i 2).isLt; omega⟩ k)
    * gate w k ⟨(i 1).val, by have : (i 1).val < 8 := (i 1).isLt; omega⟩

/-- The eight columns spread over 128 lanes are the gate lanes. -/
theorem padded_apply (w : S1024x3080.Idx → EReal) (h : S1024x3080.Slices ![0, 3072] S1024x8) (hp : S1024x8.Pads ![0, 0] ![0, 120] ![0, 0] S1024x128)
    (hu : 0 < S_.numel) (k : Fin 1024) (l : Fin 128) :
    pad S1024x128 ![0, 0] ![0, 120] ![0, 0] (extractStridedSlice S1024x8 ![0, 3072] w h) (sitofp (F := Ideal) .f32 (constantI S_ 32 0#32) : S_.Idx → EReal) hp hu (ix2 k l)
      = gate w k l := by
  unfold gate
  split_ifs with hl
  · refine (pad_apply_of_inside _ _ _ _ _ hp hu _ (ix2 k ⟨l.val, hl⟩) fun a => ?_).trans ?_
    · match a with
      | ⟨0, _⟩ => show k.val = 0 + k.val * 1; omega
      | ⟨1, _⟩ => show l.val = 0 + l.val * 1; omega
    · refine extractStridedSlice_apply _ _ h _ _ fun a => ?_
      match a with
      | ⟨0, _⟩ => show k.val = 0 + k.val; omega
      | ⟨1, _⟩ => rfl
  · refine (pad_apply_of_not_inside _ _ _ _ _ hp hu _ 1 fun hin => hl ?_).trans ?_
    · have h2 : (l.val - 0) / (0 + 1) < 8 := hin.2.2
      omega
    · show ((((0#32 : BitVec 32).toInt : ℝ)) : EReal) = 0
      simp

section
variable (m : (ℓ : Loc nD τ sig) → Buf (Elt Ideal) ℓ)

/-- The argument holding the rows. -/
abbrev xArg (c : Dev nD) : S32768x1024.Idx → EReal := m ((c.tc : Thread nD τ).loc main_arg0)
/-- The argument holding the weights. -/
abbrev wArg (c : Dev nD) : S1024x3080.Idx → EReal := m ((c.tc : Thread nD τ).loc main_arg1)

/-- The matrix that the region finds: the first 3072 columns of the weights. -/
theorem V_main (c : Dev nD) : (V m c main_v1 : S1024x3072.Idx → EReal)
    = truncf (F := Ideal) .bf16 (extractStridedSlice S1024x3072 ![0, 0] (wArg m c) slices_S1024x3080_S1024x3072_0_0) bitsLt_bf16_f32 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The gate matrix that the region finds: the last eight columns of the weights, spread over 128 lanes. -/
theorem V_gates (c : Dev nD) : (V m c main_v4 : S1024x128.Idx → EReal)
    = truncf (F := Ideal) .bf16 (pad S1024x128 ![0, 0] ![0, 120] ![0, 0] (extractStridedSlice S1024x8 ![0, 3072] (wArg m c) slices_S1024x3080_S1024x8_0_3072)
        (sitofp (F := Ideal) .f32 (constantI S_ 32 0#32)) pads_S1024x8_S1024x128_000_01200 h_S_) bitsLt_bf16_f32 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The index maps of the row windows at a point: block `t`. -/
theorem tr_0 : ∀ t : Fin grid0.N, cc0_transform_0 (grid0.coords t) = ![t.val, 0] := by decide +kernel
theorem tr_3 : ∀ t : Fin grid0.N, cc0_transform_3 (grid0.coords t) = ![t.val, 0] := by decide +kernel
theorem tr_4 : ∀ t : Fin grid0.N, cc0_transform_4 (grid0.coords t) = ![t.val, 0] := by decide +kernel
/-- The index map of the third result: batch `t / 4`, quarter `t mod 4`. -/
theorem tr_5 : ∀ t : Fin grid0.N, cc0_transform_5 (grid0.coords t) = ![t.val / 4, 0, t.val % 4] := by decide +kernel

/-- The grid has 64 points. -/
theorem pt_lt (t : Fin cfg0.N) : t.val < 64 := lt_of_lt_of_eq t.isLt (by decide : grid0.N = 64)

/-- The rows' block at a point. -/
theorem blk_x (c : Dev nD) (t : Fin cfg0.N) (r : Fin 512) (k : Fin 1024) :
    (iblk m c 0 t : S512x1024.Idx → EReal) (ix2 r k)
      = xArg m c (ix2 ⟨t.val * 512 + r.val, by have := pt_lt t; have := r.isLt; omega⟩ k) := by
  have hV : V m c (Pipeline.arrRef spec0 0) = m ((c.tc : Thread nD τ).loc main_arg0) := V_main_arg0 m c
  unfold iblk
  rw [hV]
  refine congrArg (xArg m c) (funext fun a => Fin.ext ?_)
  match a with
  | ⟨0, _⟩ =>
    show cc0_transform_0 (grid0.coords t) 0 * 512 + 1 * r.val = t.val * 512 + r.val
    rw [tr_0 t, Nat.one_mul]; rfl
  | ⟨1, _⟩ =>
    show cc0_transform_0 (grid0.coords t) 1 * 1024 + 1 * k.val = k.val
    rw [tr_0 t, Nat.one_mul]; exact Nat.zero_add _

/-- The matrix's block at a point: the whole matrix. -/
theorem blk_w (c : Dev nD) (t : Fin cfg0.N) (k : Fin 1024) (f : Fin 3072) :
    (iblk m c 1 t : S1024x3072.Idx → EReal) (ix2 k f) = wArg m c (ix2 k ⟨f.val, by have := f.isLt; omega⟩) := by
  have e : (iblk m c 1 t : S1024x3072.Idx → EReal) (ix2 k f) = (V m c main_v1 : S1024x3072.Idx → EReal) (ix2 k f) := by
    unfold iblk
    refine congrArg (V m c main_v1 : S1024x3072.Idx → EReal) (funext fun a => Fin.ext ?_)
    match a with
    | ⟨0, _⟩ => show 0 * 1024 + 1 * k.val = k.val; omega
    | ⟨1, _⟩ => show 0 * 3072 + 1 * f.val = f.val; omega
  rw [e, V_main]
  refine extractStridedSlice_apply ![0, 0] (wArg m c) slices_S1024x3080_S1024x3072_0_0 _ _ fun a => ?_
  match a with
  | ⟨0, _⟩ => show k.val = 0 + k.val; omega
  | ⟨1, _⟩ => show f.val = 0 + f.val; omega

/-- The gate matrix's block at a point: the whole gate matrix. -/
theorem blk_g (c : Dev nD) (t : Fin cfg0.N) (k : Fin 1024) (l : Fin 128) :
    (iblk m c 2 t : S1024x128.Idx → EReal) (ix2 k l) = gate (wArg m c) k l := by
  have e : (iblk m c 2 t : S1024x128.Idx → EReal) (ix2 k l) = (V m c main_v4 : S1024x128.Idx → EReal) (ix2 k l) := by
    unfold iblk
    refine congrArg (V m c main_v4 : S1024x128.Idx → EReal) (funext fun a => Fin.ext ?_)
    match a with
    | ⟨0, _⟩ => show 0 * 1024 + 1 * k.val = k.val; omega
    | ⟨1, _⟩ => show 0 * 128 + 1 * l.val = l.val; omega
  rw [e, V_gates]
  exact padded_apply (wArg m c) slices_S1024x3080_S1024x8_0_3072 pads_S1024x8_S1024x128_000_01200 h_S_ k l

/-- Where the first result's block lies. -/
theorem emb_3 (t : Fin cfg0.N) (y : S512x3072.Idx) : (((cfg0.win 3).blk t).view.emb y : S32768x3072.Idx)
    = ix2 (n0 := 32768) (n1 := 3072) ⟨t.val * 512 + (y 0).val, by have := pt_lt t; have : (y 0).val < 512 := (y 0).isLt; omega⟩ (y 1) := by
  funext a
  match a with
  | ⟨0, _⟩ => exact Fin.ext (by
      show cc0_transform_3 (grid0.coords t) 0 * 512 + 1 * (y 0).val = t.val * 512 + (y 0).val
      rw [tr_3 t, Nat.one_mul]; rfl)
  | ⟨1, _⟩ => exact Fin.ext (by
      show cc0_transform_3 (grid0.coords t) 1 * 3072 + 1 * (y 1).val = (y 1).val
      rw [tr_3 t, Nat.one_mul]; exact Nat.zero_add _)

/-- Where the second result's block lies. -/
theorem emb_4 (t : Fin cfg0.N) (y : S512x128.Idx) : (((cfg0.win 4).blk t).view.emb y : S32768x128.Idx)
    = ix2 (n0 := 32768) (n1 := 128) ⟨t.val * 512 + (y 0).val, by have := pt_lt t; have : (y 0).val < 512 := (y 0).isLt; omega⟩ (y 1) := by
  funext a
  match a with
  | ⟨0, _⟩ => exact Fin.ext (by
      show cc0_transform_4 (grid0.coords t) 0 * 512 + 1 * (y 0).val = t.val * 512 + (y 0).val
      rw [tr_4 t, Nat.one_mul]; rfl)
  | ⟨1, _⟩ => exact Fin.ext (by
      show cc0_transform_4 (grid0.coords t) 1 * 128 + 1 * (y 1).val = (y 1).val
      rw [tr_4 t, Nat.one_mul]; exact Nat.zero_add _)

/-- Where the third result's block lies. -/
theorem emb_5 (t : Fin cfg0.N) (y : S1x8x512.Idx) : (((cfg0.win 5).blk t).view.emb y : S16x8x2048.Idx)
    = ix3 (n0 := 16) (n1 := 8) (n2 := 2048) ⟨t.val / 4, by have := pt_lt t; omega⟩ (y 1)
      ⟨t.val % 4 * 512 + (y 2).val, by have : (y 2).val < 512 := (y 2).isLt; omega⟩ := by
  funext a
  match a with
  | ⟨0, _⟩ => exact Fin.ext (by
      have h0 : (y 0).val < 1 := (y 0).isLt
      show cc0_transform_5 (grid0.coords t) 0 * 1 + 1 * (y 0).val = t.val / 4
      rw [tr_5 t, Nat.one_mul, Nat.mul_one]
      show t.val / 4 + (y 0).val = t.val / 4
      omega)
  | ⟨1, _⟩ => exact Fin.ext (by
      show cc0_transform_5 (grid0.coords t) 1 * 8 + 1 * (y 1).val = (y 1).val
      rw [tr_5 t, Nat.one_mul]; exact Nat.zero_add _)
  | ⟨2, _⟩ => exact Fin.ext (by
      show cc0_transform_5 (grid0.coords t) 2 * 512 + 1 * (y 2).val = t.val % 4 * 512 + (y 2).val
      rw [tr_5 t, Nat.one_mul]; rfl)

/-- What every point writes back is its block of the first result. -/
theorem wrote_3 (c : Dev nD) (t : Fin cfg0.N) :
    (dats m 0 c).flushed 3 t = ((cfg0.win 3).blk t).view.read (Elt Ideal) (out3 (xArg m c) (wArg m c)) := by
  rw [Value.flushed3]
  funext y
  show out0_3 (iblk m c 0 t) (iblk m c 1 t) (iblk m c 2 t) y = out3 (xArg m c) (wArg m c) (((cfg0.win 3).blk t).view.emb y : S32768x3072.Idx)
  rw [out3_apply, emb_3]
  exact Finset.sum_congr rfl fun k _ => congrArg₂ (· * ·) (blk_x m c t (y 0) k) (blk_w m c t k (y 1))

/-- What every point writes back is its block of the second result. -/
theorem wrote_4 (c : Dev nD) (t : Fin cfg0.N) :
    (dats m 0 c).flushed 4 t = ((cfg0.win 4).blk t).view.read (Elt Ideal) (out4 (xArg m c) (wArg m c)) := by
  rw [Value.flushed4]
  funext y
  show out0_4 (iblk m c 0 t) (iblk m c 1 t) (iblk m c 2 t) y = out4 (xArg m c) (wArg m c) (((cfg0.win 4).blk t).view.emb y : S32768x128.Idx)
  rw [out4_apply, emb_4]
  exact Finset.sum_congr rfl fun k _ => congrArg₂ (· * ·) (blk_x m c t (y 0) k) (blk_g m c t k (y 1))

/-- What every point writes back is its block of the third result. -/
theorem wrote_5 (c : Dev nD) (t : Fin cfg0.N) :
    (dats m 0 c).flushed 5 t = ((cfg0.win 5).blk t).view.read (Elt Ideal) (out5 (xArg m c) (wArg m c)) := by
  rw [Value.flushed5]
  funext y
  show out0_5 (iblk m c 0 t) (iblk m c 1 t) (iblk m c 2 t) y = out5 (xArg m c) (wArg m c) (((cfg0.win 5).blk t).view.emb y : S16x8x2048.Idx)
  rw [out5_apply, emb_5]
  have hy : (y 2).val < 512 := (y 2).isLt
  have h1 : (y 1).val < 8 := (y 1).isLt
  refine Finset.sum_congr rfl fun k _ => congrArg₂ (· * ·) ((blk_x m c t ⟨(y 2).val, hy⟩ k).trans ?_) (blk_g m c t k ⟨(y 1).val, by omega⟩)
  refine congrArg (fun r : Fin 32768 => xArg m c (ix2 r k)) (Fin.ext ?_)
  show t.val * 512 + (y 2).val = t.val / 4 * 2048 + (t.val % 4 * 512 + (y 2).val)
  omega

/-- The first result's array after the run. -/
theorem arr_3 (c : Dev nD) : ((dats m 0 c).arrAt 3 cfg0.N : S32768x3072.Idx → EReal) = out3 (xArg m c) (wArg m c) := by
  funext i
  have h0 : (i 0).val < 32768 := (i 0).isLt
  let t : Fin cfg0.N := ⟨(i 0).val / 512, lt_of_lt_of_eq (by omega : (i 0).val / 512 < 64) (by decide : grid0.N = 64).symm⟩
  have hi : i ∈ ((cfg0.win 3).blk t).view.set := by
    have e : (((cfg0.win 3).blk t).view.emb (ix2 (n0 := 512) (n1 := 3072) ⟨(i 0).val % 512, Nat.mod_lt _ (by decide)⟩ (i 1)) : S32768x3072.Idx) = i := by
      rw [emb_3]
      funext a
      match a with
      | ⟨0, _⟩ => exact Fin.ext (by show (i 0).val / 512 * 512 + (i 0).val % 512 = (i 0).val; omega)
      | ⟨1, _⟩ => rfl
    rw [← e]
    exact View.emb_mem_set _ _
  exact (dats m 0 c).arrAt_apply_of_mem 3 (out3 (xArg m c) (wArg m c)) (fun t _ => wrote_3 m c t) _ t _ t.isLt (flush0_3 t) hi

/-- The second result's array after the run. -/
theorem arr_4 (c : Dev nD) : ((dats m 0 c).arrAt 4 cfg0.N : S32768x128.Idx → EReal) = out4 (xArg m c) (wArg m c) := by
  funext i
  have h0 : (i 0).val < 32768 := (i 0).isLt
  let t : Fin cfg0.N := ⟨(i 0).val / 512, lt_of_lt_of_eq (by omega : (i 0).val / 512 < 64) (by decide : grid0.N = 64).symm⟩
  have hi : i ∈ ((cfg0.win 4).blk t).view.set := by
    have e : (((cfg0.win 4).blk t).view.emb (ix2 (n0 := 512) (n1 := 128) ⟨(i 0).val % 512, Nat.mod_lt _ (by decide)⟩ (i 1)) : S32768x128.Idx) = i := by
      rw [emb_4]
      funext a
      match a with
      | ⟨0, _⟩ => exact Fin.ext (by show (i 0).val / 512 * 512 + (i 0).val % 512 = (i 0).val; omega)
      | ⟨1, _⟩ => rfl
    rw [← e]
    exact View.emb_mem_set _ _
  exact (dats m 0 c).arrAt_apply_of_mem 4 (out4 (xArg m c) (wArg m c)) (fun t _ => wrote_4 m c t) _ t _ t.isLt (flush0_4 t) hi

/-- The third result's array after the run. -/
theorem arr_5 (c : Dev nD) : ((dats m 0 c).arrAt 5 cfg0.N : S16x8x2048.Idx → EReal) = out5 (xArg m c) (wArg m c) := by
  funext i
  have h0 : (i 0).val < 16 := (i 0).isLt
  have h2 : (i 2).val < 2048 := (i 2).isLt
  let t : Fin cfg0.N := ⟨(i 0).val * 4 + (i 2).val / 512, lt_of_lt_of_eq (by omega : (i 0).val * 4 + (i 2).val / 512 < 64) (by decide : grid0.N = 64).symm⟩
  have hi : i ∈ ((cfg0.win 5).blk t).view.set := by
    have e : (((cfg0.win 5).blk t).view.emb (ix3 (n0 := 1) (n1 := 8) (n2 := 512) 0 (i 1) ⟨(i 2).val % 512, Nat.mod_lt _ (by decide)⟩) : S16x8x2048.Idx) = i := by
      rw [emb_5]
      funext a
      match a with
      | ⟨0, _⟩ => exact Fin.ext (by show ((i 0).val * 4 + (i 2).val / 512) / 4 = (i 0).val; omega)
      | ⟨1, _⟩ => rfl
      | ⟨2, _⟩ => exact Fin.ext (by show ((i 0).val * 4 + (i 2).val / 512) % 4 * 512 + (i 2).val % 512 = (i 2).val; omega)
    rw [← e]
    exact View.emb_mem_set _ _
  exact (dats m 0 c).arrAt_apply_of_mem 5 (out5 (xArg m c) (wArg m c)) (fun t _ => wrote_5 m c t) _ t _ t.isLt (flush0_5 t) hi

end

end Cert.Kernel2Ideal.Proj

end
-- ==== Proof.Proj.Ref.lean ====
/- The reference of the input projection: its three results are those of the kernel. -/
module

public import proofs.«01_k».proof.Defs
public import proofs.«01_k».proof.Proof.Proj.Result
public import proofs.«01_k».proof.Proof.Gen.Reference2Ideal.Run
public import Idealize.ShloMosaic.Lib.StackMember

@[expose] public section

set_option maxRecDepth 16384

noncomputable section

namespace Cert.Kernel2Ideal.Proj

open Idealize.ShloMosaic hiding ix1 ix2 ix3
open Idealize.ShloMosaic.ValueIdx
open scoped BigOperators

/-- The shape of the rows, -/
abbrev SX : Shape := ⟨2, ![32768, 1024]⟩
/-- of the weights, -/
abbrev SW : Shape := ⟨2, ![1024, 3080]⟩
/-- and of their product. -/
abbrev SP : Shape := ⟨2, ![32768, 3080]⟩

/-- The whole product of the rows with the weights. -/
def whole (x : SX.Idx → EReal) (w : SW.Idx → EReal) : SP.Idx → EReal :=
  Host.dotGeneral (F := Ideal) (φ₁ := .f32) (φ₂ := .f32) (DotDims.plain 32768 1024 3080) none x w

/-- An entry of it: the sum over the shared axis. -/
theorem whole_apply (x : SX.Idx → EReal) (w : SW.Idx → EReal) (r : Fin 32768) (f : Fin 3080) :
    whole x w (ix2 r f) = ∑ k : Fin 1024, x (ix2 r k) * w (ix2 k f) :=
  StackMember.dotGeneral_plain_apply (m := 32768) (n := 3080) (k := 1024) (φ₁ := .f32) (φ₂ := .f32) none x w r f

/-- A row's product with a gate column is its sum over that gate's lane. -/
theorem gate_sum (x : SX.Idx → EReal) (w : SW.Idx → EReal) (r : Fin 32768) (l : Fin 128) (h : l.val < 8) :
    whole x w (ix2 r ⟨3072 + l.val, by omega⟩) = ∑ k : Fin 1024, x (ix2 r k) * gate w k l := by
  rw [whole_apply]
  refine Finset.sum_congr rfl fun k _ => ?_
  unfold gate
  rw [dif_pos h]

/-- The first 3072 columns of the product are the first result. -/
theorem ref3 (x : SX.Idx → EReal) (w : SW.Idx → EReal) (h : SP.Slices ![0, 0] ⟨2, ![32768, 3072]⟩) :
    extractStridedSlice (⟨2, ![32768, 3072]⟩ : Shape) ![0, 0] (whole x w) h = out3 x w := by
  funext i
  refine (extractStridedSlice_apply ![0, 0] (whole x w) h i
    (ix2 (n0 := 32768) (n1 := 3080) (i 0) ⟨(i 1).val, by have : (i 1).val < 3072 := (i 1).isLt; omega⟩) fun a => ?_).trans (whole_apply x w _ _)
  match a with
  | ⟨0, _⟩ => show (i 0).val = 0 + (i 0).val; omega
  | ⟨1, _⟩ => show (i 1).val = 0 + (i 1).val; omega

/-- A gate column of the product, read through the slice. -/
theorem cols_apply (x : SX.Idx → EReal) (w : SW.Idx → EReal) (h : SP.Slices ![0, 3072] ⟨2, ![32768, 8]⟩) (r : Fin 32768) (l : Fin 128) (hl : l.val < 8) :
    extractStridedSlice (⟨2, ![32768, 8]⟩ : Shape) ![0, 3072] (whole x w) h (ix2 r ⟨l.val, hl⟩) = ∑ k : Fin 1024, x (ix2 r k) * gate w k l := by
  refine (extractStridedSlice_apply ![0, 3072] (whole x w) h _ (ix2 (n0 := 32768) (n1 := 3080) r ⟨3072 + l.val, by omega⟩) fun a => ?_).trans (gate_sum x w r l hl)
  match a with
  | ⟨0, _⟩ => show r.val = 0 + r.val; omega
  | ⟨1, _⟩ => rfl

/-- The gate columns of the product, spread over 128 lanes, are the second result: a lane past the eighth holds zero, which is what
    a row times a zero column is. -/
theorem ref4 (x : SX.Idx → EReal) (w : SW.Idx → EReal) (h : SP.Slices ![0, 3072] ⟨2, ![32768, 8]⟩)
    (hp : (⟨2, ![32768, 8]⟩ : Shape).Pads ![0, 0] ![0, 120] ![0, 0] ⟨2, ![32768, 128]⟩) (hu : 0 < (⟨0, ![]⟩ : Shape).numel) :
    pad (⟨2, ![32768, 128]⟩ : Shape) ![0, 0] ![0, 120] ![0, 0] (extractStridedSlice (⟨2, ![32768, 8]⟩ : Shape) ![0, 3072] (whole x w) h)
      (sitofp (F := Ideal) .f32 (constantI (⟨0, ![]⟩ : Shape) 32 0#32) : (⟨0, ![]⟩ : Shape).Idx → EReal) hp hu = out4 x w := by
  funext i
  have e : i = ix2 (n0 := 32768) (n1 := 128) (i 0) (i 1) := by funext a; match a with | ⟨0, _⟩ => rfl | ⟨1, _⟩ => rfl
  by_cases hl : (i 1).val < 8
  · refine (pad_apply_of_inside _ _ _ _ _ hp hu _ (ix2 (n0 := 32768) (n1 := 8) (i 0) ⟨(i 1).val, hl⟩) fun a => ?_).trans (cols_apply x w h (i 0) (i 1) hl)
    match a with
    | ⟨0, _⟩ => show (i 0).val = 0 + (i 0).val * 1; omega
    | ⟨1, _⟩ => show (i 1).val = 0 + (i 1).val * 1; omega
  · refine (pad_apply_of_not_inside _ _ _ _ _ hp hu _ 1 fun hin => hl ?_).trans ?_
    · have h2 : ((i 1).val - 0) / (0 + 1) < 8 := hin.2.2
      omega
    · show ((((0#32 : BitVec 32).toInt : ℝ)) : EReal) = ∑ k : Fin 1024, x (ix2 (n0 := 32768) (i 0) k) * gate w k (i 1)
      rw [Finset.sum_eq_zero fun k _ => by unfold gate; rw [dif_neg hl, mul_zero]]
      simp

/-- The gate columns of the product, by batch and turned, are the third result. -/
theorem ref5 (x : SX.Idx → EReal) (w : SW.Idx → EReal) (h : SP.Slices ![0, 3072] ⟨2, ![32768, 8]⟩)
    (hc : (⟨2, ![32768, 8]⟩ : Shape).ShapeCasts ⟨3, ![16, 2048, 8]⟩) (ht : (⟨3, ![16, 2048, 8]⟩ : Shape).Transposes [0, 2, 1] ⟨3, ![16, 8, 2048]⟩) :
    transpose (⟨3, ![16, 8, 2048]⟩ : Shape) [0, 2, 1] (shapeCast (⟨3, ![16, 2048, 8]⟩ : Shape) (extractStridedSlice (⟨2, ![32768, 8]⟩ : Shape) ![0, 3072] (whole x w) h) hc) ht
      = out5 x w := by
  funext i
  have h0 : (i 0).val < 16 := (i 0).isLt
  have h1 : (i 1).val < 8 := (i 1).isLt
  have h2 : (i 2).val < 2048 := (i 2).isLt
  refine (transpose_apply [0, 2, 1] _ ht i (ix3 (n0 := 16) (n1 := 2048) (n2 := 8) (i 0) (i 2) (i 1)) fun a => ?_).trans ?_
  · match a with
    | ⟨0, _⟩ => rfl
    | ⟨1, _⟩ => rfl
    | ⟨2, _⟩ => rfl
  refine (shapeCast_apply _ hc _ (ix2 (n0 := 32768) (n1 := 8) ⟨(i 0).val * 2048 + (i 2).val, by omega⟩ (i 1)) ?_).trans
    (cols_apply x w h ⟨(i 0).val * 2048 + (i 2).val, by omega⟩ ⟨(i 1).val, by omega⟩ h1)
  rw [rowMajor_val2 _ 8 rfl, rowMajor_val3 _ 16384 8 rfl rfl]
  show ((i 0).val * 2048 + (i 2).val) * 8 + (i 1).val = (i 0).val * 16384 + (i 2).val * 8 + (i 1).val
  omega

/-- The exact kernel's run and the reference's end with the same three results. -/
theorem agree : Cert.algebraic_Kernel2Ideal_Reference2Ideal := fun m g m' g' _ ha =>
  ⟨fun c => out3 (xArg m c) (wArg m c), fun c => out4 (xArg m c) (wArg m c), fun c => out5 (xArg m c) (wArg m c),
    (θ_run Cert.Kernel2Ideal.defs _ _).mono (fun r h c => ⟨(h c).1.trans (arr_3 m c), (h c).2.1.trans (arr_4 m c), (h c).2.2.1.trans (arr_5 m c), (h c).2.2.2⟩)
      (Cert.Kernel2Ideal.Value.run_blocks m g),
    (θ_run Cert.Reference2Ideal.defs _ _).mono (fun r h c => by
      obtain ⟨h0, h1⟩ := ha c
      obtain ⟨r3, r4, r5, rest⟩ := h c
      rw [h0, h1] at r3 r4 r5
      exact ⟨r3.trans (ref3 (xArg m c) (wArg m c) _), r4.trans (ref4 (xArg m c) (wArg m c) _ _ _), r5.trans (ref5 (xArg m c) (wArg m c) _ _ _), rest⟩)
      (Cert.Reference2Ideal.Value.run m' g')⟩

end Cert.Kernel2Ideal.Proj

end
-- ==== Proof.Out.Block.lean ====
/- The output projection's block: what one point of the grid leaves in the block of normed rows, entry by entry. -/
module

public import proofs.«01_k».proof.Proof.Gen.Kernel3Ideal.Value
public import Idealize.ShloMosaic.PureOps.Ideal
public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pointwise.Reshape
public import Idealize.ShloMosaic.Lib.Pipeline.CanonAppend
public import Idealize.ShloMosaic.Lib.Pipeline.ValueKit.Tiles

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- The weight of the residual, -/
def alpha : EReal := Scalar.ofBits (F := Ideal) .f32 0x3F9837F0#32
/-- the width of a row, -/
def width : EReal := Scalar.ofBits (F := Ideal) .f32 0x44800000#32
/-- and the constant added to a variance. -/
def eps : EReal := Scalar.ofBits (F := Ideal) .f32 0x3727C5AC#32

/-- The mean of a row. -/
def mean (z : Fin 1024 → EReal) : EReal := Ideal.div (∑ k, z k) width

/-- A row less its mean. -/
def centred (z : Fin 1024 → EReal) (d : Fin 1024) : EReal := z d - mean z

/-- A row normed: its distance from the mean over the root of the variance, scaled and shifted. -/
def lnRow (z g b : Fin 1024 → EReal) (d : Fin 1024) : EReal :=
  centred z d * Ideal.rsqrt (mean (fun k => centred z k * centred z k) + eps) * g d + b d

/-- An entry of the mixed row: the weighted residual plus the two heads' products. -/
def mixed (x : EReal) (a wa h wm : Fin 512 → EReal) : EReal := alpha * x + (∑ k, a k * wa k) + ∑ k, h k * wm k

/-- An entry of a product into a zero accumulator: the sum over the shared axis. -/
theorem prod_apply {R N : ℕ} (x : FVec Ideal ⟨2, ![R, 512]⟩ .bf16) (w : FVec Ideal ⟨2, ![512, N]⟩ .bf16) (r : Fin R) (f : Fin N) :
    matmul (F := Ideal) (DotDims.plain R 512 N) none x w (constant (⟨2, ![R, N]⟩ : Shape) .f32 0x00000000#32) (ix2 r f)
      = ∑ k, x (ix2 r k) * w (ix2 k f) := by
  simp only [matmul]
  rw [Ideal.matmul_plain_apply, constant_apply, Ideal.ofBits_zero_f32, zero_add]

/-- The mixed rows of a tile of 256 rows, as the body computes them. -/
theorem pay7_apply (x : Vec Ideal S256x1024 .f32) (a : Vec Ideal S256x512 .bf16) (wa : Vec Ideal S512x1024 .bf16) (h : Vec Ideal S256x512 .bf16)
    (wm : Vec Ideal S512x1024 .bf16) (y : S256x1024.Idx) :
    k0_pay7 x a wa h wm y = mixed (x y) (fun k => (a : S256x512.Idx → EReal) (ix2 (y 0) k)) (fun k => (wa : S512x1024.Idx → EReal) (ix2 k (y 1)))
      (fun k => (h : S256x512.Idx → EReal) (ix2 (y 0) k)) (fun k => (wm : S512x1024.Idx → EReal) (ix2 k (y 1))) := by
  have e : y = ix2 (n0 := 256) (n1 := 1024) (y 0) (y 1) := by funext a; match a with | ⟨0, _⟩ => rfl | ⟨1, _⟩ => rfl
  rw [e]
  unfold k0_pay7 mixed
  simp only [shapeCast_self]
  refine congrArg₂ (· + ·) (congrArg₂ (· + ·) rfl ?_) ?_
  · exact prod_apply (R := 256) (N := 1024) a wa (y 0) (y 1)
  · exact prod_apply (R := 256) (N := 1024) h wm (y 0) (y 1)

/-- The sum of a tile's row, as the body computes it and spreads it along the row. -/
theorem rowSum_apply (z : FVec Ideal S256x1024 .f32) (j : S256x1.Idx) :
    shapeCast S256x1 (multiReduction (F := Ideal) .add [1] S256 z 0x00000000#32 reduces_S256x1024_S256 (.inl rfl) rfl) shapeCasts_S256_S256x1 j
      = ∑ k : Fin 1024, (z : S256x1024.Idx → EReal) (ix2 (j 0) k) := by
  have h1 : (j 1).val < 1 := (j 1).isLt
  refine (shapeCast_apply _ shapeCasts_S256_S256x1 j (ix1 (n := 256) (j 0)) ?_).trans ?_
  · rw [rowMajor_val1, rowMajor_val2 _ 1 rfl]
    show (j 0).val = (j 0).val * 1 + (j 1).val
    omega
  · refine (Ideal.multiReduction_add_single z _ reduces_S256x1024_S256 (.inl rfl) rfl _).trans ?_
    refine Finset.sum_congr rfl fun k _ => congrArg (z : S256x1024.Idx → EReal) (funext fun a => Fin.ext ?_)
    match a with
    | ⟨0, _⟩ => rfl
    | ⟨1, _⟩ => rfl

/-- A column spread along its rows. -/
theorem spread_apply (v : FVec Ideal S256x1 .f32) (y : S256x1024.Idx) :
    broadcastTo S256x1024 v broadcasts_S256x1_S256x1024 y = (v : S256x1.Idx → EReal) (ix2 (n0 := 256) (n1 := 1) (y 0) 0) := by
  refine broadcastTo_apply v broadcasts_S256x1_S256x1024 y _ fun a => ?_
  match a with
  | ⟨0, _⟩ => rfl
  | ⟨1, _⟩ => rfl

/-- A row spread over all rows. -/
theorem spread_row_apply (v : FVec Ideal S1x1024 .f32) (y : S256x1024.Idx) :
    broadcastTo S256x1024 v broadcasts_S1x1024_S256x1024 y = (v : S1x1024.Idx → EReal) (ix2 (n0 := 1) (n1 := 1024) 0 (y 1)) := by
  refine broadcastTo_apply v broadcasts_S1x1024_S256x1024 y _ fun a => ?_
  match a with
  | ⟨0, _⟩ => rfl
  | ⟨1, _⟩ => rfl

/-- A tile less its rows' means. -/
theorem pay12_apply (z : Vec Ideal S256x1024 .f32) (y : S256x1024.Idx) :
    k0_pay12 z y = centred (fun d => (z : S256x1024.Idx → EReal) (ix2 (y 0) d)) (y 1) := by
  have e : y = ix2 (n0 := 256) (n1 := 1024) (y 0) (y 1) := by funext a; match a with | ⟨0, _⟩ => rfl | ⟨1, _⟩ => rfl
  unfold k0_pay12 centred mean
  simp only [shapeCast_self]
  refine congrArg₂ (· - ·) (congrArg (z : S256x1024.Idx → EReal) e) ?_
  refine (spread_apply _ y).trans ?_
  exact congrArg (fun q => Ideal.div q width) (rowSum_apply z (ix2 (n0 := 256) (n1 := 1) (y 0) 0))

/-- The normed rows of a tile, as the body computes them. -/
theorem pay86_apply (z : Vec Ideal S256x1024 .f32) (g b : Vec Ideal S1x1024 .f32) (y : S256x1024.Idx) :
    k0_pay86 z g b y = lnRow (fun d => (z : S256x1024.Idx → EReal) (ix2 (y 0) d)) (fun d => (g : S1x1024.Idx → EReal) (ix2 0 d))
      (fun d => (b : S1x1024.Idx → EReal) (ix2 0 d)) (y 1) := by
  have hu : k0_pay86 z g b = k0_pay15 (k0_pay10 g) (k0_pay11 b) (k0_pay12 z) (k0_pay13 z) k0_pay14 := rfl
  rw [hu]
  unfold k0_pay15 k0_pay10 k0_pay11 lnRow
  simp only [shapeCast_self]
  refine congrArg₂ (· + ·) (congrArg₂ (· * ·) (congrArg₂ (· * ·) (pay12_apply z y) ?_) (spread_row_apply g y)) (spread_row_apply b y)
  refine (spread_apply _ y).trans ?_
  refine congrArg (fun q => Ideal.rsqrt (Ideal.div q width + eps)) ((rowSum_apply (mulf (k0_pay12 z) (k0_pay12 z)) (ix2 (n0 := 256) (n1 := 1) (y 0) 0)).trans ?_)
  exact Finset.sum_congr rfl fun k _ => congrArg₂ (· * ·) (pay12_apply z (ix2 (n0 := 256) (n1 := 1024) (y 0) k)) (pay12_apply z (ix2 (n0 := 256) (n1 := 1024) (y 0) k))

end Cert.Kernel3Ideal.Out

end
-- ==== Proof.Out.Tiles.lean ====
/- The output projection's block, put together from its four tiles of 256 rows: each tile holds the mixed rows first, and the normed rows
   after them are computed from the mixed rows read back. -/
module

public import proofs.«01_k».proof.Proof.Out.Block

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- The mixed rows of a block. -/
def mixedBlock (x0 x1 : Vec Ideal S1024x512 .bf16) (x2 : Vec Ideal S1024x1024 .f32) (x3 x4 : Vec Ideal S512x1024 .bf16) : Vec Ideal S1024x1024 .f32 := fun y =>
  (mixed (x2 y) (fun k => (x0 : S1024x512.Idx → EReal) (ix2 (y 0) k)) (fun k => (x3 : S512x1024.Idx → EReal) (ix2 k (y 1)))
    (fun k => (x1 : S1024x512.Idx → EReal) (ix2 (y 0) k)) (fun k => (x4 : S512x1024.Idx → EReal) (ix2 k (y 1))) : EReal)

/-- The rows of a block, normed. -/
def normedBlock (z : Vec Ideal S1024x1024 .f32) (g b : Vec Ideal S1x1024 .f32) : Vec Ideal S1024x1024 .f32 := fun y =>
  (lnRow (fun d => (z : S1024x1024.Idx → EReal) (ix2 (y 0) d)) (fun d => (g : S1x1024.Idx → EReal) (ix2 0 d))
    (fun d => (b : S1x1024.Idx → EReal) (ix2 0 d)) (y 1) : EReal)

/-- The four tiles of a block. -/
abbrev r3 : Rect S1024x1024 := Rect.unit ![768, 0] S256x1024.size inb_S1024x1024_S256x1024_768_0
abbrev r2 : Rect S1024x1024 := Rect.unit ![512, 0] S256x1024.size inb_S1024x1024_S256x1024_512_0
abbrev r1 : Rect S1024x1024 := Rect.unit ![256, 0] S256x1024.size inb_S1024x1024_S256x1024_256_0
abbrev r0 : Rect S1024x1024 := Rect.unit ![0, 0] S256x1024.size inb_S1024x1024_S256x1024_0_0

/-- Four tiles stored, the lowest rows first. -/
abbrev four (w0 w1 w2 w3 : Vec Ideal S256x1024 .f32) : List (View.Piece (Elt Ideal) S1024x1024 .f32) := [⟨r3, w3⟩, ⟨r2, w2⟩, ⟨r1, w1⟩, ⟨r0, w0⟩]

/-- A tile holds the rows of `Z` from row `o` on. -/
def Holds (Z : Vec Ideal S1024x1024 .f32) (r : Rect S1024x1024) (w : r.shape.Idx → EReal) : Prop := ∀ x, w x = Z (r.emb x)

/-- Four tiles that hold the rows of `Z`, whatever was stored before them, leave `Z`. -/
theorem canon_four (Z : Vec Ideal S1024x1024 .f32) (w0 w1 w2 w3 : Vec Ideal S256x1024 .f32) (h0 : Holds Z r0 w0) (h1 : Holds Z r1 w1)
    (h2 : Holds Z r2 w2) (h3 : Holds Z r3 w3) (L : List (View.Piece (Elt Ideal) S1024x1024 .f32)) (y : S1024x1024.Idx) :
    View.canon (four w0 w1 w2 w3 ++ L) y = Z y := by
  refine View.canon_append_of_pieces Z L (four w0 w1 w2 w3) ?_ y (View.cover_of_tiled_head r3 w3 [⟨r2, w2⟩, ⟨r1, w1⟩, ⟨r0, w0⟩] rfl y)
  intro p hp
  rcases List.mem_cons.mp hp with rfl | hp
  · exact h3
  rcases List.mem_cons.mp hp with rfl | hp
  · exact h2
  rcases List.mem_cons.mp hp with rfl | hp
  · exact h1
  rcases List.mem_cons.mp hp with rfl | hp
  · exact h0
  nomatch hp

/-- A tile stored in rows before row `n` does not change what later rows hold. -/
theorem canon_skip (o n : ℕ) (hon : o + 256 ≤ n) (h : ∀ a, (![o, 0] : Fin 2 → ℕ) a + S256x1024.size a ≤ S1024x1024.size a)
    (w : Vec Ideal S256x1024 .f32) (L : List (View.Piece (Elt Ideal) S1024x1024 .f32)) (y : S1024x1024.Idx) (hy : n ≤ (y 0).val) :
    View.canon ((⟨Rect.unit (s := S1024x1024) ![o, 0] S256x1024.size h, w⟩ : View.Piece (Elt Ideal) S1024x1024 .f32) :: L) y = View.canon L y := by
  refine View.canon_cons_of_not_mem _ _ fun (hm : y ∈ (Rect.unit (s := S1024x1024) ![o, 0] S256x1024.size h).set) => ?_
  have h2 : (y 0).val < o + 256 := ((Rect.mem_set_unit (inb := h)).mp hm 0).2
  omega

/-- The normed rows of a tile, computed from the mixed rows of the tile, hold the rows of the normed block. -/
theorem normed_tile (Z : Vec Ideal S1024x1024 .f32) (g b : Vec Ideal S1x1024 .f32) (o : ℕ)
    (h : ∀ a, (![o, 0] : Fin 2 → ℕ) a + S256x1024.size a ≤ S1024x1024.size a) (z : Vec Ideal S256x1024 .f32)
    (hz : Holds Z (Rect.unit (s := S1024x1024) ![o, 0] S256x1024.size h) z) :
    Holds (normedBlock Z g b) (Rect.unit (s := S1024x1024) ![o, 0] S256x1024.size h) (k0_pay86 z g b) := by
  intro x
  refine (pay86_apply z g b x).trans ?_
  unfold normedBlock
  have e1 : (Rect.unit (s := S1024x1024) ![o, 0] S256x1024.size h).emb x 1 = x 1 := Fin.ext (by show 0 + 1 * (x 1).val = (x 1).val; omega)
  rw [e1]
  refine congrArg (fun q => lnRow q (fun d => (g : S1x1024.Idx → EReal) (ix2 0 d)) (fun d => (b : S1x1024.Idx → EReal) (ix2 0 d)) (x 1)) (funext fun d => ?_)
  refine (hz (ix2 (n0 := 256) (n1 := 1024) (x 0) d)).trans (congrArg (Z : S1024x1024.Idx → EReal) (funext fun a => Fin.ext ?_))
  match a with
  | ⟨0, _⟩ => rfl
  | ⟨1, _⟩ => show 0 + 1 * d.val = d.val; omega

/-- The four tiles read back, normed and stored in their places hold the rows of the normed block. -/
theorem block_tiles {sig : RefSig} {κ : Kind} {sp : Space} (v : View sig κ sp S1024x1024 .f32) (Z : Vec Ideal S1024x1024 .f32) (g b : Vec Ideal S1x1024 .f32)
    (w0 w1 w2 w3 l0 l1 l2 l3 : Vec Ideal S256x1024 .f32) (h0 : Holds Z r0 w0) (h1 : Holds Z r1 w1) (h2 : Holds Z r2 w2) (h3 : Holds Z r3 w3)
    (e0 : l0 = k0_pay86 (v.readCov (four w0 w1 w2 w3) r0.toLoadRect) g b)
    (e1 : l1 = k0_pay86 (v.readCov (⟨r0, l0⟩ :: four w0 w1 w2 w3) r1.toLoadRect) g b)
    (e2 : l2 = k0_pay86 (v.readCov (⟨r1, l1⟩ :: ⟨r0, l0⟩ :: four w0 w1 w2 w3) r2.toLoadRect) g b)
    (e3 : l3 = k0_pay86 (v.readCov (⟨r2, l2⟩ :: ⟨r1, l1⟩ :: ⟨r0, l0⟩ :: four w0 w1 w2 w3) r3.toLoadRect) g b) :
    Holds (normedBlock Z g b) r0 l0 ∧ Holds (normedBlock Z g b) r1 l1 ∧ Holds (normedBlock Z g b) r2 l2 ∧ Holds (normedBlock Z g b) r3 l3 := by
  have hc : ∀ y, View.canon (four w0 w1 w2 w3) y = Z y := fun y => by
    have := canon_four Z w0 w1 w2 w3 h0 h1 h2 h3 [] y
    rwa [List.append_nil] at this
  refine ⟨?_, ?_, ?_, ?_⟩
  · rw [e0]
    refine normed_tile Z g b 0 inb_S1024x1024_S256x1024_0_0 _ fun x => ?_
    rw [View.readCov_eq_canon']
    exact hc _
  · rw [e1]
    refine normed_tile Z g b 256 inb_S1024x1024_S256x1024_256_0 _ fun x => ?_
    rw [View.readCov_eq_canon']
    have hx : 256 ≤ (r1.emb x 0).val := by show 256 ≤ 256 + 1 * (x 0).val; omega
    exact (canon_skip 0 256 (by omega) _ l0 _ _ hx).trans (hc _)
  · rw [e2]
    refine normed_tile Z g b 512 inb_S1024x1024_S256x1024_512_0 _ fun x => ?_
    rw [View.readCov_eq_canon']
    have hx : 512 ≤ (r2.emb x 0).val := by show 512 ≤ 512 + 1 * (x 0).val; omega
    exact (canon_skip 256 512 (by omega) _ l1 _ _ hx).trans ((canon_skip 0 512 (by omega) _ l0 _ _ hx).trans (hc _))
  · rw [e3]
    refine normed_tile Z g b 768 inb_S1024x1024_S256x1024_768_0 _ fun x => ?_
    rw [View.readCov_eq_canon']
    have hx : 768 ≤ (r3.emb x 0).val := by show 768 ≤ 768 + 1 * (x 0).val; omega
    exact (canon_skip 512 768 (by omega) _ l2 _ _ hx).trans ((canon_skip 256 768 (by omega) _ l1 _ _ hx).trans
      ((canon_skip 0 768 (by omega) _ l0 _ _ hx).trans (hc _)))

/-- The block as the body leaves it: the mixed rows stored tile by tile, then every tile read back, normed and stored in its place. -/
theorem block_apply {sig : RefSig} {κ : Kind} {sp : Space} (v : View sig κ sp S1024x1024 .f32) (Z : Vec Ideal S1024x1024 .f32) (g b : Vec Ideal S1x1024 .f32)
    (w0 w1 w2 w3 l0 l1 l2 l3 : Vec Ideal S256x1024 .f32) (h0 : Holds Z r0 w0) (h1 : Holds Z r1 w1) (h2 : Holds Z r2 w2) (h3 : Holds Z r3 w3)
    (e0 : l0 = k0_pay86 (v.readCov (four w0 w1 w2 w3) r0.toLoadRect) g b)
    (e1 : l1 = k0_pay86 (v.readCov (⟨r0, l0⟩ :: four w0 w1 w2 w3) r1.toLoadRect) g b)
    (e2 : l2 = k0_pay86 (v.readCov (⟨r1, l1⟩ :: ⟨r0, l0⟩ :: four w0 w1 w2 w3) r2.toLoadRect) g b)
    (e3 : l3 = k0_pay86 (v.readCov (⟨r2, l2⟩ :: ⟨r1, l1⟩ :: ⟨r0, l0⟩ :: four w0 w1 w2 w3) r3.toLoadRect) g b) (y : S1024x1024.Idx) :
    View.canon (four l0 l1 l2 l3 ++ four w0 w1 w2 w3) y = normedBlock Z g b y := by
  obtain ⟨k0, k1, k2, k3⟩ := block_tiles v Z g b w0 w1 w2 w3 l0 l1 l2 l3 h0 h1 h2 h3 e0 e1 e2 e3
  exact canon_four (normedBlock Z g b) l0 l1 l2 l3 k0 k1 k2 k3 _ y

/-- The mixed rows of a tile, from the blocks' rows `o` on, hold the rows of the mixed block. -/
theorem mixed_tile (x0 x1 : Vec Ideal S1024x512 .bf16) (x2 : Vec Ideal S1024x1024 .f32) (x3 x4 : Vec Ideal S512x1024 .bf16) (o : ℕ)
    (h : ∀ a, (![o, 0] : Fin 2 → ℕ) a + S256x1024.size a ≤ S1024x1024.size a) (h' : ∀ a, (![o, 0] : Fin 2 → ℕ) a + S256x512.size a ≤ S1024x512.size a) :
    Holds (mixedBlock x0 x1 x2 x3 x4) (Rect.unit (s := S1024x1024) ![o, 0] S256x1024.size h)
      (k0_pay7 (View.ld x2 (Rect.unit (s := S1024x1024) ![o, 0] S256x1024.size h)) (View.ld x0 (Rect.unit (s := S1024x512) ![o, 0] S256x512.size h'))
        (View.ld x3 (Rect.unit (s := S512x1024) ![0, 0] S512x1024.size inb_S512x1024_S512x1024_0_0))
        (View.ld x1 (Rect.unit (s := S1024x512) ![o, 0] S256x512.size h'))
        (View.ld x4 (Rect.unit (s := S512x1024) ![0, 0] S512x1024.size inb_S512x1024_S512x1024_0_0))) := by
  intro y
  refine (pay7_apply _ _ _ _ _ y).trans ?_
  unfold mixedBlock mixed
  have ea : ∀ k : Fin 512, (Rect.unit (s := S1024x512) ![o, 0] S256x512.size h').idx (ix2 (n0 := 256) (n1 := 512) (y 0) k)
      = ix2 (n0 := 1024) (n1 := 512) ((Rect.unit (s := S1024x1024) ![o, 0] S256x1024.size h).emb y 0) k := fun k => by
    funext a
    match a with
    | ⟨0, _⟩ => rfl
    | ⟨1, _⟩ => exact Fin.ext (by show 0 + 1 * k.val = k.val; omega)
  have ew : ∀ k : Fin 512, (Rect.unit (s := S512x1024) ![0, 0] S512x1024.size inb_S512x1024_S512x1024_0_0).idx (ix2 (n0 := 512) (n1 := 1024) k (y 1))
      = ix2 (n0 := 512) (n1 := 1024) k ((Rect.unit (s := S1024x1024) ![o, 0] S256x1024.size h).emb y 1) := fun k => by
    funext a
    match a with
    | ⟨0, _⟩ => exact Fin.ext (by show 0 + 1 * k.val = k.val; omega)
    | ⟨1, _⟩ => rfl
  refine congrArg₂ (· + ·) (congrArg₂ (· + ·) rfl ?_) ?_
  · exact Finset.sum_congr rfl fun k _ => congrArg₂ (· * ·) (congrArg (x0 : S1024x512.Idx → EReal) (ea k)) (congrArg (x3 : S512x1024.Idx → EReal) (ew k))
  · exact Finset.sum_congr rfl fun k _ => congrArg₂ (· * ·) (congrArg (x1 : S1024x512.Idx → EReal) (ea k)) (congrArg (x4 : S512x1024.Idx → EReal) (ew k))

/-- A load of a whole row is the row. -/
theorem ld_row (x : Vec Ideal S1x1024 .f32) : View.ld x (Rect.unit (s := S1x1024) ![0, 0] S1x1024.size inb_S1x1024_S1x1024_0_0) = x := by
  funext y
  refine congrArg (x : S1x1024.Idx → EReal) (funext fun a => Fin.ext ?_)
  match a with
  | ⟨0, _⟩ => show 0 + 1 * (y 0).val = (y 0).val; omega
  | ⟨1, _⟩ => show 0 + 1 * (y 1).val = (y 1).val; omega

end Cert.Kernel3Ideal.Out

end
-- ==== Proof.Out.Points.lean ====
/- What either case of the output projection's body leaves in the block of normed rows. -/
module

public import proofs.«01_k».proof.Proof.Out.Tiles

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- At the first point the body leaves the block's mixed rows, normed. -/
theorem out_A (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1x128 .f32) (harg9 : arg9.IsWhole) (arg10 : Memref sig .tc .vmem S1024x1024 .f32) (harg10 : arg10.IsWhole) (arg11 : Memref sig .tc .vmem S4x8x256 .f32) (harg11 : arg11.IsWhole) (arg12 : Memref sig .tc .vmem S1024x128 .f32) (harg12 : arg12.IsWhole) (arg13 : Memref sig .tc .vmem S4x8x128 .i32) (harg13 : arg13.IsWhole) (arg14 : Memref sig .tc .vmem S8x128 .i32) (harg14 : arg14.IsWhole) (arg15 : Memref sig .tc .vmem S1x128 .f32) (harg15 : arg15.IsWhole) (hc0 : cond0_0 i)
    (x0 : Vec Ideal S1024x512 .bf16) (x1 : Vec Ideal S1024x512 .bf16) (x2 : Vec Ideal S1024x1024 .f32) (x3 : Vec Ideal S512x1024 .bf16) (x4 : Vec Ideal S512x1024 .bf16) (x5 : Vec Ideal S1x1024 .f32) (x6 : Vec Ideal S1x1024 .f32) (x7 : Vec Ideal S1024x128 .bf16) (x8 : Vec Ideal S1x128 .f32) (y : S1024x1024.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y = normedBlock (mixedBlock x0 x1 x2 x3 x4) x5 x6 y := by
  unfold out0_A_9
  refine (congrFun (View.read_writes_junk_eq_canon _ _) y).trans ?_
  have eg : View.readAt (Elt Ideal) arg6.view (Rect.unit ![0, 0] S1x1024.size inb_S1x1024_S1x1024_0_0).toLoadRect (harg6.unread x5) = x5 := by
    rw [View.readAt_eq_ld, Memref.IsWhole.read_unread, ld_row]
  have eb : View.readAt (Elt Ideal) arg7.view (Rect.unit ![0, 0] S1x1024.size inb_S1x1024_S1x1024_0_0).toLoadRect (harg7.unread x6) = x6 := by
    rw [View.readAt_eq_ld, Memref.IsWhole.read_unread, ld_row]
  have hw : ∀ (o : ℕ) (h : ∀ a, (![o, 0] : Fin 2 → ℕ) a + S256x1024.size a ≤ S1024x1024.size a) (h' : ∀ a, (![o, 0] : Fin 2 → ℕ) a + S256x512.size a ≤ S1024x512.size a),
      Holds (mixedBlock x0 x1 x2 x3 x4) (Rect.unit (s := S1024x1024) ![o, 0] S256x1024.size h)
        (k0_pay7 (View.readAt (Elt Ideal) arg3.view (Rect.unit (s := S1024x1024) ![o, 0] S256x1024.size h).toLoadRect (harg3.unread x2))
          (View.readAt (Elt Ideal) arg1.view (Rect.unit (s := S1024x512) ![o, 0] S256x512.size h').toLoadRect (harg1.unread x0))
          (View.readAt (Elt Ideal) arg4.view (Rect.unit ![0, 0] S512x1024.size inb_S512x1024_S512x1024_0_0).toLoadRect (harg4.unread x3))
          (View.readAt (Elt Ideal) arg2.view (Rect.unit (s := S1024x512) ![o, 0] S256x512.size h').toLoadRect (harg2.unread x1))
          (View.readAt (Elt Ideal) arg5.view (Rect.unit ![0, 0] S512x1024.size inb_S512x1024_S512x1024_0_0).toLoadRect (harg5.unread x4))) := fun o h h' => by
    rw [View.readAt_eq_ld, View.readAt_eq_ld, View.readAt_eq_ld, View.readAt_eq_ld, View.readAt_eq_ld, Memref.IsWhole.read_unread, Memref.IsWhole.read_unread,
      Memref.IsWhole.read_unread, Memref.IsWhole.read_unread, Memref.IsWhole.read_unread]
    exact mixed_tile x0 x1 x2 x3 x4 o h h'
  have e := block_apply arg10.view (mixedBlock x0 x1 x2 x3 x4)
    (View.readAt (Elt Ideal) arg6.view (Rect.unit ![0, 0] S1x1024.size inb_S1x1024_S1x1024_0_0).toLoadRect (harg6.unread x5))
    (View.readAt (Elt Ideal) arg7.view (Rect.unit ![0, 0] S1x1024.size inb_S1x1024_S1x1024_0_0).toLoadRect (harg7.unread x6)) _ _ _ _ _ _ _ _
    (hw 0 inb_S1024x1024_S256x1024_0_0 inb_S1024x512_S256x512_0_0) (hw 256 inb_S1024x1024_S256x1024_256_0 inb_S1024x512_S256x512_256_0)
    (hw 512 inb_S1024x1024_S256x1024_512_0 inb_S1024x512_S256x512_512_0) (hw 768 inb_S1024x1024_S256x1024_768_0 inb_S1024x512_S256x512_768_0)
    rfl rfl rfl rfl y
  refine Eq.trans ?_ (e.trans (congrArg₂ (fun g b => normedBlock (mixedBlock x0 x1 x2 x3 x4) g b y) eg eb))
  rfl

/-- At every later point the body leaves the block's mixed rows, normed. -/
theorem out_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1x128 .f32) (harg9 : arg9.IsWhole) (arg10 : Memref sig .tc .vmem S1024x1024 .f32) (harg10 : arg10.IsWhole) (arg11 : Memref sig .tc .vmem S4x8x256 .f32) (harg11 : arg11.IsWhole) (arg12 : Memref sig .tc .vmem S1024x128 .f32) (harg12 : arg12.IsWhole) (arg13 : Memref sig .tc .vmem S4x8x128 .i32) (harg13 : arg13.IsWhole) (arg14 : Memref sig .tc .vmem S8x128 .i32) (harg14 : arg14.IsWhole) (arg15 : Memref sig .tc .vmem S1x128 .f32) (harg15 : arg15.IsWhole) (hc0 : ¬cond0_0 i)
    (x0 : Vec Ideal S1024x512 .bf16) (x1 : Vec Ideal S1024x512 .bf16) (x2 : Vec Ideal S1024x1024 .f32) (x3 : Vec Ideal S512x1024 .bf16) (x4 : Vec Ideal S512x1024 .bf16) (x5 : Vec Ideal S1x1024 .f32) (x6 : Vec Ideal S1x1024 .f32) (x7 : Vec Ideal S1024x128 .bf16) (x8 : Vec Ideal S1x128 .f32) (xs0 : Vec Ideal S1x128 .f32) (y : S1024x1024.Idx) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 y = normedBlock (mixedBlock x0 x1 x2 x3 x4) x5 x6 y := by
  unfold out0_B_9
  refine (congrFun (View.read_writes_junk_eq_canon _ _) y).trans ?_
  have eg : View.readAt (Elt Ideal) arg6.view (Rect.unit ![0, 0] S1x1024.size inb_S1x1024_S1x1024_0_0).toLoadRect (harg6.unread x5) = x5 := by
    rw [View.readAt_eq_ld, Memref.IsWhole.read_unread, ld_row]
  have eb : View.readAt (Elt Ideal) arg7.view (Rect.unit ![0, 0] S1x1024.size inb_S1x1024_S1x1024_0_0).toLoadRect (harg7.unread x6) = x6 := by
    rw [View.readAt_eq_ld, Memref.IsWhole.read_unread, ld_row]
  have hw : ∀ (o : ℕ) (h : ∀ a, (![o, 0] : Fin 2 → ℕ) a + S256x1024.size a ≤ S1024x1024.size a) (h' : ∀ a, (![o, 0] : Fin 2 → ℕ) a + S256x512.size a ≤ S1024x512.size a),
      Holds (mixedBlock x0 x1 x2 x3 x4) (Rect.unit (s := S1024x1024) ![o, 0] S256x1024.size h)
        (k0_pay7 (View.readAt (Elt Ideal) arg3.view (Rect.unit (s := S1024x1024) ![o, 0] S256x1024.size h).toLoadRect (harg3.unread x2))
          (View.readAt (Elt Ideal) arg1.view (Rect.unit (s := S1024x512) ![o, 0] S256x512.size h').toLoadRect (harg1.unread x0))
          (View.readAt (Elt Ideal) arg4.view (Rect.unit ![0, 0] S512x1024.size inb_S512x1024_S512x1024_0_0).toLoadRect (harg4.unread x3))
          (View.readAt (Elt Ideal) arg2.view (Rect.unit (s := S1024x512) ![o, 0] S256x512.size h').toLoadRect (harg2.unread x1))
          (View.readAt (Elt Ideal) arg5.view (Rect.unit ![0, 0] S512x1024.size inb_S512x1024_S512x1024_0_0).toLoadRect (harg5.unread x4))) := fun o h h' => by
    rw [View.readAt_eq_ld, View.readAt_eq_ld, View.readAt_eq_ld, View.readAt_eq_ld, View.readAt_eq_ld, Memref.IsWhole.read_unread, Memref.IsWhole.read_unread,
      Memref.IsWhole.read_unread, Memref.IsWhole.read_unread, Memref.IsWhole.read_unread]
    exact mixed_tile x0 x1 x2 x3 x4 o h h'
  have e := block_apply arg10.view (mixedBlock x0 x1 x2 x3 x4)
    (View.readAt (Elt Ideal) arg6.view (Rect.unit ![0, 0] S1x1024.size inb_S1x1024_S1x1024_0_0).toLoadRect (harg6.unread x5))
    (View.readAt (Elt Ideal) arg7.view (Rect.unit ![0, 0] S1x1024.size inb_S1x1024_S1x1024_0_0).toLoadRect (harg7.unread x6)) _ _ _ _ _ _ _ _
    (hw 0 inb_S1024x1024_S256x1024_0_0 inb_S1024x512_S256x512_0_0) (hw 256 inb_S1024x1024_S256x1024_256_0 inb_S1024x512_S256x512_256_0)
    (hw 512 inb_S1024x1024_S256x1024_512_0 inb_S1024x512_S256x512_512_0) (hw 768 inb_S1024x1024_S256x1024_768_0 inb_S1024x512_S256x512_768_0)
    rfl rfl rfl rfl y
  refine Eq.trans ?_ (e.trans (congrArg₂ (fun g b => normedBlock (mixedBlock x0 x1 x2 x3 x4) g b y) eg eb))
  rfl

end Cert.Kernel3Ideal.Out

end
-- ==== Proof.Out.Result.lean ====
/- The output projection's normed rows, entry by entry, from the arguments. -/
module

public import proofs.«01_k».proof.Proof.Out.Points
public import Idealize.ShloMosaic.Lib.KernelVsHost

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open Idealize.ShloMosaic.Pipeline (Dat Cfg Window)
open scoped BigOperators

/-- The mixed row `r`: the weighted residual plus the attention heads' outputs times the first 512 rows of the weights and the memory heads'
    times the last 512. -/
def mixedRow (a h : S32768x512.Idx → EReal) (x : S32768x1024.Idx → EReal) (w : S1024x1024.Idx → EReal) (r : Fin 32768) (d : Fin 1024) : EReal :=
  mixed (x (ix2 r d)) (fun k => a (ix2 r k)) (fun k => w (ix2 ⟨k.val, by omega⟩ d)) (fun k => h (ix2 r k)) (fun k => w (ix2 ⟨512 + k.val, by omega⟩ d))

/-- The result: every mixed row, normed, scaled and shifted. -/
def normed (a h : S32768x512.Idx → EReal) (x : S32768x1024.Idx → EReal) (w : S1024x1024.Idx → EReal) (g b : S1024.Idx → EReal) : S32768x1024.Idx → EReal := fun i =>
  lnRow (mixedRow a h x w (i 0)) (fun d => g (ix1 d)) (fun d => b (ix1 d)) (i 1)

section
variable (m : (ℓ : Loc nD τ sig) → Buf (Elt Ideal) ℓ)

/-- The argument holding the attention heads' outputs, -/
abbrev aArg (c : Dev nD) : S32768x512.Idx → EReal := m ((c.tc : Thread nD τ).loc main_arg0)
/-- the memory heads' outputs, -/
abbrev hArg (c : Dev nD) : S32768x512.Idx → EReal := m ((c.tc : Thread nD τ).loc main_arg1)
/-- the layer's rows, -/
abbrev xArg (c : Dev nD) : S32768x1024.Idx → EReal := m ((c.tc : Thread nD τ).loc main_arg2)
/-- the weights, -/
abbrev wArg (c : Dev nD) : S1024x1024.Idx → EReal := m ((c.tc : Thread nD τ).loc main_arg3)
/-- the norm's scale -/
abbrev gArg (c : Dev nD) : S1024.Idx → EReal := m ((c.tc : Thread nD τ).loc main_arg4)
/-- and the norm's shift. -/
abbrev bArg (c : Dev nD) : S1024.Idx → EReal := m ((c.tc : Thread nD τ).loc main_arg5)

/-- The matrix that the region finds for the attention heads: the first 512 rows of the weights. -/
theorem V_wa (c : Dev nD) : (V m c main_v1 : S512x1024.Idx → EReal)
    = extractStridedSlice S512x1024 ![0, 0] (truncf (F := Ideal) .bf16 (wArg m c : FVec Ideal S1024x1024 .f32) bitsLt_bf16_f32) slices_S1024x1024_S512x1024_0_0 := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The matrix that the region finds for the memory heads: the last 512 rows of the weights. -/
theorem V_wm (c : Dev nD) : (V m c main_v2 : S512x1024.Idx → EReal)
    = extractStridedSlice S512x1024 ![512, 0] (truncf (F := Ideal) .bf16 (wArg m c : FVec Ideal S1024x1024 .f32) bitsLt_bf16_f32) slices_S1024x1024_S512x1024_512_0 := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The row that the region finds for the norm's scale. -/
theorem V_g (c : Dev nD) : (V m c main_v3 : S1x1024.Idx → EReal) = broadcastInDim S1x1024 ![1] bcast_S1024_S1x1024_1 (gArg m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The row that the region finds for the norm's shift. -/
theorem V_b (c : Dev nD) : (V m c main_v4 : S1x1024.Idx → EReal) = broadcastInDim S1x1024 ![1] bcast_S1024_S1x1024_1 (bArg m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The index maps of the row windows at a point: block `t`. -/
theorem tr_0 : ∀ t : Fin grid0.N, cc0_transform_0 (grid0.coords t) = ![t.val, 0] := by decide +kernel
theorem tr_1 : ∀ t : Fin grid0.N, cc0_transform_1 (grid0.coords t) = ![t.val, 0] := by decide +kernel
theorem tr_2 : ∀ t : Fin grid0.N, cc0_transform_2 (grid0.coords t) = ![t.val, 0] := by decide +kernel
theorem tr_9 : ∀ t : Fin grid0.N, cc0_transform_9 (grid0.coords t) = ![t.val, 0] := by decide +kernel

/-- The grid has 32 points. -/
theorem pt_lt (t : Fin cfg0.N) : t.val < 32 := lt_of_lt_of_eq t.isLt (by decide : grid0.N = 32)

/-- Row `r` of block `t`. -/
abbrev row (t : Fin cfg0.N) (r : Fin 1024) : Fin 32768 := ⟨t.val * 1024 + r.val, by have := pt_lt t; have := r.isLt; omega⟩

/-- The attention heads' block at a point. -/
theorem blk_a (c : Dev nD) (t : Fin cfg0.N) (r : Fin 1024) (k : Fin 512) :
    (iblk m c 0 t : S1024x512.Idx → EReal) (ix2 r k) = aArg m c (ix2 (row t r) k) := by
  have hV : V m c (Pipeline.arrRef spec0 0) = m ((c.tc : Thread nD τ).loc main_arg0) := V_main_arg0 m c
  unfold iblk
  rw [hV]
  refine congrArg (aArg m c) (funext fun a => Fin.ext ?_)
  match a with
  | ⟨0, _⟩ =>
    show cc0_transform_0 (grid0.coords t) 0 * 1024 + 1 * r.val = t.val * 1024 + r.val
    rw [tr_0 t, Nat.one_mul]; rfl
  | ⟨1, _⟩ =>
    show cc0_transform_0 (grid0.coords t) 1 * 512 + 1 * k.val = k.val
    rw [tr_0 t, Nat.one_mul]; exact Nat.zero_add _

/-- The memory heads' block at a point. -/
theorem blk_h (c : Dev nD) (t : Fin cfg0.N) (r : Fin 1024) (k : Fin 512) :
    (iblk m c 1 t : S1024x512.Idx → EReal) (ix2 r k) = hArg m c (ix2 (row t r) k) := by
  have hV : V m c (Pipeline.arrRef spec0 1) = m ((c.tc : Thread nD τ).loc main_arg1) := V_main_arg1 m c
  unfold iblk
  rw [hV]
  refine congrArg (hArg m c) (funext fun a => Fin.ext ?_)
  match a with
  | ⟨0, _⟩ =>
    show cc0_transform_1 (grid0.coords t) 0 * 1024 + 1 * r.val = t.val * 1024 + r.val
    rw [tr_1 t, Nat.one_mul]; rfl
  | ⟨1, _⟩ =>
    show cc0_transform_1 (grid0.coords t) 1 * 512 + 1 * k.val = k.val
    rw [tr_1 t, Nat.one_mul]; exact Nat.zero_add _

/-- The layer's rows' block at a point. -/
theorem blk_x (c : Dev nD) (t : Fin cfg0.N) (r : Fin 1024) (k : Fin 1024) :
    (iblk m c 2 t : S1024x1024.Idx → EReal) (ix2 r k) = xArg m c (ix2 (row t r) k) := by
  have hV : V m c (Pipeline.arrRef spec0 2) = m ((c.tc : Thread nD τ).loc main_arg2) := V_main_arg2 m c
  unfold iblk
  rw [hV]
  refine congrArg (xArg m c) (funext fun a => Fin.ext ?_)
  match a with
  | ⟨0, _⟩ =>
    show cc0_transform_2 (grid0.coords t) 0 * 1024 + 1 * r.val = t.val * 1024 + r.val
    rw [tr_2 t, Nat.one_mul]; rfl
  | ⟨1, _⟩ =>
    show cc0_transform_2 (grid0.coords t) 1 * 1024 + 1 * k.val = k.val
    rw [tr_2 t, Nat.one_mul]; exact Nat.zero_add _

/-- The attention heads' matrix at a point: the first 512 rows of the weights. -/
theorem blk_wa (c : Dev nD) (t : Fin cfg0.N) (k : Fin 512) (f : Fin 1024) :
    (iblk m c 3 t : S512x1024.Idx → EReal) (ix2 k f) = wArg m c (ix2 ⟨k.val, by have := k.isLt; omega⟩ f) := by
  have e : (iblk m c 3 t : S512x1024.Idx → EReal) (ix2 k f) = (V m c main_v1 : S512x1024.Idx → EReal) (ix2 k f) := by
    unfold iblk
    refine congrArg (V m c main_v1 : S512x1024.Idx → EReal) (funext fun a => Fin.ext ?_)
    match a with
    | ⟨0, _⟩ => show 0 * 512 + 1 * k.val = k.val; omega
    | ⟨1, _⟩ => show 0 * 1024 + 1 * f.val = f.val; omega
  rw [e, V_wa]
  refine extractStridedSlice_apply ![0, 0] (wArg m c) slices_S1024x1024_S512x1024_0_0 _ _ fun a => ?_
  match a with
  | ⟨0, _⟩ => show k.val = 0 + k.val; omega
  | ⟨1, _⟩ => show f.val = 0 + f.val; omega

/-- The memory heads' matrix at a point: the last 512 rows of the weights. -/
theorem blk_wm (c : Dev nD) (t : Fin cfg0.N) (k : Fin 512) (f : Fin 1024) :
    (iblk m c 4 t : S512x1024.Idx → EReal) (ix2 k f) = wArg m c (ix2 ⟨512 + k.val, by have := k.isLt; omega⟩ f) := by
  have e : (iblk m c 4 t : S512x1024.Idx → EReal) (ix2 k f) = (V m c main_v2 : S512x1024.Idx → EReal) (ix2 k f) := by
    unfold iblk
    refine congrArg (V m c main_v2 : S512x1024.Idx → EReal) (funext fun a => Fin.ext ?_)
    match a with
    | ⟨0, _⟩ => show 0 * 512 + 1 * k.val = k.val; omega
    | ⟨1, _⟩ => show 0 * 1024 + 1 * f.val = f.val; omega
  rw [e, V_wm]
  refine extractStridedSlice_apply ![512, 0] (wArg m c) slices_S1024x1024_S512x1024_512_0 _ _ fun a => ?_
  match a with
  | ⟨0, _⟩ => rfl
  | ⟨1, _⟩ => show f.val = 0 + f.val; omega

/-- A vector as one row. -/
theorem as_row (v : S1024.Idx → EReal) (d : Fin 1024) : broadcastInDim S1x1024 ![1] bcast_S1024_S1x1024_1 v (ix2 (n0 := 1) 0 d) = v (ix1 d) := by
  refine broadcastInDim_apply _ _ _ _ _ fun a => ?_
  match a with
  | ⟨0, _⟩ => rfl

/-- The norm's scale at a point. -/
theorem blk_g (c : Dev nD) (t : Fin cfg0.N) (d : Fin 1024) : (iblk m c 5 t : S1x1024.Idx → EReal) (ix2 (n0 := 1) 0 d) = gArg m c (ix1 d) := by
  have e : (iblk m c 5 t : S1x1024.Idx → EReal) (ix2 (n0 := 1) 0 d) = (V m c main_v3 : S1x1024.Idx → EReal) (ix2 (n0 := 1) 0 d) := by
    unfold iblk
    refine congrArg (V m c main_v3 : S1x1024.Idx → EReal) (funext fun a => Fin.ext ?_)
    match a with
    | ⟨0, _⟩ => rfl
    | ⟨1, _⟩ => show 0 * 1024 + 1 * d.val = d.val; omega
  rw [e, V_g]
  exact as_row _ d

/-- The norm's shift at a point. -/
theorem blk_b (c : Dev nD) (t : Fin cfg0.N) (d : Fin 1024) : (iblk m c 6 t : S1x1024.Idx → EReal) (ix2 (n0 := 1) 0 d) = bArg m c (ix1 d) := by
  have e : (iblk m c 6 t : S1x1024.Idx → EReal) (ix2 (n0 := 1) 0 d) = (V m c main_v4 : S1x1024.Idx → EReal) (ix2 (n0 := 1) 0 d) := by
    unfold iblk
    refine congrArg (V m c main_v4 : S1x1024.Idx → EReal) (funext fun a => Fin.ext ?_)
    match a with
    | ⟨0, _⟩ => rfl
    | ⟨1, _⟩ => show 0 * 1024 + 1 * d.val = d.val; omega
  rw [e, V_b]
  exact as_row _ d

/-- The normed block at a point is the result's rows there. -/
theorem block_eq (c : Dev nD) (t : Fin cfg0.N) (y : S1024x1024.Idx) :
    normedBlock (mixedBlock (iblk m c 0 t) (iblk m c 1 t) (iblk m c 2 t) (iblk m c 3 t) (iblk m c 4 t)) (iblk m c 5 t) (iblk m c 6 t) y
      = normed (aArg m c) (hArg m c) (xArg m c) (wArg m c) (gArg m c) (bArg m c) (ix2 (n0 := 32768) (n1 := 1024) (row t (y 0)) (y 1)) := by
  have ez : (fun d => mixedBlock (iblk m c 0 t) (iblk m c 1 t) (iblk m c 2 t) (iblk m c 3 t) (iblk m c 4 t) (ix2 (n0 := 1024) (n1 := 1024) (y 0) d))
      = mixedRow (aArg m c) (hArg m c) (xArg m c) (wArg m c) (row t (y 0)) := funext fun d => by
    unfold mixedBlock mixedRow mixed
    refine congrArg₂ (· + ·) (congrArg₂ (· + ·) (congrArg (alpha * ·) (blk_x m c t (y 0) d)) ?_) ?_
    · exact Finset.sum_congr rfl fun k _ => congrArg₂ (· * ·) (blk_a m c t (y 0) k) (blk_wa m c t k d)
    · exact Finset.sum_congr rfl fun k _ => congrArg₂ (· * ·) (blk_h m c t (y 0) k) (blk_wm m c t k d)
  have eg : (fun d => (iblk m c 5 t : S1x1024.Idx → EReal) (ix2 (n0 := 1) 0 d)) = fun d => gArg m c (ix1 d) := funext fun d => blk_g m c t d
  have eb : (fun d => (iblk m c 6 t : S1x1024.Idx → EReal) (ix2 (n0 := 1) 0 d)) = fun d => bArg m c (ix1 d) := funext fun d => blk_b m c t d
  unfold normedBlock normed
  exact (congrArg (fun z => lnRow z _ _ (y 1)) ez).trans ((congrArg (fun g => lnRow _ g _ (y 1)) eg).trans (congrArg (fun b => lnRow _ _ b (y 1)) eb))

/-- Where the result's block lies. -/
theorem emb_9 (t : Fin cfg0.N) (y : S1024x1024.Idx) : (((cfg0.win 9).blk t).view.emb y : S32768x1024.Idx)
    = ix2 (n0 := 32768) (n1 := 1024) (row t (y 0)) (y 1) := by
  funext a
  match a with
  | ⟨0, _⟩ => exact Fin.ext (by
      show cc0_transform_9 (grid0.coords t) 0 * 1024 + 1 * (y 0).val = t.val * 1024 + (y 0).val
      rw [tr_9 t, Nat.one_mul]; rfl)
  | ⟨1, _⟩ => exact Fin.ext (by
      show cc0_transform_9 (grid0.coords t) 1 * 1024 + 1 * (y 1).val = (y 1).val
      rw [tr_9 t, Nat.one_mul]; exact Nat.zero_add _)

/-- What every point writes back is its block of the result. -/
theorem wrote_9 (c : Dev nD) (t : Fin cfg0.N) :
    (dats m 0 c).flushed 9 t
      = ((cfg0.win 9).blk t).view.read (Elt Ideal) (normed (aArg m c) (hArg m c) (xArg m c) (wArg m c) (gArg m c) (bArg m c)) := by
  by_cases h0 : t.val % 32 = 0
  · rw [Value.flushed9_A m c t h0]
    funext y
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      ((hcond0_0 t).mpr h0) (iblk m c 0 t) (iblk m c 1 t) (iblk m c 2 t) (iblk m c 3 t) (iblk m c 4 t) (iblk m c 5 t) (iblk m c 6 t) (iblk m c 7 t) (iblk m c 8 t) y).trans ?_
    exact (block_eq m c t y).trans (congrArg (normed (aArg m c) (hArg m c) (xArg m c) (wArg m c) (gArg m c) (bArg m c)) (emb_9 t y).symm)
  · rw [Value.flushed9_B m c t h0]
    funext y
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.2.2.2 y).trans ?_
    exact (block_eq m c t y).trans (congrArg (normed (aArg m c) (hArg m c) (xArg m c) (wArg m c) (gArg m c) (bArg m c)) (emb_9 t y).symm)

/-- The result's array after the run. -/
theorem arr_9 (c : Dev nD) :
    ((dats m 0 c).arrAt 9 cfg0.N : S32768x1024.Idx → EReal) = normed (aArg m c) (hArg m c) (xArg m c) (wArg m c) (gArg m c) (bArg m c) := by
  funext i
  have h0 : (i 0).val < 32768 := (i 0).isLt
  let t : Fin cfg0.N := ⟨(i 0).val / 1024, lt_of_lt_of_eq (by omega : (i 0).val / 1024 < 32) (by decide : grid0.N = 32).symm⟩
  have hi : i ∈ ((cfg0.win 9).blk t).view.set := by
    have e : (((cfg0.win 9).blk t).view.emb (ix2 (n0 := 1024) (n1 := 1024) ⟨(i 0).val % 1024, Nat.mod_lt _ (by decide)⟩ (i 1)) : S32768x1024.Idx) = i := by
      rw [emb_9]
      funext a
      match a with
      | ⟨0, _⟩ => exact Fin.ext (by show (i 0).val / 1024 * 1024 + (i 0).val % 1024 = (i 0).val; omega)
      | ⟨1, _⟩ => rfl
    rw [← e]
    exact View.emb_mem_set _ _
  exact (dats m 0 c).arrAt_apply_of_mem 9 (normed (aArg m c) (hArg m c) (xArg m c) (wArg m c) (gArg m c) (bArg m c)) (fun t _ => wrote_9 m c t) _ t _ t.isLt (flush0_9 t) hi

end

end Cert.Kernel3Ideal.Out

end
-- ==== Proof.Out.Norm.lean ====
/- The reference of the output projection: its normed rows are those of the kernel. -/
module

public import proofs.«01_k».proof.Proof.Out.Result
public import proofs.«01_k».proof.Proof.Gen.Reference3Ideal.Run
public import Idealize.ShloMosaic.Lib.StackMember
public import Idealize.ShloMosaic.Lib.IdealHost

@[expose] public section

set_option maxRecDepth 16384

noncomputable section

namespace Cert.Reference3Ideal.Out

open Idealize.ShloMosaic hiding ix1 ix2 ix3
open Idealize.ShloMosaic.ValueIdx
open scoped BigOperators
open Cert.Reference3Ideal Cert.Reference3Ideal.Gen
open Cert.Kernel3Ideal.Out (mean centred lnRow mixed mixedRow normed alpha width eps aArg hArg xArg wArg gArg bArg arr_9)

/-- The heads' outputs side by side. -/
def sides (a h : S32768x512.Idx → EReal) : S32768x1024.Idx → EReal :=
  concatenate S32768x1024 1 [⟨S32768x512, extf (F := Ideal) (φ := .bf16) .f32 a bitsLt_bf16_f32⟩, ⟨S32768x512, extf (F := Ideal) (φ := .bf16) .f32 h bitsLt_bf16_f32⟩] concatenates_S32768x512_S32768x512_S32768x1024_d1

/-- Its first 512 columns are the attention heads', -/
theorem sides_left (a h : S32768x512.Idx → EReal) (r : Fin 32768) (k : Fin 512) :
    sides a h (ix2 r (Fin.castAdd 512 k)) = a (ix2 r k) := by
  refine concatenate_pair_apply_left (t := S32768x1024) 1 a h _ _ rfl (ix2 (n0 := 32768) (n1 := 512) r k) fun b => ?_
  match b with
  | ⟨0, _⟩ => rfl
  | ⟨1, _⟩ => rfl

/-- and its last 512 the memory heads'. -/
theorem sides_right (a h : S32768x512.Idx → EReal) (r : Fin 32768) (k : Fin 512) :
    sides a h (ix2 r (Fin.natAdd 512 k)) = h (ix2 r k) := by
  refine concatenate_pair_apply_right (t := S32768x1024) 1 a h _ _ rfl rfl (ix2 (n0 := 32768) (n1 := 512) r k) (fun b hb => ?_) ?_
  · match b with
    | ⟨0, _⟩ => rfl
    | ⟨1, _⟩ => exact absurd rfl hb
  · exact Nat.add_comm _ _

/-- The mixed rows as the reference computes them. -/
def refMixed (a h : S32768x512.Idx → EReal) (x : S32768x1024.Idx → EReal) (w : S1024x1024.Idx → EReal) : S32768x1024.Idx → EReal :=
  addf (F := Ideal) (φ := .f32) (mulf (F := Ideal) (φ := .f32) (broadcastInDim S32768x1024 ![] bcast_S_S32768x1024 (constant (F := Ideal) S_ .f32 0x3F9837F0#32)) x)
    (Host.dotGeneral (F := Ideal) (φ₁ := .f32) (φ₂ := .f32) dot_S32768x1024_S1024x1024_S32768x1024_1_0_0_1_n_n none (sides a h) w)

/-- An entry of them: the sum over the 1024 columns side by side is the sum over the attention heads' and the one over the memory heads'. -/
theorem refMixed_apply (a h : S32768x512.Idx → EReal) (x : S32768x1024.Idx → EReal) (w : S1024x1024.Idx → EReal) (r : Fin 32768) (d : Fin 1024) :
    refMixed a h x w (ix2 r d) = mixedRow a h x w r d := by
  have e : Host.dotGeneral (F := Ideal) (φ₁ := .f32) (φ₂ := .f32) (DotDims.plain 32768 1024 1024) none (sides a h) w (ix2 r d)
      = (∑ k : Fin 512, a (ix2 r k) * w (ix2 ⟨k.val, by omega⟩ d)) + ∑ k : Fin 512, h (ix2 r k) * w (ix2 ⟨512 + k.val, by omega⟩ d) := by
    refine (StackMember.dotGeneral_plain_apply (m := 32768) (n := 1024) (k := 1024) (φ₁ := .f32) (φ₂ := .f32) none (sides a h) w r d).trans ?_
    refine (Fin.sum_univ_add (a := 512) (b := 512) fun k : Fin (512 + 512) => sides a h (ix2 r k) * w (ix2 k d)).trans ?_
    refine congrArg₂ (· + ·) (Finset.sum_congr rfl fun k _ => ?_) (Finset.sum_congr rfl fun k _ => ?_)
    · exact congrArg₂ (· * ·) (sides_left a h r k) rfl
    · exact congrArg₂ (· * ·) (sides_right a h r k) rfl
  refine (congrArg (alpha * x (ix2 r d) + ·) e).trans ?_
  unfold mixedRow mixed
  rw [add_assoc]

/-- The mean of every row, as the reference computes it. -/
def refMean (z : S32768x1024.Idx → EReal) : S32768x1.Idx → EReal :=
  Host.divf (F := Ideal) (φ := .f32) (broadcastInDim S32768x1 ![0] bcast_S32768_S32768x1_0
    (Host.reduceAdd (F := Ideal) (φ := .f32) z (constant (F := Ideal) S_ .f32 0x00000000#32) reducesTo_S32768x1024_S32768_d1 h_S_))
    (broadcastInDim S32768x1 ![] bcast_S_S32768x1 (constant (F := Ideal) S_ .f32 0x44800000#32))

/-- The inserted index of a row's sum. -/
theorem reduces_rows : (S32768x1024 : Shape).Reduces [1] S32768 := by decide

/-- An entry of the means. -/
theorem refMean_apply (z : S32768x1024.Idx → EReal) (r : Fin 32768) :
    refMean z (ix2 (n0 := 32768) (n1 := 1) r 0) = mean fun d => z (ix2 (n0 := 32768) (n1 := 1024) r d) := by
  have e : broadcastInDim S32768x1 ![0] bcast_S32768_S32768x1_0
      (Host.reduceAdd (F := Ideal) (φ := .f32) z (constant (F := Ideal) S_ .f32 0x00000000#32) reducesTo_S32768x1024_S32768_d1 h_S_) (ix2 (n0 := 32768) (n1 := 1) r 0)
      = ∑ k : Fin 1024, z (ix2 (n0 := 32768) (n1 := 1024) r k) := by
    refine (broadcastInDim_apply _ _ _ _ (ix1 (n := 32768) r) fun a => ?_).trans ?_
    · match a with
      | ⟨0, _⟩ => rfl
    · rw [hostReduceAdd_apply, Ideal.hostReduceAdd_single _ reduces_rows, constant_apply, Ideal.ofBits_zero_f32, zero_add]
      refine Finset.sum_congr rfl fun k _ => congrArg z (funext fun a => Fin.ext ?_)
      match a with
      | ⟨0, _⟩ => rfl
      | ⟨1, _⟩ => rfl
  exact congrArg (fun q => Ideal.div q width) e

/-- A column spread along its rows. -/
theorem refSpread_apply (v : S32768x1.Idx → EReal) (r : Fin 32768) (d : Fin 1024) :
    broadcastInDim S32768x1024 ![0, 1] bcast_S32768x1_S32768x1024_0_1 v (ix2 r d) = v (ix2 (n0 := 32768) (n1 := 1) r 0) := by
  refine broadcastInDim_apply _ _ _ _ _ fun a => ?_
  match a with
  | ⟨0, _⟩ => rfl
  | ⟨1, _⟩ => rfl

/-- A vector spread over all rows. -/
theorem refRow_apply (v : S1024.Idx → EReal) (r : Fin 32768) (d : Fin 1024) :
    broadcastInDim S32768x1024 ![0, 1] bcast_S1x1024_S32768x1024_0_1 (broadcastInDim S1x1024 ![1] bcast_S1024_S1x1024_1 v) (ix2 r d) = v (ix1 d) := by
  refine (broadcastInDim_apply _ _ _ _ (ix2 (n0 := 1) (n1 := 1024) 0 d) fun a => ?_).trans (broadcastInDim_apply _ _ _ _ _ fun a => ?_)
  · match a with
    | ⟨0, _⟩ => rfl
    | ⟨1, _⟩ => rfl
  · match a with
    | ⟨0, _⟩ => rfl

/-- The rows less their means, as the reference computes them. -/
def refCentred (z : S32768x1024.Idx → EReal) : S32768x1024.Idx → EReal :=
  subf (F := Ideal) (φ := .f32) z (broadcastInDim S32768x1024 ![0, 1] bcast_S32768x1_S32768x1024_0_1 (refMean z))

/-- An entry of them. -/
theorem refCentred_apply (z : S32768x1024.Idx → EReal) (r : Fin 32768) (d : Fin 1024) :
    refCentred z (ix2 r d) = centred (fun d => z (ix2 (n0 := 32768) (n1 := 1024) r d)) d :=
  congrArg (z (ix2 r d) - ·) ((refSpread_apply _ r d).trans (refMean_apply z r))

/-- The normed rows, as the reference computes them. -/
def refNorm (z : S32768x1024.Idx → EReal) (g b : S1024.Idx → EReal) : S32768x1024.Idx → EReal :=
  addf (F := Ideal) (φ := .f32) (mulf (F := Ideal) (φ := .f32) (mulf (F := Ideal) (φ := .f32) (refCentred z)
      (broadcastInDim S32768x1024 ![0, 1] bcast_S32768x1_S32768x1024_0_1 (Host.rsqrt (F := Ideal) (φ := .f32) (addf (F := Ideal) (φ := .f32)
        (refMean (mulf (F := Ideal) (φ := .f32) (refCentred z) (refCentred z))) (broadcastInDim S32768x1 ![] bcast_S_S32768x1 (constant (F := Ideal) S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- An entry of them. -/
theorem refNorm_apply (z : S32768x1024.Idx → EReal) (g b : S1024.Idx → EReal) (r : Fin 32768) (d : Fin 1024) :
    refNorm z g b (ix2 r d) = lnRow (fun d => z (ix2 (n0 := 32768) (n1 := 1024) r d)) (fun d => g (ix1 d)) (fun d => b (ix1 d)) d := by
  unfold lnRow
  refine congrArg₂ (· + ·) (congrArg₂ (· * ·) (congrArg₂ (· * ·) (refCentred_apply z r d) ?_) (refRow_apply g r d)) (refRow_apply b r d)
  refine (refSpread_apply _ r d).trans (congrArg (fun q => Ideal.rsqrt (q + eps)) ((refMean_apply _ r).trans (congrArg mean (funext fun k => ?_))))
  exact congrArg₂ (· * ·) (refCentred_apply z r k) (refCentred_apply z r k)

/-- The reference's result is the kernel's. -/
theorem ref_eq (a h : S32768x512.Idx → EReal) (x : S32768x1024.Idx → EReal) (w : S1024x1024.Idx → EReal) (g b : S1024.Idx → EReal) :
    refNorm (refMixed a h x w) g b = normed a h x w g b := by
  funext i
  have e : i = ix2 (n0 := 32768) (n1 := 1024) (i 0) (i 1) := by funext a; match a with | ⟨0, _⟩ => rfl | ⟨1, _⟩ => rfl
  rw [e]
  refine (refNorm_apply _ g b (i 0) (i 1)).trans ?_
  exact congrArg (fun z => lnRow z (fun d => g (ix1 d)) (fun d => b (ix1 d)) (i 1)) (funext fun d => refMixed_apply a h x w (i 0) d)

/-- What the reference's run leaves is the normed rows of the mixed rows of its arguments. -/
theorem res_eq (m : (ℓ : Loc nD τ sig) → Buf (Elt Ideal) ℓ) (c : Dev nD) :
    Cert.Reference3Ideal.Value.res_main_v30 m c
      = refNorm (refMixed (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) := by
  unfold Cert.Reference3Ideal.Value.res_main_v30 refNorm refCentred refMean refMixed sides
  rfl

end Cert.Reference3Ideal.Out

end
-- ==== Proof.Out.Pick.lean ====
/- The greatest entries of a column, taken one after the other: the column's greatest entry, then the greatest of the column without the
   first place that holds it, and so on. They are the entries of the column in falling order. -/
module

public import Idealize.ShloMosaic.PureOps.Ideal
public import Idealize.ShloMosaic.Lib.SortFacts

@[expose] public section

noncomputable section

namespace Cert.Kernel3Ideal.Out

open Idealize.ShloMosaic

/-- The greatest entry of a column. -/
def greatest (f : Fin 32 → EReal) : EReal := Finset.univ.sup f

/-- The number of the first place that holds the greatest entry, the places numbered by `n`. -/
def firstPlace (n : Fin 32 → EReal) (t : EReal) (f : Fin 32 → EReal) : EReal :=
  Finset.univ.inf fun e => if f e = greatest f then n e else t

/-- The column without its first greatest entry. -/
def dropped (n : Fin 32 → EReal) (t : EReal) (f : Fin 32 → EReal) : Fin 32 → EReal := fun e =>
  if n e = firstPlace n t f then ⊥ else f e

/-- One place that holds the greatest entry is emptied. -/
theorem dropped_eq (n : Fin 32 → EReal) (t : EReal) (hn : Function.Injective n) (ht : ∀ e, n e < t) (f : Fin 32 → EReal) :
    ∃ e1, f e1 = greatest f ∧ ∀ e, dropped n t f e = if e = e1 then ⊥ else f e := by
  obtain ⟨e0, _, h0⟩ := Finset.exists_mem_eq_sup (Finset.univ : Finset (Fin 32)) ⟨0, Finset.mem_univ _⟩ f
  obtain ⟨e1, _, h1⟩ := Finset.exists_mem_eq_inf (Finset.univ : Finset (Fin 32)) ⟨0, Finset.mem_univ _⟩ fun e => if f e = greatest f then n e else t
  have hle : firstPlace n t f ≤ n e0 := by
    refine (Finset.inf_le (Finset.mem_univ e0)).trans (le_of_eq ?_)
    exact if_pos h0.symm
  have hg : f e1 = greatest f := by
    by_contra hne
    have : firstPlace n t f = t := h1.trans (if_neg hne)
    rw [this] at hle
    exact absurd (ht e0) (not_lt.mpr hle)
  have hf : firstPlace n t f = n e1 := h1.trans (if_pos hg)
  refine ⟨e1, hg, fun e => ?_⟩
  unfold dropped
  rw [hf]
  by_cases he : e = e1
  · rw [if_pos he, if_pos (congrArg n he)]
  · rw [if_neg he, if_neg fun h => he (hn h)]

/-- The column `v` with its first `k` entries emptied, in some order. -/
def Rest (v : Fin 32 → EReal) (k : ℕ) (f : Fin 32 → EReal) : Prop :=
  ∃ τ : Equiv.Perm (Fin 32), ∀ e, f e = if (τ e).val < k then ⊥ else v (τ e)

/-- The greatest of what is left of a falling column is its next entry. -/
theorem greatest_rest (v : Fin 32 → EReal) (hv : ∀ i j, i ≤ j → v j ≤ v i) (k : Fin 32) (f : Fin 32 → EReal) (h : Rest v k.val f) : greatest f = v k := by
  obtain ⟨τ, hτ⟩ := h
  refine le_antisymm (Finset.sup_le fun e _ => ?_) ?_
  · rw [hτ e]
    split
    · exact bot_le
    · exact hv _ _ (Fin.le_def.mpr (not_lt.mp ‹_›))
  · have e : f (τ.symm k) = v k := by rw [hτ, Equiv.apply_symm_apply, if_neg (lt_irrefl _)]
    rw [← e]
    exact Finset.le_sup (Finset.mem_univ _)

/-- What is left after the next entry is taken too. -/
theorem rest_dropped (n : Fin 32 → EReal) (t : EReal) (hn : Function.Injective n) (ht : ∀ e, n e < t) (v : Fin 32 → EReal)
    (hv : ∀ i j, i ≤ j → v j ≤ v i) (k : Fin 32) (f : Fin 32 → EReal) (h : Rest v k.val f) : Rest v (k.val + 1) (dropped n t f) := by
  have hg := greatest_rest v hv k f h
  obtain ⟨e1, h1, hd⟩ := dropped_eq n t hn ht f
  obtain ⟨τ, hτ⟩ := h
  have h1v : f e1 = v k := h1.trans hg
  refine ⟨τ.trans (Equiv.swap (τ e1) k), fun e => ?_⟩
  rw [hd e, Equiv.trans_apply]
  by_cases he : e = e1
  · rw [if_pos he, he, Equiv.swap_apply_left, if_pos (Nat.lt_succ_self _)]
  · rw [if_neg he]
    have hne : τ e ≠ τ e1 := fun h => he (τ.injective h)
    by_cases hk : τ e = k
    · rw [hk, Equiv.swap_apply_right]
      have hfe : f e = v k := by rw [hτ e, hk, if_neg (lt_irrefl _)]
      have h2 : (τ e1).val ≠ k.val := fun h => hne (hk.trans (Fin.ext h).symm)
      rw [hfe, ← h1v, hτ e1]
      by_cases hlt : (τ e1).val < k.val
      · rw [if_pos hlt, if_pos (Nat.lt_succ_of_lt hlt)]
      · rw [if_neg hlt, if_neg (by omega)]
    · rw [Equiv.swap_apply_of_ne_of_ne hne hk, hτ e]
      have h2 : (τ e).val ≠ k.val := fun h => hk (Fin.ext h)
      by_cases hlt : (τ e).val < k.val
      · rw [if_pos hlt, if_pos (Nat.lt_succ_of_lt hlt)]
      · rw [if_neg hlt, if_neg (by omega)]

/-- The order in which the reference's sort places a column. -/
def falling (f : Fin 32 → EReal) : Fin 32 → Fin 32 :=
  sortedFrom fun k k' => FloatOps.cmpfTotal (F := Ideal) (φ := .f32) .gt (f k) (f k') == 1#1

/-- The comparison it asks. -/
theorem above_iff (a b : EReal) : (FloatOps.cmpfTotal (F := Ideal) (φ := .f32) .gt a b == 1#1) = decide (b < a) := by
  have e : FloatOps.cmpfTotal (F := Ideal) (φ := .f32) .gt a b = BitVec.ofBool (decide (b < a)) := rfl
  rw [e]
  cases decide (b < a) <;> rfl

/-- In that order the entries fall, -/
theorem falling_le (f : Fin 32 → EReal) (i j : Fin 32) (hij : i ≤ j) : f (falling f j) ≤ f (falling f i) := by
  rcases eq_or_lt_of_le hij with rfl | hlt
  · exact le_rfl
  have := sortedFrom_noInversion (fun k k' => FloatOps.cmpfTotal (F := Ideal) (φ := .f32) .gt (f k) (f k') == 1#1)
    (fun k k' => FloatOps.cmpfTotal (F := Ideal) (φ := .f32) .gt (f k) (f k') == 1#1)
    (fun a b h => by rw [above_iff] at h ⊢; exact decide_eq_false (not_lt.mpr (le_of_lt (of_decide_eq_true h))))
    (fun a b h => h)
    (fun a b c h h' => by
      rw [above_iff] at h h' ⊢
      exact decide_eq_false (not_lt.mpr ((not_lt.mp (of_decide_eq_false h)).trans (not_lt.mp (of_decide_eq_false h')))))
    i j hlt
  rw [above_iff] at this
  exact not_lt.mp (of_decide_eq_false this)

/-- A column is its entries in another order, nothing taken. -/
theorem rest_perm (f : Fin 32 → EReal) (σ : Fin 32 → Fin 32) (hb : Function.Bijective σ) : Rest (fun i => f (σ i)) 0 f := by
  obtain ⟨g, hl, hr⟩ := Function.bijective_iff_has_inverse.mp hb
  refine ⟨⟨g, σ, hr, hl⟩, fun e => ?_⟩
  rw [if_neg (Nat.not_lt_zero _)]
  exact congrArg f (hr e).symm

/-- and it takes every entry once: nothing is taken from the column at first. -/
theorem rest_start (f : Fin 32 → EReal) : Rest (fun i => f (falling f i)) 0 f :=
  rest_perm f (falling f) ⟨sortedFrom_injective _, sortedFrom_surjective _⟩

/-- The column after `k` entries are taken. -/
def after (n : Fin 32 → EReal) (t : EReal) (f : Fin 32 → EReal) : ℕ → Fin 32 → EReal
  | 0 => f
  | k + 1 => dropped n t (after n t f k)

/-- The `k`-th entry taken is the `k`-th in falling order. -/
theorem greatest_after (n : Fin 32 → EReal) (t : EReal) (hn : Function.Injective n) (ht : ∀ e, n e < t) (f : Fin 32 → EReal) (k : Fin 32) :
    greatest (after n t f k.val) = f (falling f k) := by
  have h : ∀ k : ℕ, k ≤ 31 → Rest (fun i => f (falling f i)) k (after n t f k) := fun k => by
    induction k with
    | zero => exact fun _ => rest_start f
    | succ k ih => exact fun hk => rest_dropped n t hn ht _ (falling_le f) ⟨k, by omega⟩ _ (ih (by omega))
  exact greatest_rest _ (falling_le f) k _ (h k.val (by omega))

end Cert.Kernel3Ideal.Out

end
-- ==== Proof.Out.Gates.lean ====
/- The router's gates of one tile of 256 rows: the greatest four of a row's 32 scores, taken one after the other, and their softmax. -/
module

public import proofs.«01_k».proof.Proof.Out.Block
public import proofs.«01_k».proof.Proof.Out.Pick

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- The scores of a tile, an expert a row, as the body computes them from the normed rows. -/
def scores (n : FVec Ideal S256x1024 .f32) (w : Vec Ideal S1024x128 .bf16) (c : Vec Ideal S1x128 .f32) : FVec Ideal S32x256 .f32 :=
  extractStridedSlice S32x256 ![0, 0] (transpose S128x256 [1, 0]
    (addf (matmul (F := Ideal) (φ₁ := .bf16) (φ₂ := .bf16) dot_S256x1024_S1024x128_S256x128_1_0_0_1_n_n none (truncf .bf16 n bitsLt_bf16_f32) (shapeCast S1024x128 w shapeCasts_S1024x128_S1024x128 : FVec Ideal S1024x128 .bf16)
      (constant S256x128 .f32 0x00000000#32)) (broadcastTo S256x128 (shapeCast S1x128 c shapeCasts_S1x128_S1x128 : FVec Ideal S1x128 .f32) broadcasts_S1x128_S256x128))
    transposes_S256x128_p1_0_S128x256) slices_S128x256_o0_0_S32x256

/-- The greatest score of every row, -/
def best (l : FVec Ideal S32x256 .f32) : FVec Ideal S1x256 .f32 :=
  shapeCast S1x256 (multiReduction .maximumf [0] S256 l 0xFF800000#32 reduces_S32x256_S256 (.inl rfl) rfl) shapeCasts_S256_S1x256

/-- the expert that holds it, the first one if several do, -/
def chosen (l : FVec Ideal S32x256 .f32) : FVec Ideal S1x256 .f32 :=
  shapeCast S1x256 (multiReduction .minimumf [0] S256
    (select (cmpf .oeq l (broadcastTo S32x256 (best l) broadcasts_S1x256_S32x256)) (k0_pay2 (F := Ideal)) (broadcast S32x256 (Scalar.ofBits (F := Ideal) .f32 0x42000000#32)))
    0x7F800000#32 reduces_S32x256_S256 (.inl rfl) rfl) shapeCasts_S256_S1x256

/-- its place marked, -/
def marked (l : FVec Ideal S32x256 .f32) : IVec S32x256 1 :=
  cmpf .oeq (k0_pay2 (F := Ideal)) (broadcastTo S32x256 (chosen l) broadcasts_S1x256_S32x256)

/-- and the scores without it. -/
def without (l : FVec Ideal S32x256 .f32) : FVec Ideal S32x256 .f32 :=
  select (marked l) (broadcast S32x256 (Scalar.ofBits (F := Ideal) .f32 0xFF800000#32)) l

/-- The exponential of how far a row's greatest score lies below the first one. -/
def part (l l' : FVec Ideal S32x256 .f32) : FVec Ideal S1x256 .f32 := exp (subf (best l') (best l))

/-- The four together. -/
def whole (l : FVec Ideal S32x256 .f32) : FVec Ideal S1x256 .f32 :=
  addf (addf (addf (part l l) (part l (without l))) (part l (without (without l)))) (part l (without (without (without l))))

/-- A gate. -/
def gate (l l' : FVec Ideal S32x256 .f32) : FVec Ideal S1x256 .f32 := divf (part l l') (whole l)

/-- Eight rows stored of a tile: four rows of slots and four gates. -/
def eight (a0 a1 a2 a3 g0 g1 g2 g3 : FVec Ideal S1x256 .f32) : FVec Ideal S1x8x256 .f32 :=
  shapeCast S1x8x256 (concatenate S8x256 0 [⟨S1x256, a0⟩, ⟨S1x256, a1⟩, ⟨S1x256, a2⟩, ⟨S1x256, a3⟩, ⟨S1x256, g0⟩, ⟨S1x256, g1⟩, ⟨S1x256, g2⟩, ⟨S1x256, g3⟩]
    concatenates_S1x256_S1x256_S1x256_S1x256_S1x256_S1x256_S1x256_S1x256_S8x256_d0) shapeCasts_S8x256_S1x8x256

/-- What is stored of a tile: four rows of slots and its scores' four gates. -/
def stored (a0 a1 a2 a3 : FVec Ideal S1x256 .f32) (l : FVec Ideal S32x256 .f32) : FVec Ideal S1x8x256 .f32 :=
  eight a0 a1 a2 a3 (gate l l) (gate l (without l)) (gate l (without (without l))) (gate l (without (without (without l))))

/-- An expert's number. -/
def num (e : Fin 32) : EReal := ((e.val : ℝ) : EReal)
/-- The number of experts. -/
def most : EReal := Scalar.ofBits (F := Ideal) .f32 0x42000000#32

theorem num_injective : Function.Injective num := fun a b h => Fin.ext (Nat.cast_injective (EReal.coe_injective h))

theorem most_eq : most = ((32 : ℝ) : EReal) := by
  show Ideal.ofBits .f32 0x42000000#32 = _
  simp [Ideal.ofBits, Ideal.ieee, -EReal.coe_mul]; norm_num

theorem num_lt (e : Fin 32) : num e < most := by
  rw [most_eq]
  exact EReal.coe_lt_coe_iff.mpr (by exact_mod_cast e.isLt)

theorem bot_eq : Scalar.ofBits (F := Ideal) .f32 0xFF800000#32 = (⊥ : EReal) := by
  show Ideal.ofBits .f32 0xFF800000#32 = _
  simp [Ideal.ofBits, Ideal.ieee]

theorem top_eq : Scalar.ofBits (F := Ideal) .f32 0x7F800000#32 = (⊤ : EReal) := by
  show Ideal.ofBits .f32 0x7F800000#32 = _
  simp [Ideal.ofBits, Ideal.ieee]

/-- A choice by equality. -/
theorem choose_eq (x y a b : EReal) : Scalar.select (FloatOps.cmpf (F := Ideal) (φ := .f32) .oeq x y) a b = if x = y then a else b := by
  have e : FloatOps.cmpf (F := Ideal) (φ := .f32) .oeq x y = BitVec.ofBool (decide (x = y)) := rfl
  rw [e]
  by_cases h : x = y
  · rw [if_pos h, decide_eq_true h]; rfl
  · rw [if_neg h, decide_eq_false h]; rfl

/-- The row of numbers. -/
theorem ids_apply (e : Fin 32) (j : Fin 256) : k0_pay2 (F := Ideal) (ix2 e j) = num e := by
  have h : iota .tc S32x256 32 [0] iota_S32x256_d0_w32 (ix2 e j) = BitVec.ofNat 32 e.val := iota_single_apply _ _ _ _ _ _
  have h2 : ∀ e : Fin 32, (BitVec.ofNat 32 e.val).toInt = (e.val : ℤ) := by decide
  have h3 : k0_pay2 (F := Ideal) (ix2 e j) = (((iota .tc S32x256 32 [0] iota_S32x256_d0_w32 (ix2 e j)).toInt : ℝ) : EReal) := rfl
  rw [h3, h, h2 e]
  unfold num
  rw [Int.cast_natCast]

/-- A row as a one-row matrix. -/
theorem lay_apply (v : FVec Ideal S256 .f32) (j : Fin 256) : shapeCast S1x256 v shapeCasts_S256_S1x256 (ix2 (n0 := 1) 0 j) = v (ix1 j) := by
  refine shapeCast_apply _ shapeCasts_S256_S1x256 _ _ ?_
  rw [rowMajor_val1, rowMajor_val2 _ 256 rfl]
  show j.val = 0 * 256 + j.val
  omega

/-- A one-row matrix spread over 32 rows. -/
theorem over_apply (v : FVec Ideal S1x256 .f32) (e : Fin 32) (j : Fin 256) :
    broadcastTo S32x256 v broadcasts_S1x256_S32x256 (ix2 e j) = v (ix2 (n0 := 1) 0 j) := by
  refine broadcastTo_apply v broadcasts_S1x256_S32x256 _ _ fun a => ?_
  match a with
  | ⟨0, _⟩ => rfl
  | ⟨1, _⟩ => rfl

/-- A row's scores. -/
def col (l : FVec Ideal S32x256 .f32) (j : Fin 256) (e : Fin 32) : EReal := l (ix2 e j)

theorem best_apply (l : FVec Ideal S32x256 .f32) (j : Fin 256) : best l (ix2 (n0 := 1) 0 j) = greatest (col l j) := by
  refine (lay_apply _ j).trans ((Ideal.multiReduction_maximumf_single l _ reduces_S32x256_S256 (.inl rfl) rfl _).trans ?_)
  have e : ∀ k : Fin 32, reduces_S32x256_S256.lift (ix1 (n := 256) j) k = ix2 (n0 := 32) (n1 := 256) k j := fun k => by
    funext a
    match a with
    | ⟨0, _⟩ => rfl
    | ⟨1, _⟩ => rfl
  have e2 : ((l : S32x256.Idx → EReal) ∘ reduces_S32x256_S256.lift (ix1 (n := 256) j)) = col l j := funext fun k => congrArg l (e k)
  refine (congrArg (Finset.fold max _ · Finset.univ) e2).trans ?_
  exact congrArg (Finset.fold max · (col l j) Finset.univ) bot_eq

theorem least_apply (l : FVec Ideal S32x256 .f32) (j : Fin 256) :
    shapeCast S1x256 (multiReduction .minimumf [0] S256 l 0x7F800000#32 reduces_S32x256_S256 (.inl rfl) rfl) shapeCasts_S256_S1x256 (ix2 (n0 := 1) 0 j)
      = Finset.univ.inf (col l j) := by
  refine (lay_apply _ j).trans ((multiReduction_minimumf_eq_fold l _ reduces_S32x256_S256 (.inl rfl) rfl _).trans ((reduces_S32x256_S256.fold_filter_drop_single _ _ _ _).trans ?_))
  have e : ∀ k : Fin 32, reduces_S32x256_S256.lift (ix1 (n := 256) j) k = ix2 (n0 := 32) (n1 := 256) k j := fun k => by
    funext a
    match a with
    | ⟨0, _⟩ => rfl
    | ⟨1, _⟩ => rfl
  have e2 : ((l : S32x256.Idx → EReal) ∘ reduces_S32x256_S256.lift (ix1 (n := 256) j)) = col l j := funext fun k => congrArg l (e k)
  refine (congrArg (Finset.fold min _ · Finset.univ) e2).trans ?_
  exact congrArg (Finset.fold min · (col l j) Finset.univ) top_eq

theorem chosen_apply (l : FVec Ideal S32x256 .f32) (j : Fin 256) : chosen l (ix2 (n0 := 1) 0 j) = firstPlace num most (col l j) := by
  refine (least_apply _ j).trans (congrArg Finset.univ.inf (funext fun e => ?_))
  refine (choose_eq _ _ _ _).trans ?_
  rw [over_apply, best_apply, ids_apply]
  rfl

theorem without_apply (l : FVec Ideal S32x256 .f32) (j : Fin 256) : col (without l) j = dropped num most (col l j) := by
  funext e
  refine (choose_eq _ _ _ _).trans ?_
  rw [over_apply, chosen_apply, ids_apply]
  exact congrArg (fun q : EReal => if num e = firstPlace num most (col l j) then q else l (ix2 e j)) bot_eq

/-- The `k`-th of the four greatest of a row's scores, by the rounds that take them. -/
def taken (f : Fin 32 → EReal) (k : ℕ) : EReal := greatest (after num most f k)

/-- The softmax of four numbers, one of them over all. -/
def softOf (v : ℕ → EReal) (k : ℕ) : EReal :=
  Ideal.div (Ideal.exp (v k - v 0)) (Ideal.exp (v 0 - v 0) + Ideal.exp (v 1 - v 0) + Ideal.exp (v 2 - v 0) + Ideal.exp (v 3 - v 0))

/-- The scores after some rounds. -/
def rounds (l : FVec Ideal S32x256 .f32) : ℕ → FVec Ideal S32x256 .f32
  | 0 => l
  | k + 1 => without (rounds l k)

theorem rounds_apply (l : FVec Ideal S32x256 .f32) (j : Fin 256) (k : ℕ) : col (rounds l k) j = after num most (col l j) k := by
  induction k with
  | zero => rfl
  | succ k ih => exact (without_apply _ j).trans (congrArg (dropped num most) ih)

theorem part_apply (l : FVec Ideal S32x256 .f32) (j : Fin 256) (k : ℕ) :
    part l (rounds l k) (ix2 (n0 := 1) 0 j) = Ideal.exp (taken (col l j) k - taken (col l j) 0) := by
  have h1 := (best_apply (rounds l k) j).trans (congrArg greatest (rounds_apply l j k))
  have h0 := best_apply l j
  exact congrArg Ideal.exp (congrArg₂ (· - ·) h1 h0)

/-- An entry of a gate. -/
theorem gate_apply (l : FVec Ideal S32x256 .f32) (j : Fin 256) (k : ℕ) :
    gate l (rounds l k) (ix2 (n0 := 1) 0 j) = softOf (taken (col l j)) k := by
  refine congrArg₂ Ideal.div (part_apply l j k) ?_
  exact congrArg₂ (· + ·) (congrArg₂ (· + ·) (congrArg₂ (· + ·) (part_apply l j 0) (part_apply l j 1)) (part_apply l j 2)) (part_apply l j 3)

/-- An entry of the last four rows stored. -/
theorem stored_apply (a0 a1 a2 a3 : FVec Ideal S1x256 .f32) (l : FVec Ideal S32x256 .f32) (k : Fin 4) (j : Fin 256) :
    stored a0 a1 a2 a3 l (ix3 (n0 := 1) (n1 := 8) (n2 := 256) 0 ⟨4 + k.val, by omega⟩ j) = softOf (taken (col l j)) k.val := by
  refine Eq.trans ?_ (gate_apply l j k.val)
  refine (shapeCast_apply _ shapeCasts_S8x256_S1x8x256 _ (ix2 (n0 := 8) (n1 := 256) ⟨4 + k.val, by omega⟩ j) ?_).trans ?_
  · rw [rowMajor_val2 _ 256 rfl, rowMajor_val3 _ (8 * 256) 256 rfl rfl]
    show (4 + k.val) * 256 + j.val = 0 * (8 * 256) + (4 + k.val) * 256 + j.val
    omega
  · refine concatenate_apply_piece 0 _ _ (ix2 (n0 := 8) (n1 := 256) ⟨4 + k.val, by omega⟩ j) (4 + k.val) (by show 4 + k.val < 8; omega) S1x256 _ ?_ rfl (4 + k.val) ?_
      (ix2 (n0 := 1) (n1 := 256) 0 j) (fun b hb => ?_) rfl
    · match k with
      | ⟨0, _⟩ => rfl
      | ⟨1, _⟩ => rfl
      | ⟨2, _⟩ => rfl
      | ⟨3, _⟩ => rfl
    · match k with
      | ⟨0, _⟩ => rfl
      | ⟨1, _⟩ => rfl
      | ⟨2, _⟩ => rfl
      | ⟨3, _⟩ => rfl
    · match b with
      | ⟨0, _⟩ => exact absurd rfl hb
      | ⟨1, _⟩ => rfl

/-- An entry of a product over 1024 terms. -/
theorem prod1024_apply (x : FVec Ideal ⟨2, ![256, 1024]⟩ .bf16) (w : FVec Ideal ⟨2, ![1024, 128]⟩ .bf16) (r : Fin 256) (f : Fin 128) :
    matmul (F := Ideal) (DotDims.plain 256 1024 128) none x w (constant (⟨2, ![256, 128]⟩ : Shape) .f32 0x00000000#32) (ix2 r f)
      = ∑ k, x (ix2 r k) * w (ix2 k f) := by
  simp only [matmul]
  rw [Ideal.matmul_plain_apply, constant_apply, Ideal.ofBits_zero_f32, zero_add]

/-- A row's scores: the normed row times every expert's column, plus its bias. -/
theorem scores_apply (n : FVec Ideal S256x1024 .f32) (w : Vec Ideal S1024x128 .bf16) (c : Vec Ideal S1x128 .f32) (j : Fin 256) (e : Fin 32) :
    col (scores n w c) j e = (∑ k : Fin 1024, n (ix2 j k) * (w : S1024x128.Idx → EReal) (ix2 k ⟨e.val, by omega⟩)) + (c : S1x128.Idx → EReal) (ix2 (n0 := 1) 0 ⟨e.val, by omega⟩) := by
  unfold col scores
  simp only [shapeCast_self]
  refine (extractStridedSlice_apply ![0, 0] _ slices_S128x256_o0_0_S32x256 _ (ix2 (n0 := 128) (n1 := 256) ⟨e.val, by omega⟩ j) fun a => ?_).trans ?_
  · match a with
    | ⟨0, _⟩ => show e.val = 0 + e.val; omega
    | ⟨1, _⟩ => show j.val = 0 + j.val; omega
  refine (transpose_apply [1, 0] _ transposes_S256x128_p1_0_S128x256 _ (ix2 (n0 := 256) (n1 := 128) j ⟨e.val, by omega⟩) fun b => ?_).trans ?_
  · match b with
    | ⟨0, _⟩ => rfl
    | ⟨1, _⟩ => rfl
  refine congrArg₂ (· + ·) (prod1024_apply n w j ⟨e.val, by omega⟩) ?_
  refine broadcastTo_apply c broadcasts_S1x128_S256x128 _ _ fun a => ?_
  match a with
  | ⟨0, _⟩ => rfl
  | ⟨1, _⟩ => rfl

end Cert.Kernel3Ideal.Out

end
-- ==== Proof.Out.GateTiles.lean ====
/- What the body stores of each of the four tiles: the tile's gates in the last four rows. -/
module

public import proofs.«01_k».proof.Proof.Out.Gates

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- The first tile's gates from its scores. -/
theorem gates_of_0 (l : FVec Ideal S32x256 .f32) :
    k0_pay33 (k0_pay2 (F := Ideal)) (best l) (without l) (best (without l)) (marked (without l)) (Scalar.ofBits (F := Ideal) .f32 0xFF800000#32) = gate l l
    ∧ k0_pay34 (k0_pay2 (F := Ideal)) (best l) (without l) (best (without l)) (marked (without l)) (Scalar.ofBits (F := Ideal) .f32 0xFF800000#32) = gate l (without l)
    ∧ k0_pay35 (k0_pay2 (F := Ideal)) (best l) (without l) (best (without l)) (marked (without l)) (Scalar.ofBits (F := Ideal) .f32 0xFF800000#32) = gate l (without (without l))
    ∧ k0_pay36 (k0_pay2 (F := Ideal)) (best l) (without l) (best (without l)) (marked (without l)) (Scalar.ofBits (F := Ideal) .f32 0xFF800000#32) = gate l (without (without (without l))) :=
  ⟨rfl, rfl, rfl, rfl⟩

theorem step_0_0 (z : Vec Ideal S256x1024 .f32) (g b : Vec Ideal S1x1024 .f32) (w : Vec Ideal S1024x128 .bf16) (c : Vec Ideal S1x128 .f32) :
    k0_pay17 (k0_pay10 g) (k0_pay11 b) (k0_pay12 z) (k0_pay13 z) (k0_pay14 (F := Ideal)) w c = (fun l => (best l)) (scores (k0_pay86 z g b) w c) := rfl

theorem step_0_1 (z : Vec Ideal S256x1024 .f32) (g b : Vec Ideal S1x1024 .f32) (w : Vec Ideal S1024x128 .bf16) (c : Vec Ideal S1x128 .f32) :
    k0_pay19 (k0_pay2 (F := Ideal)) (k0_pay10 g) (k0_pay11 b) (k0_pay12 z) (k0_pay13 z) (k0_pay14 (F := Ideal)) w c = (fun l => (without l)) (scores (k0_pay86 z g b) w c) := rfl

theorem step_0_2 (z : Vec Ideal S256x1024 .f32) (g b : Vec Ideal S1x1024 .f32) (w : Vec Ideal S1024x128 .bf16) (c : Vec Ideal S1x128 .f32) :
    k0_pay20 (k0_pay2 (F := Ideal)) (k0_pay10 g) (k0_pay11 b) (k0_pay12 z) (k0_pay13 z) (k0_pay14 (F := Ideal)) w c = (fun l => (best (without l))) (scores (k0_pay86 z g b) w c) := rfl

theorem step_0_3 (z : Vec Ideal S256x1024 .f32) (g b : Vec Ideal S1x1024 .f32) (w : Vec Ideal S1024x128 .bf16) (c : Vec Ideal S1x128 .f32) :
    k0_pay21 (k0_pay2 (F := Ideal)) (k0_pay10 g) (k0_pay11 b) (k0_pay12 z) (k0_pay13 z) (k0_pay14 (F := Ideal)) w c = (fun l => (marked (without l))) (scores (k0_pay86 z g b) w c) := rfl

/-- The first tile's gates, as the body computes them. -/
theorem gates_0 (z : Vec Ideal S256x1024 .f32) (g b : Vec Ideal S1x1024 .f32) (w : Vec Ideal S1024x128 .bf16) (c : Vec Ideal S1x128 .f32) :
    k0_pay33 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32) = (fun l => gate l l) (scores (k0_pay86 z g b) w c)
    ∧ k0_pay34 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32) = (fun l => gate l (without l)) (scores (k0_pay86 z g b) w c)
    ∧ k0_pay35 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32) = (fun l => gate l (without (without l))) (scores (k0_pay86 z g b) w c)
    ∧ k0_pay36 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32) = (fun l => gate l (without (without (without l)))) (scores (k0_pay86 z g b) w c) := by
  rw [step_0_0, step_0_1, step_0_2, step_0_3]
  exact gates_of_0 (scores (k0_pay86 z g b) w c)

/-- The second tile's gates from its scores. -/
theorem gates_of_1 (l : FVec Ideal S32x256 .f32) :
    k0_pay68 (k0_pay2 (F := Ideal)) (best l) (without l) = gate l l
    ∧ k0_pay69 (k0_pay2 (F := Ideal)) (best l) (without l) = gate l (without l)
    ∧ k0_pay70 (k0_pay2 (F := Ideal)) (best l) (without l) = gate l (without (without l))
    ∧ k0_pay71 (k0_pay2 (F := Ideal)) (best l) (without l) = gate l (without (without (without l))) :=
  ⟨rfl, rfl, rfl, rfl⟩

theorem step_1_0 (z : Vec Ideal S256x1024 .f32) (g b : Vec Ideal S1x1024 .f32) (w : Vec Ideal S1024x128 .bf16) (c : Vec Ideal S1x128 .f32) :
    k0_pay52 (k0_pay47 z) (k0_pay48 g) (k0_pay49 b) w c = (fun l => (best l)) (scores (k0_pay86 z g b) w c) := rfl

theorem step_1_1 (z : Vec Ideal S256x1024 .f32) (g b : Vec Ideal S1x1024 .f32) (w : Vec Ideal S1024x128 .bf16) (c : Vec Ideal S1x128 .f32) :
    k0_pay54 (k0_pay2 (F := Ideal)) (k0_pay47 z) (k0_pay48 g) (k0_pay49 b) w c = (fun l => (without l)) (scores (k0_pay86 z g b) w c) := rfl

/-- The second tile's gates, as the body computes them. -/
theorem gates_1 (z : Vec Ideal S256x1024 .f32) (g b : Vec Ideal S1x1024 .f32) (w : Vec Ideal S1024x128 .bf16) (c : Vec Ideal S1x128 .f32) :
    k0_pay68 (k0_pay2 (F := Ideal)) (k0_pay52 (k0_pay47 z) (k0_pay48 g) (k0_pay49 b) w c) (k0_pay54 (k0_pay2 (F := Ideal)) (k0_pay47 z) (k0_pay48 g) (k0_pay49 b) w c) = (fun l => gate l l) (scores (k0_pay86 z g b) w c)
    ∧ k0_pay69 (k0_pay2 (F := Ideal)) (k0_pay52 (k0_pay47 z) (k0_pay48 g) (k0_pay49 b) w c) (k0_pay54 (k0_pay2 (F := Ideal)) (k0_pay47 z) (k0_pay48 g) (k0_pay49 b) w c) = (fun l => gate l (without l)) (scores (k0_pay86 z g b) w c)
    ∧ k0_pay70 (k0_pay2 (F := Ideal)) (k0_pay52 (k0_pay47 z) (k0_pay48 g) (k0_pay49 b) w c) (k0_pay54 (k0_pay2 (F := Ideal)) (k0_pay47 z) (k0_pay48 g) (k0_pay49 b) w c) = (fun l => gate l (without (without l))) (scores (k0_pay86 z g b) w c)
    ∧ k0_pay71 (k0_pay2 (F := Ideal)) (k0_pay52 (k0_pay47 z) (k0_pay48 g) (k0_pay49 b) w c) (k0_pay54 (k0_pay2 (F := Ideal)) (k0_pay47 z) (k0_pay48 g) (k0_pay49 b) w c) = (fun l => gate l (without (without (without l)))) (scores (k0_pay86 z g b) w c) := by
  rw [step_1_0, step_1_1]
  exact gates_of_1 (scores (k0_pay86 z g b) w c)

/-- The third tile's gates from its scores. -/
theorem gates_of_2 (l : FVec Ideal S32x256 .f32) :
    k0_pay106 (k0_pay89 (multiReduction (F := Ideal) .maximumf [0] S256 l 0xFF800000#32 reduces_S32x256_S256 (.inl rfl) rfl)) (k0_pay92 (k0_pay2 (F := Ideal)) l (multiReduction (F := Ideal) .maximumf [0] S256 l 0xFF800000#32 reduces_S32x256_S256 (.inl rfl) rfl)) (k0_pay95 (k0_pay2 (F := Ideal)) l (multiReduction (F := Ideal) .maximumf [0] S256 l 0xFF800000#32 reduces_S32x256_S256 (.inl rfl) rfl)) (k0_pay98 (k0_pay2 (F := Ideal)) l (multiReduction (F := Ideal) .maximumf [0] S256 l 0xFF800000#32 reduces_S32x256_S256 (.inl rfl) rfl)) (k0_pay100 (multiReduction (F := Ideal) .maximumf [0] S256 l 0xFF800000#32 reduces_S32x256_S256 (.inl rfl) rfl)) = gate l l
    ∧ k0_pay107 (k0_pay89 (multiReduction (F := Ideal) .maximumf [0] S256 l 0xFF800000#32 reduces_S32x256_S256 (.inl rfl) rfl)) (k0_pay92 (k0_pay2 (F := Ideal)) l (multiReduction (F := Ideal) .maximumf [0] S256 l 0xFF800000#32 reduces_S32x256_S256 (.inl rfl) rfl)) (k0_pay95 (k0_pay2 (F := Ideal)) l (multiReduction (F := Ideal) .maximumf [0] S256 l 0xFF800000#32 reduces_S32x256_S256 (.inl rfl) rfl)) (k0_pay98 (k0_pay2 (F := Ideal)) l (multiReduction (F := Ideal) .maximumf [0] S256 l 0xFF800000#32 reduces_S32x256_S256 (.inl rfl) rfl)) (k0_pay100 (multiReduction (F := Ideal) .maximumf [0] S256 l 0xFF800000#32 reduces_S32x256_S256 (.inl rfl) rfl)) = gate l (without l)
    ∧ k0_pay108 (k0_pay89 (multiReduction (F := Ideal) .maximumf [0] S256 l 0xFF800000#32 reduces_S32x256_S256 (.inl rfl) rfl)) (k0_pay92 (k0_pay2 (F := Ideal)) l (multiReduction (F := Ideal) .maximumf [0] S256 l 0xFF800000#32 reduces_S32x256_S256 (.inl rfl) rfl)) (k0_pay95 (k0_pay2 (F := Ideal)) l (multiReduction (F := Ideal) .maximumf [0] S256 l 0xFF800000#32 reduces_S32x256_S256 (.inl rfl) rfl)) (k0_pay98 (k0_pay2 (F := Ideal)) l (multiReduction (F := Ideal) .maximumf [0] S256 l 0xFF800000#32 reduces_S32x256_S256 (.inl rfl) rfl)) (k0_pay100 (multiReduction (F := Ideal) .maximumf [0] S256 l 0xFF800000#32 reduces_S32x256_S256 (.inl rfl) rfl)) = gate l (without (without l))
    ∧ k0_pay109 (k0_pay89 (multiReduction (F := Ideal) .maximumf [0] S256 l 0xFF800000#32 reduces_S32x256_S256 (.inl rfl) rfl)) (k0_pay92 (k0_pay2 (F := Ideal)) l (multiReduction (F := Ideal) .maximumf [0] S256 l 0xFF800000#32 reduces_S32x256_S256 (.inl rfl) rfl)) (k0_pay95 (k0_pay2 (F := Ideal)) l (multiReduction (F := Ideal) .maximumf [0] S256 l 0xFF800000#32 reduces_S32x256_S256 (.inl rfl) rfl)) (k0_pay98 (k0_pay2 (F := Ideal)) l (multiReduction (F := Ideal) .maximumf [0] S256 l 0xFF800000#32 reduces_S32x256_S256 (.inl rfl) rfl)) (k0_pay100 (multiReduction (F := Ideal) .maximumf [0] S256 l 0xFF800000#32 reduces_S32x256_S256 (.inl rfl) rfl)) = gate l (without (without (without l))) :=
  ⟨rfl, rfl, rfl, rfl⟩

theorem step_2_0 (z : Vec Ideal S256x1024 .f32) (g b : Vec Ideal S1x1024 .f32) (w : Vec Ideal S1024x128 .bf16) (c : Vec Ideal S1x128 .f32) :
    k0_pay87 z g b w c = (fun l => l) (scores (k0_pay86 z g b) w c) := rfl

theorem step_2_1 (z : Vec Ideal S256x1024 .f32) (g b : Vec Ideal S1x1024 .f32) (w : Vec Ideal S1024x128 .bf16) (c : Vec Ideal S1x128 .f32) :
    k0_pay88 z g b w c = (fun l => (multiReduction (F := Ideal) .maximumf [0] S256 l 0xFF800000#32 reduces_S32x256_S256 (.inl rfl) rfl)) (scores (k0_pay86 z g b) w c) := rfl

/-- The third tile's gates, as the body computes them. -/
theorem gates_2 (z : Vec Ideal S256x1024 .f32) (g b : Vec Ideal S1x1024 .f32) (w : Vec Ideal S1024x128 .bf16) (c : Vec Ideal S1x128 .f32) :
    k0_pay106 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c)) = (fun l => gate l l) (scores (k0_pay86 z g b) w c)
    ∧ k0_pay107 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c)) = (fun l => gate l (without l)) (scores (k0_pay86 z g b) w c)
    ∧ k0_pay108 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c)) = (fun l => gate l (without (without l))) (scores (k0_pay86 z g b) w c)
    ∧ k0_pay109 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c)) = (fun l => gate l (without (without (without l)))) (scores (k0_pay86 z g b) w c) := by
  rw [step_2_0, step_2_1]
  exact gates_of_2 (scores (k0_pay86 z g b) w c)

/-- The fourth tile's gates from its scores. -/
theorem gates_of_3 (l : FVec Ideal S32x256 .f32) :
    k0_pay144 (best l) (best (without l)) (best (without (without l))) (without (without (without l))) = gate l l
    ∧ k0_pay145 (best l) (best (without l)) (best (without (without l))) (without (without (without l))) = gate l (without l)
    ∧ k0_pay146 (best l) (best (without l)) (best (without (without l))) (without (without (without l))) = gate l (without (without l))
    ∧ k0_pay147 (best l) (best (without l)) (best (without (without l))) (without (without (without l))) = gate l (without (without (without l))) :=
  ⟨rfl, rfl, rfl, rfl⟩

theorem step_3_0 (z : Vec Ideal S256x1024 .f32) (g b : Vec Ideal S1x1024 .f32) (w : Vec Ideal S1024x128 .bf16) (c : Vec Ideal S1x128 .f32) :
    k0_pay128 (k0_pay126 z g b) w c = (fun l => (best l)) (scores (k0_pay86 z g b) w c) := rfl

theorem step_3_1 (z : Vec Ideal S256x1024 .f32) (g b : Vec Ideal S1x1024 .f32) (w : Vec Ideal S1024x128 .bf16) (c : Vec Ideal S1x128 .f32) :
    k0_pay131 (k0_pay2 (F := Ideal)) (k0_pay126 z g b) w c = (fun l => (best (without l))) (scores (k0_pay86 z g b) w c) := rfl

theorem step_3_2 (z : Vec Ideal S256x1024 .f32) (g b : Vec Ideal S1x1024 .f32) (w : Vec Ideal S1024x128 .bf16) (c : Vec Ideal S1x128 .f32) :
    k0_pay134 (k0_pay2 (F := Ideal)) (k0_pay126 z g b) w c = (fun l => (best (without (without l)))) (scores (k0_pay86 z g b) w c) := rfl

theorem step_3_3 (z : Vec Ideal S256x1024 .f32) (g b : Vec Ideal S1x1024 .f32) (w : Vec Ideal S1024x128 .bf16) (c : Vec Ideal S1x128 .f32) :
    k0_pay136 (k0_pay2 (F := Ideal)) (k0_pay126 z g b) w c = (fun l => (without (without (without l)))) (scores (k0_pay86 z g b) w c) := rfl

/-- The fourth tile's gates, as the body computes them. -/
theorem gates_3 (z : Vec Ideal S256x1024 .f32) (g b : Vec Ideal S1x1024 .f32) (w : Vec Ideal S1024x128 .bf16) (c : Vec Ideal S1x128 .f32) :
    k0_pay144 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c) = (fun l => gate l l) (scores (k0_pay86 z g b) w c)
    ∧ k0_pay145 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c) = (fun l => gate l (without l)) (scores (k0_pay86 z g b) w c)
    ∧ k0_pay146 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c) = (fun l => gate l (without (without l))) (scores (k0_pay86 z g b) w c)
    ∧ k0_pay147 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c) = (fun l => gate l (without (without (without l)))) (scores (k0_pay86 z g b) w c) := by
  rw [step_3_0, step_3_1, step_3_2, step_3_3]
  exact gates_of_3 (scores (k0_pay86 z g b) w c)

/-- What the body stores of the first tile. -/
theorem stored_0 (z : Vec Ideal S256x1024 .f32) (g b : Vec Ideal S1x1024 .f32) (w : Vec Ideal S1024x128 .bf16) (c : Vec Ideal S1x128 .f32)
    (m0 m1 m2 m3 : IVec S32x256 1) (q : FVec Ideal S32x256 .f32) :
    ∃ a0 a1 a2 a3 : FVec Ideal S1x256 .f32, k0_pay42 (k0_pay3 (F := Ideal)) (k0_pay4 (F := Ideal)) m0 m1 m2 m3 (k0_pay33 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32)) (k0_pay34 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32)) (k0_pay35 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32)) (k0_pay36 (k0_pay2 (F := Ideal)) (k0_pay17 (k0_pay10 g) (k0_pay11 b) (k0_pay12 z) (k0_pay13 z) (k0_pay14 (F := Ideal)) w c) (k0_pay19 (k0_pay2 (F := Ideal)) (k0_pay10 g) (k0_pay11 b) (k0_pay12 z) (k0_pay13 z) (k0_pay14 (F := Ideal)) w c) (k0_pay20 (k0_pay2 (F := Ideal)) (k0_pay10 g) (k0_pay11 b) (k0_pay12 z) (k0_pay13 z) (k0_pay14 (F := Ideal)) w c) (k0_pay21 (k0_pay2 (F := Ideal)) (k0_pay10 g) (k0_pay11 b) (k0_pay12 z) (k0_pay13 z) (k0_pay14 (F := Ideal)) w c) (Scalar.ofBits (F := Ideal) .f32 0xFF800000#32)) q = stored a0 a1 a2 a3 (scores (k0_pay86 z g b) w c) := by
  obtain ⟨e0, e1, e2, e3⟩ := gates_0 z g b w c
  rw [e0, e1, e2, e3]
  exact ⟨_, _, _, _, rfl⟩

/-- What the body stores of the second tile. -/
theorem stored_1 (z : Vec Ideal S256x1024 .f32) (g b : Vec Ideal S1x1024 .f32) (w : Vec Ideal S1024x128 .bf16) (c : Vec Ideal S1x128 .f32)
    (m : IVec S32x256 1) (q : FVec Ideal S32x256 .f32) (d0 d1 d2 : FVec Ideal S1x256 .f32) (k : Ideal .f32) :
    ∃ a0 a1 a2 a3 : FVec Ideal S1x256 .f32, k0_pay81 m (k0_pay68 (k0_pay2 (F := Ideal)) (k0_pay52 (k0_pay47 z) (k0_pay48 g) (k0_pay49 b) w c) (k0_pay54 (k0_pay2 (F := Ideal)) (k0_pay47 z) (k0_pay48 g) (k0_pay49 b) w c)) (k0_pay69 (k0_pay2 (F := Ideal)) (k0_pay52 (k0_pay47 z) (k0_pay48 g) (k0_pay49 b) w c) (k0_pay54 (k0_pay2 (F := Ideal)) (k0_pay47 z) (k0_pay48 g) (k0_pay49 b) w c)) (k0_pay70 (k0_pay2 (F := Ideal)) (k0_pay52 (k0_pay47 z) (k0_pay48 g) (k0_pay49 b) w c) (k0_pay54 (k0_pay2 (F := Ideal)) (k0_pay47 z) (k0_pay48 g) (k0_pay49 b) w c)) (k0_pay71 (k0_pay2 (F := Ideal)) (k0_pay52 (k0_pay47 z) (k0_pay48 g) (k0_pay49 b) w c) (k0_pay54 (k0_pay2 (F := Ideal)) (k0_pay47 z) (k0_pay48 g) (k0_pay49 b) w c)) q d0 d1 d2 k = stored a0 a1 a2 a3 (scores (k0_pay86 z g b) w c) := by
  obtain ⟨e0, e1, e2, e3⟩ := gates_1 z g b w c
  rw [e0, e1, e2, e3]
  exact ⟨_, _, _, _, rfl⟩

/-- What the body stores of the third tile. -/
theorem stored_2 (z : Vec Ideal S256x1024 .f32) (g b : Vec Ideal S1x1024 .f32) (w : Vec Ideal S1024x128 .bf16) (c : Vec Ideal S1x128 .f32)
    (m1 m2 m3 : IVec S32x256 1) (q : FVec Ideal S32x256 .f32) (d : FVec Ideal S256 .f32) :
    ∃ a0 a1 a2 a3 : FVec Ideal S1x256 .f32, k0_pay117 m1 m2 m3 (k0_pay106 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c))) (k0_pay107 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c))) (k0_pay108 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c))) (k0_pay109 (k0_pay89 (k0_pay88 z g b w c)) (k0_pay92 (k0_pay2 (F := Ideal)) (k0_pay87 z g b w c) (k0_pay88 z g b w c)) (k0_pay95 (k0_pay2 (F := Ideal)) (k0_pay87 z g b w c) (k0_pay88 z g b w c)) (k0_pay98 (k0_pay2 (F := Ideal)) (k0_pay87 z g b w c) (k0_pay88 z g b w c)) (k0_pay100 (k0_pay88 z g b w c))) q d = stored a0 a1 a2 a3 (scores (k0_pay86 z g b) w c) := by
  obtain ⟨e0, e1, e2, e3⟩ := gates_2 z g b w c
  rw [e0, e1, e2, e3]
  exact ⟨_, _, _, _, rfl⟩

/-- What the body stores of the fourth tile. -/
theorem stored_3 (z : Vec Ideal S256x1024 .f32) (g b : Vec Ideal S1x1024 .f32) (w : Vec Ideal S1024x128 .bf16) (c : Vec Ideal S1x128 .f32)
    (m0 m1 m2 m3 : IVec S32x256 1) (q : FVec Ideal S32x256 .f32) (d : FVec Ideal S32x128 .f32) :
    ∃ a0 a1 a2 a3 : FVec Ideal S1x256 .f32, k0_pay154 m0 m1 m2 m3 (k0_pay144 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c)) (k0_pay145 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c)) (k0_pay146 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c)) (k0_pay147 (k0_pay128 (k0_pay126 z g b) w c) (k0_pay131 (k0_pay2 (F := Ideal)) (k0_pay126 z g b) w c) (k0_pay134 (k0_pay2 (F := Ideal)) (k0_pay126 z g b) w c) (k0_pay136 (k0_pay2 (F := Ideal)) (k0_pay126 z g b) w c)) q d = stored a0 a1 a2 a3 (scores (k0_pay86 z g b) w c) := by
  obtain ⟨e0, e1, e2, e3⟩ := gates_3 z g b w c
  rw [e0, e1, e2, e3]
  exact ⟨_, _, _, _, rfl⟩

end Cert.Kernel3Ideal.Out

end
-- ==== Proof.Out.Rows.lean ====
/- The block of gates, put together from its four tiles. -/
module

public import proofs.«01_k».proof.Proof.Out.Tiles
public import proofs.«01_k».proof.Proof.Out.GateTiles

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- The four tiles of the block of slots and gates. -/
abbrev q3 : Rect S4x8x256 := Rect.unit ![3, 0, 0] S1x8x256.size inb_S4x8x256_S1x8x256_3_0_0
abbrev q2 : Rect S4x8x256 := Rect.unit ![2, 0, 0] S1x8x256.size inb_S4x8x256_S1x8x256_2_0_0
abbrev q1 : Rect S4x8x256 := Rect.unit ![1, 0, 0] S1x8x256.size inb_S4x8x256_S1x8x256_1_0_0
abbrev q0 : Rect S4x8x256 := Rect.unit ![0, 0, 0] S1x8x256.size inb_S4x8x256_S1x8x256_0_0_0

/-- Four tiles of slots and gates stored. -/
abbrev posts (p0 p1 p2 p3 : Vec Ideal S1x8x256 .f32) : List (View.Piece (Elt Ideal) S4x8x256 .f32) := [⟨q3, p3⟩, ⟨q2, p2⟩, ⟨q1, p1⟩, ⟨q0, p0⟩]

/-- They leave every tile in its place. -/
theorem canon_posts (p0 p1 p2 p3 : Vec Ideal S1x8x256 .f32) (y : S4x8x256.Idx) :
    View.canon (posts p0 p1 p2 p3) y
      = ((![p0, p1, p2, p3] : Fin 4 → S1x8x256.Idx → EReal) (y 0)) (ix3 (n0 := 1) (n1 := 8) (n2 := 256) 0 (y 1) (y 2)) := by
  have hx : ∀ x : S1x8x256.Idx, ix3 (n0 := 1) (n1 := 8) (n2 := 256) 0 (x 1) (x 2) = x := fun x => by
    have h1 : (x 0).val < 1 := (x 0).isLt
    funext a
    match a with
    | ⟨0, _⟩ => exact Fin.ext (by show 0 = (x 0).val; omega)
    | ⟨1, _⟩ => rfl
    | ⟨2, _⟩ => rfl
  have key : ∀ (s : ℕ) (hs : s < 4) (h : ∀ a, (![s, 0, 0] : Fin 3 → ℕ) a + S1x8x256.size a ≤ S4x8x256.size a) (x : S1x8x256.Idx),
      ((![p0, p1, p2, p3] : Fin 4 → S1x8x256.Idx → EReal) ⟨s, hs⟩) x
        = ((![p0, p1, p2, p3] : Fin 4 → S1x8x256.Idx → EReal) ((Rect.unit (s := S4x8x256) ![s, 0, 0] S1x8x256.size h).emb x 0))
          (ix3 (n0 := 1) (n1 := 8) (n2 := 256) 0 ((Rect.unit (s := S4x8x256) ![s, 0, 0] S1x8x256.size h).emb x 1) ((Rect.unit (s := S4x8x256) ![s, 0, 0] S1x8x256.size h).emb x 2)) := fun s hs h x => by
    have h1 : (x 0).val < 1 := (x 0).isLt
    have e0 : (Rect.unit (s := S4x8x256) ![s, 0, 0] S1x8x256.size h).emb x 0 = (⟨s, hs⟩ : Fin 4) := Fin.ext (by show s + 1 * (x 0).val = s; omega)
    have e1 : (Rect.unit (s := S4x8x256) ![s, 0, 0] S1x8x256.size h).emb x 1 = x 1 := Fin.ext (by show 0 + 1 * (x 1).val = (x 1).val; omega)
    have e2 : (Rect.unit (s := S4x8x256) ![s, 0, 0] S1x8x256.size h).emb x 2 = x 2 := Fin.ext (by show 0 + 1 * (x 2).val = (x 2).val; omega)
    rw [e0, e1, e2, hx]
  have := View.canon_append_of_pieces (fun y : S4x8x256.Idx => ((![p0, p1, p2, p3] : Fin 4 → S1x8x256.Idx → EReal) (y 0)) (ix3 (n0 := 1) (n1 := 8) (n2 := 256) 0 (y 1) (y 2)))
    [] (posts p0 p1 p2 p3) ?_ y (View.cover_of_tiled_head q3 p3 [⟨q2, p2⟩, ⟨q1, p1⟩, ⟨q0, p0⟩] rfl y)
  · rwa [List.append_nil] at this
  intro p hp
  rcases List.mem_cons.mp hp with rfl | hp
  · exact key 3 (by decide) inb_S4x8x256_S1x8x256_3_0_0
  rcases List.mem_cons.mp hp with rfl | hp
  · exact key 2 (by decide) inb_S4x8x256_S1x8x256_2_0_0
  rcases List.mem_cons.mp hp with rfl | hp
  · exact key 1 (by decide) inb_S4x8x256_S1x8x256_1_0_0
  rcases List.mem_cons.mp hp with rfl | hp
  · exact key 0 (by decide) inb_S4x8x256_S1x8x256_0_0_0
  nomatch hp

/-- The gates of a row: the softmax of the four greatest of its scores. -/
def rowGate (n : Fin 1024 → EReal) (w : Fin 1024 → Fin 32 → EReal) (c : Fin 32 → EReal) (k : ℕ) : EReal :=
  softOf (taken fun e => (∑ d, n d * w d e) + c e) k

/-- The gate of a block at tile `y 0`, row `y 1` and place `y 2`. -/
def gateBlock (N : Vec Ideal S1024x1024 .f32) (w : Vec Ideal S1024x128 .bf16) (c : Vec Ideal S1x128 .f32) (y : S4x8x256.Idx) : EReal :=
  rowGate (fun d => (N : S1024x1024.Idx → EReal) (ix2 ⟨(y 0).val * 256 + (y 2).val, by
      have h0 : (y 0).val < 4 := (y 0).isLt
      have h2 : (y 2).val < 256 := (y 2).isLt
      omega⟩ d))
    (fun d e => (w : S1024x128.Idx → EReal) (ix2 d ⟨e.val, by omega⟩)) (fun e => (c : S1x128.Idx → EReal) (ix2 (n0 := 1) 0 ⟨e.val, by omega⟩)) ((y 1).val - 4)

/-- A tile's stored gates. -/
theorem tile_gates (N : Vec Ideal S1024x1024 .f32) (w : Vec Ideal S1024x128 .bf16) (c : Vec Ideal S1x128 .f32) (s : ℕ) (hs : s < 4)
    (h : ∀ a, (![s * 256, 0] : Fin 2 → ℕ) a + S256x1024.size a ≤ S1024x1024.size a) (l : Vec Ideal S256x1024 .f32)
    (hl : Holds N (Rect.unit (s := S1024x1024) ![s * 256, 0] S256x1024.size h) l) (a0 a1 a2 a3 : FVec Ideal S1x256 .f32)
    (y : S4x8x256.Idx) (hy0 : (y 0).val = s) (hy : 4 ≤ (y 1).val) :
    stored a0 a1 a2 a3 (scores l w c) (ix3 (n0 := 1) (n1 := 8) (n2 := 256) 0 (y 1) (y 2)) = gateBlock N w c y := by
  have h1 : (y 1).val < 8 := (y 1).isLt
  have e1 : y 1 = (⟨4 + ((y 1).val - 4), by omega⟩ : Fin 8) := Fin.ext (by show (y 1).val = 4 + ((y 1).val - 4); omega)
  have := stored_apply a0 a1 a2 a3 (scores l w c) ⟨(y 1).val - 4, by omega⟩ (y 2)
  refine (congrArg (fun q => stored a0 a1 a2 a3 (scores l w c) (ix3 (n0 := 1) (n1 := 8) (n2 := 256) 0 q (y 2))) e1).trans (this.trans ?_)
  refine congrArg (fun q => softOf (taken q) ((y 1).val - 4)) (funext fun e => ?_)
  refine (scores_apply l w c (y 2) e).trans ?_
  refine congrArg (· + _) (Finset.sum_congr rfl fun k _ => congrArg (· * _) ?_)
  refine (hl (ix2 (n0 := 256) (n1 := 1024) (y 2) k)).trans (congrArg (N : S1024x1024.Idx → EReal) (funext fun a => Fin.ext ?_))
  match a with
  | ⟨0, _⟩ => show s * 256 + 1 * (y 2).val = (y 0).val * 256 + (y 2).val; omega
  | ⟨1, _⟩ => show 0 + 1 * k.val = k.val; omega

/-- The block of slots and gates as the body leaves it: its last four rows are the gates. -/
theorem gates_apply (N : Vec Ideal S1024x1024 .f32) (w : Vec Ideal S1024x128 .bf16) (c : Vec Ideal S1x128 .f32) (l0 l1 l2 l3 : Vec Ideal S256x1024 .f32)
    (h0 : Holds N r0 l0) (h1 : Holds N r1 l1) (h2 : Holds N r2 l2) (h3 : Holds N r3 l3)
    (a00 a01 a02 a03 a10 a11 a12 a13 a20 a21 a22 a23 a30 a31 a32 a33 : FVec Ideal S1x256 .f32) (y : S4x8x256.Idx) (hy : 4 ≤ (y 1).val) :
    View.canon (posts (stored a00 a01 a02 a03 (scores l0 w c)) (stored a10 a11 a12 a13 (scores l1 w c))
      (stored a20 a21 a22 a23 (scores l2 w c)) (stored a30 a31 a32 a33 (scores l3 w c))) y = gateBlock N w c y := by
  refine (canon_posts _ _ _ _ y).trans ?_
  have hlt : (y 0).val < 4 := (y 0).isLt
  have hc : (y 0).val = 0 ∨ (y 0).val = 1 ∨ (y 0).val = 2 ∨ (y 0).val = 3 := by omega
  rcases hc with e | e | e | e
  · have e' : y 0 = (0 : Fin 4) := Fin.ext e
    rw [e']
    exact tile_gates N w c 0 (by omega) inb_S1024x1024_S256x1024_0_0 l0 h0 a00 a01 a02 a03 y e hy
  · have e' : y 0 = (1 : Fin 4) := Fin.ext e
    rw [e']
    exact tile_gates N w c 1 (by omega) inb_S1024x1024_S256x1024_256_0 l1 h1 a10 a11 a12 a13 y e hy
  · have e' : y 0 = (2 : Fin 4) := Fin.ext e
    rw [e']
    exact tile_gates N w c 2 (by omega) inb_S1024x1024_S256x1024_512_0 l2 h2 a20 a21 a22 a23 y e hy
  · have e' : y 0 = (3 : Fin 4) := Fin.ext e
    rw [e']
    exact tile_gates N w c 3 (by omega) inb_S1024x1024_S256x1024_768_0 l3 h3 a30 a31 a32 a33 y e hy

/-- The same of four tiles each known to be stored so. -/
theorem gates_left (N : Vec Ideal S1024x1024 .f32) (w : Vec Ideal S1024x128 .bf16) (c : Vec Ideal S1x128 .f32) (l0 l1 l2 l3 : Vec Ideal S256x1024 .f32)
    (h0 : Holds N r0 l0) (h1 : Holds N r1 l1) (h2 : Holds N r2 l2) (h3 : Holds N r3 l3) (p0 p1 p2 p3 : Vec Ideal S1x8x256 .f32)
    (k0 : ∃ a0 a1 a2 a3 : FVec Ideal S1x256 .f32, p0 = stored a0 a1 a2 a3 (scores l0 w c))
    (k1 : ∃ a0 a1 a2 a3 : FVec Ideal S1x256 .f32, p1 = stored a0 a1 a2 a3 (scores l1 w c))
    (k2 : ∃ a0 a1 a2 a3 : FVec Ideal S1x256 .f32, p2 = stored a0 a1 a2 a3 (scores l2 w c))
    (k3 : ∃ a0 a1 a2 a3 : FVec Ideal S1x256 .f32, p3 = stored a0 a1 a2 a3 (scores l3 w c)) (y : S4x8x256.Idx) (hy : 4 ≤ (y 1).val) :
    View.canon (posts p0 p1 p2 p3) y = gateBlock N w c y := by
  obtain ⟨_, _, _, _, rfl⟩ := k0
  obtain ⟨_, _, _, _, rfl⟩ := k1
  obtain ⟨_, _, _, _, rfl⟩ := k2
  obtain ⟨_, _, _, _, rfl⟩ := k3
  exact gates_apply N w c l0 l1 l2 l3 h0 h1 h2 h3 _ _ _ _ _ _ _ _ _ _ _ _ _ _ _ _ y hy

end Cert.Kernel3Ideal.Out

end
-- ==== Proof.Out.Cols.lean ====
/- What the body stores of the tiles a second time: one token a row, the gates in the columns 4 to 7 and zeros after them. -/
module

public import proofs.«01_k».proof.Proof.Out.Rows

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- Four rows of slots and a tile's four gates, turned to columns, before 120 columns of zeros. -/
def turned (a0 a1 a2 a3 : FVec Ideal S1x256 .f32) (l : FVec Ideal S32x256 .f32) : FVec Ideal S256x128 .f32 :=
  transpose S256x128 [1, 0] (concatenate S128x256 0
    [⟨S8x256, concatenate S8x256 0 [⟨S1x256, a0⟩, ⟨S1x256, a1⟩, ⟨S1x256, a2⟩, ⟨S1x256, a3⟩, ⟨S1x256, gate l l⟩, ⟨S1x256, gate l (without l)⟩, ⟨S1x256, gate l (without (without l))⟩,
        ⟨S1x256, gate l (without (without (without l)))⟩] concatenates_S1x256_S1x256_S1x256_S1x256_S1x256_S1x256_S1x256_S1x256_S8x256_d0⟩,
      ⟨S120x256, broadcast S120x256 (Scalar.ofBits (F := Ideal) .f32 0x00000000#32)⟩] concatenates_S8x256_S120x256_S128x256_d0) transposes_S128x256_p1_0_S256x128

/-- An entry of the columns of gates. -/
theorem turned_gate (a0 a1 a2 a3 : FVec Ideal S1x256 .f32) (l : FVec Ideal S32x256 .f32) (k : Fin 4) (j : Fin 256) :
    turned a0 a1 a2 a3 l (ix2 (n0 := 256) (n1 := 128) j ⟨4 + k.val, by omega⟩) = softOf (taken (col l j)) k.val := by
  refine Eq.trans ?_ (gate_apply l j k.val)
  refine (transpose_apply [1, 0] _ transposes_S128x256_p1_0_S256x128 _ (ix2 (n0 := 128) (n1 := 256) ⟨4 + k.val, by omega⟩ j) fun b => ?_).trans ?_
  · match b with
    | ⟨0, _⟩ => rfl
    | ⟨1, _⟩ => rfl
  refine (concatenate_pair_apply_left (s₁ := S8x256) (s₂ := S120x256) (t := S128x256) 0 _ _ _ _ rfl (ix2 (n0 := 8) (n1 := 256) ⟨4 + k.val, by omega⟩ j) fun b => ?_).trans ?_
  · match b with
    | ⟨0, _⟩ => rfl
    | ⟨1, _⟩ => rfl
  refine concatenate_apply_piece 0 _ _ (ix2 (n0 := 8) (n1 := 256) ⟨4 + k.val, by omega⟩ j) (4 + k.val) (by show 4 + k.val < 8; omega) S1x256 _ ?_ rfl (4 + k.val) ?_
    (ix2 (n0 := 1) (n1 := 256) 0 j) (fun b hb => ?_) rfl
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · match b with
    | ⟨0, _⟩ => exact absurd rfl hb
    | ⟨1, _⟩ => rfl

/-- An entry of the columns of zeros. -/
theorem turned_zero (a0 a1 a2 a3 : FVec Ideal S1x256 .f32) (l : FVec Ideal S32x256 .f32) (k : Fin 120) (j : Fin 256) :
    turned a0 a1 a2 a3 l (ix2 (n0 := 256) (n1 := 128) j ⟨8 + k.val, by omega⟩) = 0 := by
  refine (transpose_apply [1, 0] _ transposes_S128x256_p1_0_S256x128 _ (ix2 (n0 := 128) (n1 := 256) ⟨8 + k.val, by omega⟩ j) fun b => ?_).trans ?_
  · match b with
    | ⟨0, _⟩ => rfl
    | ⟨1, _⟩ => rfl
  refine (concatenate_pair_apply_right (s₁ := S8x256) (s₂ := S120x256) (t := S128x256) 0 _ _ _ _ rfl rfl (ix2 (n0 := 120) (n1 := 256) k j) (fun b hb => ?_) ?_).trans ?_
  · match b with
    | ⟨0, _⟩ => exact absurd rfl hb
    | ⟨1, _⟩ => rfl
  · show k.val + 8 = 8 + k.val
    omega
  · exact Ideal.ofBits_zero_f32

/-- What the body stores of the first tile this second time, from its scores' gates. -/
theorem turned_0 (l : FVec Ideal S32x256 .f32) (v : FVec Ideal S256x256 .bf16) (u : FVec Ideal S32x32 .bf16) (m0 m1 m2 m3 : IVec S32x256 1) (q : FVec Ideal S32x256 .f32) :
    ∃ a0 a1 a2 a3 : FVec Ideal S1x256 .f32, k0_pay43 (k0_pay41 v u m0 m1 m2 m3 (gate l l) (gate l (without l)) (gate l (without (without l))) (gate l (without (without (without l)))) q)
      (Scalar.ofBits (F := Ideal) .f32 0x00000000#32) = turned a0 a1 a2 a3 l := ⟨_, _, _, _, rfl⟩

/-- The same of the second tile. -/
theorem turned_1 (l : FVec Ideal S32x256 .f32) (m : IVec S32x256 1) (q : FVec Ideal S32x256 .f32) (d0 d1 d2 : FVec Ideal S1x256 .f32) (k : Ideal .f32) :
    ∃ a0 a1 a2 a3 : FVec Ideal S1x256 .f32, k0_pay82 m (gate l l) (gate l (without l)) (gate l (without (without l))) (gate l (without (without (without l)))) q d0 d1 d2 k
      = turned a0 a1 a2 a3 l := ⟨_, _, _, _, rfl⟩

/-- The same of the third tile. -/
theorem turned_2 (l : FVec Ideal S32x256 .f32) (m1 m2 m3 : IVec S32x256 1) (q : FVec Ideal S32x256 .f32) (d : FVec Ideal S256 .f32) :
    ∃ a0 a1 a2 a3 : FVec Ideal S1x256 .f32, k0_pay118 m1 m2 m3 (gate l l) (gate l (without l)) (gate l (without (without l))) (gate l (without (without (without l)))) q d
      = turned a0 a1 a2 a3 l := ⟨_, _, _, _, rfl⟩

/-- The same of the fourth tile. -/
theorem turned_3 (l : FVec Ideal S32x256 .f32) (m0 m1 m2 m3 : IVec S32x256 1) (q : FVec Ideal S32x256 .f32) (d : FVec Ideal S32x128 .f32) :
    ∃ a0 a1 a2 a3 : FVec Ideal S1x256 .f32, k0_pay155 m0 m1 m2 m3 (gate l l) (gate l (without l)) (gate l (without (without l))) (gate l (without (without (without l)))) q d
      = turned a0 a1 a2 a3 l := ⟨_, _, _, _, rfl⟩

/-- The four tiles of the block of columns. -/
abbrev u3 : Rect S1024x128 := Rect.unit ![768, 0] S256x128.size inb_S1024x128_S256x128_768_0
abbrev u2 : Rect S1024x128 := Rect.unit ![512, 0] S256x128.size inb_S1024x128_S256x128_512_0
abbrev u1 : Rect S1024x128 := Rect.unit ![256, 0] S256x128.size inb_S1024x128_S256x128_256_0
abbrev u0 : Rect S1024x128 := Rect.unit ![0, 0] S256x128.size inb_S1024x128_S256x128_0_0

/-- Four tiles of columns stored. -/
abbrev piles (p0 p1 p2 p3 : Vec Ideal S256x128 .f32) : List (View.Piece (Elt Ideal) S1024x128 .f32) := [⟨u3, p3⟩, ⟨u2, p2⟩, ⟨u1, p1⟩, ⟨u0, p0⟩]

/-- The tile a row lies in, and its row there. -/
abbrev tileOf (y : S1024x128.Idx) : Fin 4 := ⟨(y 0).val / 256, by have h : (y 0).val < 1024 := (y 0).isLt; omega⟩
abbrev rowOf (y : S1024x128.Idx) : Fin 256 := ⟨(y 0).val % 256, Nat.mod_lt _ (by decide)⟩

/-- They leave every tile in its place. -/
theorem canon_piles (p0 p1 p2 p3 : Vec Ideal S256x128 .f32) (y : S1024x128.Idx) :
    View.canon (piles p0 p1 p2 p3) y
      = ((![p0, p1, p2, p3] : Fin 4 → S256x128.Idx → EReal) (tileOf y)) (ix2 (n0 := 256) (n1 := 128) (rowOf y) (y 1)) := by
  have hx : ∀ x : S256x128.Idx, ix2 (n0 := 256) (n1 := 128) (x 0) (x 1) = x := fun x => by
    funext a
    match a with
    | ⟨0, _⟩ => rfl
    | ⟨1, _⟩ => rfl
  have key : ∀ (s : ℕ) (hs : s < 4) (h : ∀ a, (![s * 256, 0] : Fin 2 → ℕ) a + S256x128.size a ≤ S1024x128.size a) (x : S256x128.Idx),
      ((![p0, p1, p2, p3] : Fin 4 → S256x128.Idx → EReal) ⟨s, hs⟩) x
        = ((![p0, p1, p2, p3] : Fin 4 → S256x128.Idx → EReal) (tileOf ((Rect.unit (s := S1024x128) ![s * 256, 0] S256x128.size h).emb x)))
          (ix2 (n0 := 256) (n1 := 128) (rowOf ((Rect.unit (s := S1024x128) ![s * 256, 0] S256x128.size h).emb x)) ((Rect.unit (s := S1024x128) ![s * 256, 0] S256x128.size h).emb x 1)) := fun s hs h x => by
    have h1 : (x 0).val < 256 := (x 0).isLt
    have e0 : tileOf ((Rect.unit (s := S1024x128) ![s * 256, 0] S256x128.size h).emb x) = (⟨s, hs⟩ : Fin 4) := Fin.ext (by show (s * 256 + 1 * (x 0).val) / 256 = s; omega)
    have e1 : rowOf ((Rect.unit (s := S1024x128) ![s * 256, 0] S256x128.size h).emb x) = x 0 := Fin.ext (by show (s * 256 + 1 * (x 0).val) % 256 = (x 0).val; omega)
    have e2 : (Rect.unit (s := S1024x128) ![s * 256, 0] S256x128.size h).emb x 1 = x 1 := Fin.ext (by show 0 + 1 * (x 1).val = (x 1).val; omega)
    rw [e0, e1, e2, hx]
  have := View.canon_append_of_pieces (fun y : S1024x128.Idx => ((![p0, p1, p2, p3] : Fin 4 → S256x128.Idx → EReal) (tileOf y)) (ix2 (n0 := 256) (n1 := 128) (rowOf y) (y 1)))
    [] (piles p0 p1 p2 p3) ?_ y (View.cover_of_tiled_head u3 p3 [⟨u2, p2⟩, ⟨u1, p1⟩, ⟨u0, p0⟩] rfl y)
  · rwa [List.append_nil] at this
  intro p hp
  rcases List.mem_cons.mp hp with rfl | hp
  · exact key 3 (by decide) inb_S1024x128_S256x128_768_0
  rcases List.mem_cons.mp hp with rfl | hp
  · exact key 2 (by decide) inb_S1024x128_S256x128_512_0
  rcases List.mem_cons.mp hp with rfl | hp
  · exact key 1 (by decide) inb_S1024x128_S256x128_256_0
  rcases List.mem_cons.mp hp with rfl | hp
  · exact key 0 (by decide) inb_S1024x128_S256x128_0_0
  nomatch hp

/-- The columns of a row: its gates in the columns 4 to 7, zeros after them. -/
def rowCol (n : Fin 1024 → EReal) (w : Fin 1024 → Fin 32 → EReal) (c : Fin 32 → EReal) (k : ℕ) : EReal :=
  if k < 8 then rowGate n w c (k - 4) else 0

/-- The columns of a block's rows. -/
def colBlock (N : Vec Ideal S1024x1024 .f32) (w : Vec Ideal S1024x128 .bf16) (c : Vec Ideal S1x128 .f32) (y : S1024x128.Idx) : EReal :=
  rowCol (fun d => (N : S1024x1024.Idx → EReal) (ix2 (n0 := 1024) (y 0) d)) (fun d e => (w : S1024x128.Idx → EReal) (ix2 d ⟨e.val, by omega⟩))
    (fun e => (c : S1x128.Idx → EReal) (ix2 (n0 := 1) 0 ⟨e.val, by omega⟩)) (y 1).val

/-- A tile's stored columns. -/
theorem tile_cols (N : Vec Ideal S1024x1024 .f32) (w : Vec Ideal S1024x128 .bf16) (c : Vec Ideal S1x128 .f32) (s : ℕ)
    (h : ∀ a, (![s * 256, 0] : Fin 2 → ℕ) a + S256x1024.size a ≤ S1024x1024.size a) (l : Vec Ideal S256x1024 .f32)
    (hl : Holds N (Rect.unit (s := S1024x1024) ![s * 256, 0] S256x1024.size h) l) (p : Vec Ideal S256x128 .f32)
    (hp : ∃ a0 a1 a2 a3 : FVec Ideal S1x256 .f32, p = turned a0 a1 a2 a3 (scores l w c))
    (y : S1024x128.Idx) (hy0 : (y 0).val / 256 = s) (hy : 4 ≤ (y 1).val) :
    (p : S256x128.Idx → EReal) (ix2 (n0 := 256) (n1 := 128) (rowOf y) (y 1)) = colBlock N w c y := by
  obtain ⟨a0, a1, a2, a3, rfl⟩ := hp
  have h1 : (y 1).val < 128 := (y 1).isLt
  unfold colBlock rowCol
  by_cases h8 : (y 1).val < 8
  · rw [if_pos h8]
    have e1 : y 1 = (⟨4 + ((y 1).val - 4), by omega⟩ : Fin 128) := Fin.ext (by show (y 1).val = 4 + ((y 1).val - 4); omega)
    have := turned_gate a0 a1 a2 a3 (scores l w c) ⟨(y 1).val - 4, by omega⟩ (rowOf y)
    refine (congrArg (fun q => turned a0 a1 a2 a3 (scores l w c) (ix2 (n0 := 256) (n1 := 128) (rowOf y) q)) e1).trans (this.trans ?_)
    refine congrArg (fun q => softOf (taken q) ((y 1).val - 4)) (funext fun e => ?_)
    refine (scores_apply l w c (rowOf y) e).trans ?_
    refine congrArg (· + _) (Finset.sum_congr rfl fun k _ => congrArg (· * _) ?_)
    refine (hl (ix2 (n0 := 256) (n1 := 1024) (rowOf y) k)).trans (congrArg (N : S1024x1024.Idx → EReal) (funext fun a => Fin.ext ?_))
    match a with
    | ⟨0, _⟩ => show s * 256 + 1 * ((y 0).val % 256) = (y 0).val; omega
    | ⟨1, _⟩ => show 0 + 1 * k.val = k.val; omega
  · rw [if_neg h8]
    have e1 : y 1 = (⟨8 + ((y 1).val - 8), by omega⟩ : Fin 128) := Fin.ext (by show (y 1).val = 8 + ((y 1).val - 8); omega)
    exact (congrArg (fun q => turned a0 a1 a2 a3 (scores l w c) (ix2 (n0 := 256) (n1 := 128) (rowOf y) q)) e1).trans (turned_zero a0 a1 a2 a3 (scores l w c) ⟨(y 1).val - 8, by omega⟩ (rowOf y))

/-- The block of columns as the body leaves it, from the column 4 on. -/
theorem cols_left (N : Vec Ideal S1024x1024 .f32) (w : Vec Ideal S1024x128 .bf16) (c : Vec Ideal S1x128 .f32) (l0 l1 l2 l3 : Vec Ideal S256x1024 .f32)
    (h0 : Holds N r0 l0) (h1 : Holds N r1 l1) (h2 : Holds N r2 l2) (h3 : Holds N r3 l3) (p0 p1 p2 p3 : Vec Ideal S256x128 .f32)
    (k0 : ∃ a0 a1 a2 a3 : FVec Ideal S1x256 .f32, p0 = turned a0 a1 a2 a3 (scores l0 w c))
    (k1 : ∃ a0 a1 a2 a3 : FVec Ideal S1x256 .f32, p1 = turned a0 a1 a2 a3 (scores l1 w c))
    (k2 : ∃ a0 a1 a2 a3 : FVec Ideal S1x256 .f32, p2 = turned a0 a1 a2 a3 (scores l2 w c))
    (k3 : ∃ a0 a1 a2 a3 : FVec Ideal S1x256 .f32, p3 = turned a0 a1 a2 a3 (scores l3 w c)) (y : S1024x128.Idx) (hy : 4 ≤ (y 1).val) :
    View.canon (piles p0 p1 p2 p3) y = colBlock N w c y := by
  refine (canon_piles _ _ _ _ y).trans ?_
  have hlt : (y 0).val < 1024 := (y 0).isLt
  have hc : (y 0).val / 256 = 0 ∨ (y 0).val / 256 = 1 ∨ (y 0).val / 256 = 2 ∨ (y 0).val / 256 = 3 := by omega
  rcases hc with e | e | e | e
  · have e' : tileOf y = (0 : Fin 4) := Fin.ext e
    rw [e']
    exact tile_cols N w c 0 inb_S1024x1024_S256x1024_0_0 l0 h0 p0 k0 y e hy
  · have e' : tileOf y = (1 : Fin 4) := Fin.ext e
    rw [e']
    exact tile_cols N w c 1 inb_S1024x1024_S256x1024_256_0 l1 h1 p1 k1 y e hy
  · have e' : tileOf y = (2 : Fin 4) := Fin.ext e
    rw [e']
    exact tile_cols N w c 2 inb_S1024x1024_S256x1024_512_0 l2 h2 p2 k2 y e hy
  · have e' : tileOf y = (3 : Fin 4) := Fin.ext e
    rw [e']
    exact tile_cols N w c 3 inb_S1024x1024_S256x1024_768_0 l3 h3 p3 k3 y e hy

end Cert.Kernel3Ideal.Out

end
-- ==== Proof.Out.GatePoints.lean ====
/- What either case of the output projection's body leaves in the block of gates and in the block of columns. -/
module

public import proofs.«01_k».proof.Proof.Out.Cols

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open scoped BigOperators

/-- A load of the whole matrix is the matrix. -/
theorem ld_router (x : Vec Ideal S1024x128 .bf16) : View.ld x (Rect.unit (s := S1024x128) ![0, 0] S1024x128.size inb_S1024x128_S1024x128_0_0) = x := by
  funext y
  refine congrArg (x : S1024x128.Idx → EReal) (funext fun a => Fin.ext ?_)
  match a with
  | ⟨0, _⟩ => show 0 + 1 * (y 0).val = (y 0).val; omega
  | ⟨1, _⟩ => show 0 + 1 * (y 1).val = (y 1).val; omega

/-- A load of the whole row of biases is the row. -/
theorem ld_bias (x : Vec Ideal S1x128 .f32) : View.ld x (Rect.unit (s := S1x128) ![0, 0] S1x128.size inb_S1x128_S1x128_0_0) = x := by
  funext y
  refine congrArg (x : S1x128.Idx → EReal) (funext fun a => Fin.ext ?_)
  match a with
  | ⟨0, _⟩ => show 0 + 1 * (y 0).val = (y 0).val; omega
  | ⟨1, _⟩ => show 0 + 1 * (y 1).val = (y 1).val; omega

/-- At the first point the body leaves the gates of the block's rows, in both layouts. -/
theorem gates_A (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1x128 .f32) (harg9 : arg9.IsWhole) (arg10 : Memref sig .tc .vmem S1024x1024 .f32) (harg10 : arg10.IsWhole) (arg11 : Memref sig .tc .vmem S4x8x256 .f32) (harg11 : arg11.IsWhole) (arg12 : Memref sig .tc .vmem S1024x128 .f32) (harg12 : arg12.IsWhole) (arg13 : Memref sig .tc .vmem S4x8x128 .i32) (harg13 : arg13.IsWhole) (arg14 : Memref sig .tc .vmem S8x128 .i32) (harg14 : arg14.IsWhole) (arg15 : Memref sig .tc .vmem S1x128 .f32) (harg15 : arg15.IsWhole) (hc0 : cond0_0 i)
    (x0 : Vec Ideal S1024x512 .bf16) (x1 : Vec Ideal S1024x512 .bf16) (x2 : Vec Ideal S1024x1024 .f32) (x3 : Vec Ideal S512x1024 .bf16) (x4 : Vec Ideal S512x1024 .bf16) (x5 : Vec Ideal S1x1024 .f32) (x6 : Vec Ideal S1x1024 .f32) (x7 : Vec Ideal S1024x128 .bf16) (x8 : Vec Ideal S1x128 .f32) :
    (∀ y : S4x8x256.Idx, 4 ≤ (y 1).val →
      out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y = gateBlock (normedBlock (mixedBlock x0 x1 x2 x3 x4) x5 x6) x7 x8 y)
    ∧ ∀ y : S1024x128.Idx, 4 ≤ (y 1).val →
      out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y = colBlock (normedBlock (mixedBlock x0 x1 x2 x3 x4) x5 x6) x7 x8 y := by
  have eg : View.readAt (Elt Ideal) arg6.view (Rect.unit ![0, 0] S1x1024.size inb_S1x1024_S1x1024_0_0).toLoadRect (harg6.unread x5) = x5 := by
    rw [View.readAt_eq_ld, Memref.IsWhole.read_unread, ld_row]
  have eb : View.readAt (Elt Ideal) arg7.view (Rect.unit ![0, 0] S1x1024.size inb_S1x1024_S1x1024_0_0).toLoadRect (harg7.unread x6) = x6 := by
    rw [View.readAt_eq_ld, Memref.IsWhole.read_unread, ld_row]
  have hw : ∀ (o : ℕ) (h : ∀ a, (![o, 0] : Fin 2 → ℕ) a + S256x1024.size a ≤ S1024x1024.size a) (h' : ∀ a, (![o, 0] : Fin 2 → ℕ) a + S256x512.size a ≤ S1024x512.size a),
      Holds (mixedBlock x0 x1 x2 x3 x4) (Rect.unit (s := S1024x1024) ![o, 0] S256x1024.size h)
        (k0_pay7 (View.readAt (Elt Ideal) arg3.view (Rect.unit (s := S1024x1024) ![o, 0] S256x1024.size h).toLoadRect (harg3.unread x2))
          (View.readAt (Elt Ideal) arg1.view (Rect.unit (s := S1024x512) ![o, 0] S256x512.size h').toLoadRect (harg1.unread x0))
          (View.readAt (Elt Ideal) arg4.view (Rect.unit ![0, 0] S512x1024.size inb_S512x1024_S512x1024_0_0).toLoadRect (harg4.unread x3))
          (View.readAt (Elt Ideal) arg2.view (Rect.unit (s := S1024x512) ![o, 0] S256x512.size h').toLoadRect (harg2.unread x1))
          (View.readAt (Elt Ideal) arg5.view (Rect.unit ![0, 0] S512x1024.size inb_S512x1024_S512x1024_0_0).toLoadRect (harg5.unread x4))) := fun o h h' => by
    rw [View.readAt_eq_ld, View.readAt_eq_ld, View.readAt_eq_ld, View.readAt_eq_ld, View.readAt_eq_ld, Memref.IsWhole.read_unread, Memref.IsWhole.read_unread,
      Memref.IsWhole.read_unread, Memref.IsWhole.read_unread, Memref.IsWhole.read_unread]
    exact mixed_tile x0 x1 x2 x3 x4 o h h'
  have ew : View.readAt (Elt Ideal) arg8.view (Rect.unit ![0, 0] S1024x128.size inb_S1024x128_S1024x128_0_0).toLoadRect (harg8.unread x7) = x7 := by
    rw [View.readAt_eq_ld, Memref.IsWhole.read_unread, ld_router]
  have ec : View.readAt (Elt Ideal) arg9.view (Rect.unit ![0, 0] S1x128.size inb_S1x128_S1x128_0_0).toLoadRect (harg9.unread x8) = x8 := by
    rw [View.readAt_eq_ld, Memref.IsWhole.read_unread, ld_bias]
  obtain ⟨k0, k1, k2, k3⟩ := block_tiles arg10.view (mixedBlock x0 x1 x2 x3 x4)
    (View.readAt (Elt Ideal) arg6.view (Rect.unit ![0, 0] S1x1024.size inb_S1x1024_S1x1024_0_0).toLoadRect (harg6.unread x5))
    (View.readAt (Elt Ideal) arg7.view (Rect.unit ![0, 0] S1x1024.size inb_S1x1024_S1x1024_0_0).toLoadRect (harg7.unread x6)) _ _ _ _ _ _ _ _
    (hw 0 inb_S1024x1024_S256x1024_0_0 inb_S1024x512_S256x512_0_0) (hw 256 inb_S1024x1024_S256x1024_256_0 inb_S1024x512_S256x512_256_0)
    (hw 512 inb_S1024x1024_S256x1024_512_0 inb_S1024x512_S256x512_512_0) (hw 768 inb_S1024x1024_S256x1024_768_0 inb_S1024x512_S256x512_768_0)
    rfl rfl rfl rfl
  refine ⟨fun y hy => ?_, fun y hy => ?_⟩
  · have eR : gateBlock (normedBlock (mixedBlock x0 x1 x2 x3 x4)
          (View.readAt (Elt Ideal) arg6.view (Rect.unit ![0, 0] S1x1024.size inb_S1x1024_S1x1024_0_0).toLoadRect (harg6.unread x5))
          (View.readAt (Elt Ideal) arg7.view (Rect.unit ![0, 0] S1x1024.size inb_S1x1024_S1x1024_0_0).toLoadRect (harg7.unread x6)))
          (View.readAt (Elt Ideal) arg8.view (Rect.unit ![0, 0] S1024x128.size inb_S1024x128_S1024x128_0_0).toLoadRect (harg8.unread x7))
          (View.readAt (Elt Ideal) arg9.view (Rect.unit ![0, 0] S1x128.size inb_S1x128_S1x128_0_0).toLoadRect (harg9.unread x8)) y
        = gateBlock (normedBlock (mixedBlock x0 x1 x2 x3 x4) x5 x6) x7 x8 y := by rw [eg, eb, ew, ec]
    unfold out0_A_10
    refine (congrFun (View.read_writes_junk_eq_canon _ _) y).trans ?_
    unfold kernelRun0_A
    dsimp only
    have key := gates_left (normedBlock (mixedBlock x0 x1 x2 x3 x4) _ _) (View.readAt (Elt Ideal) arg8.view (Rect.unit ![0, 0] S1024x128.size inb_S1024x128_S1024x128_0_0).toLoadRect (harg8.unread x7))
      (View.readAt (Elt Ideal) arg9.view (Rect.unit ![0, 0] S1x128.size inb_S1x128_S1x128_0_0).toLoadRect (harg9.unread x8)) _ _ _ _ k0 k1 k2 k3
    exact (key _ _ _ _ (stored_0 _ _ _ _ _ _ _ _ _ _) (stored_1 _ _ _ _ _ _ _ _ _ _ _) (stored_2 _ _ _ _ _ _ _ _ _ _) (stored_3 _ _ _ _ _ _ _ _ _ _ _) y hy).trans eR
  · have eR : colBlock (normedBlock (mixedBlock x0 x1 x2 x3 x4)
          (View.readAt (Elt Ideal) arg6.view (Rect.unit ![0, 0] S1x1024.size inb_S1x1024_S1x1024_0_0).toLoadRect (harg6.unread x5))
          (View.readAt (Elt Ideal) arg7.view (Rect.unit ![0, 0] S1x1024.size inb_S1x1024_S1x1024_0_0).toLoadRect (harg7.unread x6)))
          (View.readAt (Elt Ideal) arg8.view (Rect.unit ![0, 0] S1024x128.size inb_S1024x128_S1024x128_0_0).toLoadRect (harg8.unread x7))
          (View.readAt (Elt Ideal) arg9.view (Rect.unit ![0, 0] S1x128.size inb_S1x128_S1x128_0_0).toLoadRect (harg9.unread x8)) y
        = colBlock (normedBlock (mixedBlock x0 x1 x2 x3 x4) x5 x6) x7 x8 y := by rw [eg, eb, ew, ec]
    unfold out0_A_11
    refine (congrFun (View.read_writes_junk_eq_canon _ _) y).trans ?_
    unfold kernelRun0_A
    dsimp only
    have key := cols_left (normedBlock (mixedBlock x0 x1 x2 x3 x4) _ _) (View.readAt (Elt Ideal) arg8.view (Rect.unit ![0, 0] S1024x128.size inb_S1024x128_S1024x128_0_0).toLoadRect (harg8.unread x7))
      (View.readAt (Elt Ideal) arg9.view (Rect.unit ![0, 0] S1x128.size inb_S1x128_S1x128_0_0).toLoadRect (harg9.unread x8)) _ _ _ _ k0 k1 k2 k3
    refine (key _ _ _ _ ?_ ?_ ?_ ?_ y hy).trans eR
    · exact turned_0 _ _ _ _ _ _ _ _
    · exact turned_1 _ _ _ _ _ _ _
    · exact turned_2 _ _ _ _ _ _
    · exact turned_3 _ _ _ _ _ _ _

/-- At every later point the body leaves the gates of the block's rows, in both layouts. -/
theorem gates_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1x128 .f32) (harg9 : arg9.IsWhole) (arg10 : Memref sig .tc .vmem S1024x1024 .f32) (harg10 : arg10.IsWhole) (arg11 : Memref sig .tc .vmem S4x8x256 .f32) (harg11 : arg11.IsWhole) (arg12 : Memref sig .tc .vmem S1024x128 .f32) (harg12 : arg12.IsWhole) (arg13 : Memref sig .tc .vmem S4x8x128 .i32) (harg13 : arg13.IsWhole) (arg14 : Memref sig .tc .vmem S8x128 .i32) (harg14 : arg14.IsWhole) (arg15 : Memref sig .tc .vmem S1x128 .f32) (harg15 : arg15.IsWhole) (hc0 : ¬cond0_0 i)
    (x0 : Vec Ideal S1024x512 .bf16) (x1 : Vec Ideal S1024x512 .bf16) (x2 : Vec Ideal S1024x1024 .f32) (x3 : Vec Ideal S512x1024 .bf16) (x4 : Vec Ideal S512x1024 .bf16) (x5 : Vec Ideal S1x1024 .f32) (x6 : Vec Ideal S1x1024 .f32) (x7 : Vec Ideal S1024x128 .bf16) (x8 : Vec Ideal S1x128 .f32) (xs0 : Vec Ideal S1x128 .f32) :
    (∀ y : S4x8x256.Idx, 4 ≤ (y 1).val →
      out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 y = gateBlock (normedBlock (mixedBlock x0 x1 x2 x3 x4) x5 x6) x7 x8 y)
    ∧ ∀ y : S1024x128.Idx, 4 ≤ (y 1).val →
      out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 y = colBlock (normedBlock (mixedBlock x0 x1 x2 x3 x4) x5 x6) x7 x8 y := by
  have eg : View.readAt (Elt Ideal) arg6.view (Rect.unit ![0, 0] S1x1024.size inb_S1x1024_S1x1024_0_0).toLoadRect (harg6.unread x5) = x5 := by
    rw [View.readAt_eq_ld, Memref.IsWhole.read_unread, ld_row]
  have eb : View.readAt (Elt Ideal) arg7.view (Rect.unit ![0, 0] S1x1024.size inb_S1x1024_S1x1024_0_0).toLoadRect (harg7.unread x6) = x6 := by
    rw [View.readAt_eq_ld, Memref.IsWhole.read_unread, ld_row]
  have hw : ∀ (o : ℕ) (h : ∀ a, (![o, 0] : Fin 2 → ℕ) a + S256x1024.size a ≤ S1024x1024.size a) (h' : ∀ a, (![o, 0] : Fin 2 → ℕ) a + S256x512.size a ≤ S1024x512.size a),
      Holds (mixedBlock x0 x1 x2 x3 x4) (Rect.unit (s := S1024x1024) ![o, 0] S256x1024.size h)
        (k0_pay7 (View.readAt (Elt Ideal) arg3.view (Rect.unit (s := S1024x1024) ![o, 0] S256x1024.size h).toLoadRect (harg3.unread x2))
          (View.readAt (Elt Ideal) arg1.view (Rect.unit (s := S1024x512) ![o, 0] S256x512.size h').toLoadRect (harg1.unread x0))
          (View.readAt (Elt Ideal) arg4.view (Rect.unit ![0, 0] S512x1024.size inb_S512x1024_S512x1024_0_0).toLoadRect (harg4.unread x3))
          (View.readAt (Elt Ideal) arg2.view (Rect.unit (s := S1024x512) ![o, 0] S256x512.size h').toLoadRect (harg2.unread x1))
          (View.readAt (Elt Ideal) arg5.view (Rect.unit ![0, 0] S512x1024.size inb_S512x1024_S512x1024_0_0).toLoadRect (harg5.unread x4))) := fun o h h' => by
    rw [View.readAt_eq_ld, View.readAt_eq_ld, View.readAt_eq_ld, View.readAt_eq_ld, View.readAt_eq_ld, Memref.IsWhole.read_unread, Memref.IsWhole.read_unread,
      Memref.IsWhole.read_unread, Memref.IsWhole.read_unread, Memref.IsWhole.read_unread]
    exact mixed_tile x0 x1 x2 x3 x4 o h h'
  have ew : View.readAt (Elt Ideal) arg8.view (Rect.unit ![0, 0] S1024x128.size inb_S1024x128_S1024x128_0_0).toLoadRect (harg8.unread x7) = x7 := by
    rw [View.readAt_eq_ld, Memref.IsWhole.read_unread, ld_router]
  have ec : View.readAt (Elt Ideal) arg9.view (Rect.unit ![0, 0] S1x128.size inb_S1x128_S1x128_0_0).toLoadRect (harg9.unread x8) = x8 := by
    rw [View.readAt_eq_ld, Memref.IsWhole.read_unread, ld_bias]
  obtain ⟨k0, k1, k2, k3⟩ := block_tiles arg10.view (mixedBlock x0 x1 x2 x3 x4)
    (View.readAt (Elt Ideal) arg6.view (Rect.unit ![0, 0] S1x1024.size inb_S1x1024_S1x1024_0_0).toLoadRect (harg6.unread x5))
    (View.readAt (Elt Ideal) arg7.view (Rect.unit ![0, 0] S1x1024.size inb_S1x1024_S1x1024_0_0).toLoadRect (harg7.unread x6)) _ _ _ _ _ _ _ _
    (hw 0 inb_S1024x1024_S256x1024_0_0 inb_S1024x512_S256x512_0_0) (hw 256 inb_S1024x1024_S256x1024_256_0 inb_S1024x512_S256x512_256_0)
    (hw 512 inb_S1024x1024_S256x1024_512_0 inb_S1024x512_S256x512_512_0) (hw 768 inb_S1024x1024_S256x1024_768_0 inb_S1024x512_S256x512_768_0)
    rfl rfl rfl rfl
  refine ⟨fun y hy => ?_, fun y hy => ?_⟩
  · have eR : gateBlock (normedBlock (mixedBlock x0 x1 x2 x3 x4)
          (View.readAt (Elt Ideal) arg6.view (Rect.unit ![0, 0] S1x1024.size inb_S1x1024_S1x1024_0_0).toLoadRect (harg6.unread x5))
          (View.readAt (Elt Ideal) arg7.view (Rect.unit ![0, 0] S1x1024.size inb_S1x1024_S1x1024_0_0).toLoadRect (harg7.unread x6)))
          (View.readAt (Elt Ideal) arg8.view (Rect.unit ![0, 0] S1024x128.size inb_S1024x128_S1024x128_0_0).toLoadRect (harg8.unread x7))
          (View.readAt (Elt Ideal) arg9.view (Rect.unit ![0, 0] S1x128.size inb_S1x128_S1x128_0_0).toLoadRect (harg9.unread x8)) y
        = gateBlock (normedBlock (mixedBlock x0 x1 x2 x3 x4) x5 x6) x7 x8 y := by rw [eg, eb, ew, ec]
    unfold out0_B_10
    refine (congrFun (View.read_writes_junk_eq_canon _ _) y).trans ?_
    unfold kernelRun0_B
    dsimp only
    have key := gates_left (normedBlock (mixedBlock x0 x1 x2 x3 x4) _ _) (View.readAt (Elt Ideal) arg8.view (Rect.unit ![0, 0] S1024x128.size inb_S1024x128_S1024x128_0_0).toLoadRect (harg8.unread x7))
      (View.readAt (Elt Ideal) arg9.view (Rect.unit ![0, 0] S1x128.size inb_S1x128_S1x128_0_0).toLoadRect (harg9.unread x8)) _ _ _ _ k0 k1 k2 k3
    exact (key _ _ _ _ (stored_0 _ _ _ _ _ _ _ _ _ _) (stored_1 _ _ _ _ _ _ _ _ _ _ _) (stored_2 _ _ _ _ _ _ _ _ _ _) (stored_3 _ _ _ _ _ _ _ _ _ _ _) y hy).trans eR
  · have eR : colBlock (normedBlock (mixedBlock x0 x1 x2 x3 x4)
          (View.readAt (Elt Ideal) arg6.view (Rect.unit ![0, 0] S1x1024.size inb_S1x1024_S1x1024_0_0).toLoadRect (harg6.unread x5))
          (View.readAt (Elt Ideal) arg7.view (Rect.unit ![0, 0] S1x1024.size inb_S1x1024_S1x1024_0_0).toLoadRect (harg7.unread x6)))
          (View.readAt (Elt Ideal) arg8.view (Rect.unit ![0, 0] S1024x128.size inb_S1024x128_S1024x128_0_0).toLoadRect (harg8.unread x7))
          (View.readAt (Elt Ideal) arg9.view (Rect.unit ![0, 0] S1x128.size inb_S1x128_S1x128_0_0).toLoadRect (harg9.unread x8)) y
        = colBlock (normedBlock (mixedBlock x0 x1 x2 x3 x4) x5 x6) x7 x8 y := by rw [eg, eb, ew, ec]
    unfold out0_B_11
    refine (congrFun (View.read_writes_junk_eq_canon _ _) y).trans ?_
    unfold kernelRun0_B
    dsimp only
    have key := cols_left (normedBlock (mixedBlock x0 x1 x2 x3 x4) _ _) (View.readAt (Elt Ideal) arg8.view (Rect.unit ![0, 0] S1024x128.size inb_S1024x128_S1024x128_0_0).toLoadRect (harg8.unread x7))
      (View.readAt (Elt Ideal) arg9.view (Rect.unit ![0, 0] S1x128.size inb_S1x128_S1x128_0_0).toLoadRect (harg9.unread x8)) _ _ _ _ k0 k1 k2 k3
    refine (key _ _ _ _ ?_ ?_ ?_ ?_ y hy).trans eR
    · exact turned_0 _ _ _ _ _ _ _ _
    · exact turned_1 _ _ _ _ _ _ _
    · exact turned_2 _ _ _ _ _ _
    · exact turned_3 _ _ _ _ _ _ _

end Cert.Kernel3Ideal.Out

end
-- ==== Proof.Out.GateResult.lean ====
/- The array of gates that the output projection's run leaves. -/
module

public import proofs.«01_k».proof.Proof.Out.GatePoints
public import proofs.«01_k».proof.Proof.Out.Result
public import Idealize.ShloMosaic.Lib.KernelVsHost

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open Idealize.ShloMosaic.Pipeline (Dat Cfg Window)
open scoped BigOperators

/-- The gates: at tile `i 0`, row `4 + k` and place `i 2`, the gate of rank `k` of the normed row `256 * i 0 + i 2`. -/
def gates (a h : S32768x512.Idx → EReal) (x : S32768x1024.Idx → EReal) (w : S1024x1024.Idx → EReal) (g b : S1024.Idx → EReal) (wr : S1024x32.Idx → EReal) (cr : S32.Idx → EReal)
    (i : S128x8x256.Idx) : EReal :=
  rowGate (fun d => normed a h x w g b (ix2 (n0 := 32768) (n1 := 1024) ⟨(i 0).val * 256 + (i 2).val, by
      have h0 : (i 0).val < 128 := (i 0).isLt
      have h2 : (i 2).val < 256 := (i 2).isLt
      omega⟩ d))
    (fun d e => wr (ix2 (n0 := 1024) (n1 := 32) d e)) (fun e => cr (ix1 e)) ((i 1).val - 4)

section
variable (m : (ℓ : Loc nD τ sig) → Buf (Elt Ideal) ℓ)

/-- The argument holding the router's weights -/
abbrev routerArg (c : Dev nD) : S1024x32.Idx → EReal := m ((c.tc : Thread nD τ).loc main_arg6)
/-- and the router's bias. -/
abbrev biasArg (c : Dev nD) : S32.Idx → EReal := m ((c.tc : Thread nD τ).loc main_arg7)

/-- The router's weights that the region finds: padded by 96 columns. -/
theorem V_router (c : Dev nD) : (V m c main_v6 : S1024x128.Idx → EReal)
    = truncf (F := Ideal) .bf16 (pad S1024x128 ![0, 0] ![0, 96] ![0, 0] (routerArg m c) (sitofp (F := Ideal) .f32 (constantI S_ 32 0#32)) pads_S1024x32_S1024x128_000_0960 h_S_ : FVec Ideal S1024x128 .f32) bitsLt_bf16_f32 := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The router's bias that the region finds: one row, padded by 96 columns. -/
theorem V_bias (c : Dev nD) : (V m c main_v8 : S1x128.Idx → EReal)
    = pad S1x128 ![0, 0] ![0, 96] ![0, 0] (broadcastInDim S1x32 ![1] bcast_S32_S1x32_1 (biasArg m c)) (sitofp (F := Ideal) .f32 (constantI S_ 32 0#32)) pads_S1x32_S1x128_000_0960 h_S_ := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results <;> rfl

/-- The router's weights at a point, in their first 32 columns. -/
theorem blk_router (c : Dev nD) (t : Fin cfg0.N) (d : Fin 1024) (e : Fin 32) :
    (iblk m c 7 t : S1024x128.Idx → EReal) (ix2 d ⟨e.val, by omega⟩) = routerArg m c (ix2 d e) := by
  have q : (iblk m c 7 t : S1024x128.Idx → EReal) (ix2 d ⟨e.val, by omega⟩) = (V m c main_v6 : S1024x128.Idx → EReal) (ix2 d ⟨e.val, by omega⟩) := by
    unfold iblk
    refine congrArg (V m c main_v6 : S1024x128.Idx → EReal) (funext fun a => Fin.ext ?_)
    match a with
    | ⟨0, _⟩ => show 0 * 1024 + 1 * d.val = d.val; omega
    | ⟨1, _⟩ => show 0 * 128 + 1 * e.val = e.val; omega
  rw [q, V_router]
  refine pad_apply_of_inside ![0, 0] ![0, 96] ![0, 0] (routerArg m c) (sitofp (F := Ideal) .f32 (constantI S_ 32 0#32)) pads_S1024x32_S1024x128_000_0960 h_S_ _ (ix2 d e) fun a => ?_
  match a with
  | ⟨0, _⟩ => show d.val = 0 + d.val * (0 + 1); omega
  | ⟨1, _⟩ => show e.val = 0 + e.val * (0 + 1); omega

/-- The router's bias at a point, in its first 32 columns. -/
theorem blk_bias (c : Dev nD) (t : Fin cfg0.N) (e : Fin 32) :
    (iblk m c 8 t : S1x128.Idx → EReal) (ix2 (n0 := 1) 0 ⟨e.val, by omega⟩) = biasArg m c (ix1 e) := by
  have q : (iblk m c 8 t : S1x128.Idx → EReal) (ix2 (n0 := 1) 0 ⟨e.val, by omega⟩) = (V m c main_v8 : S1x128.Idx → EReal) (ix2 (n0 := 1) 0 ⟨e.val, by omega⟩) := by
    unfold iblk
    refine congrArg (V m c main_v8 : S1x128.Idx → EReal) (funext fun a => Fin.ext ?_)
    match a with
    | ⟨0, _⟩ => rfl
    | ⟨1, _⟩ => show 0 * 128 + 1 * e.val = e.val; omega
  rw [q, V_bias]
  refine (pad_apply_of_inside _ _ _ _ _ _ _ _ (ix2 (n0 := 1) 0 e) fun a => ?_).trans (broadcastInDim_apply _ _ _ _ _ fun a => ?_)
  · match a with
    | ⟨0, _⟩ => rfl
    | ⟨1, _⟩ => show e.val = 0 + e.val * (0 + 1); omega
  · match a with
    | ⟨0, _⟩ => rfl

/-- The index map of the window of gates at a point: block `t`. -/
theorem tr_10 : ∀ t : Fin grid0.N, cc0_transform_10 (grid0.coords t) = ![t.val, 0, 0] := by decide +kernel

/-- Tile `q` of block `t`. -/
abbrev tile (t : Fin cfg0.N) (q : Fin 4) : Fin 128 := ⟨t.val * 4 + q.val, by have := pt_lt t; have := q.isLt; omega⟩

/-- Where a point's block of gates lies. -/
theorem emb_10 (t : Fin cfg0.N) (y : S4x8x256.Idx) : (((cfg0.win 10).blk t).view.emb y : S128x8x256.Idx)
    = ix3 (n0 := 128) (n1 := 8) (n2 := 256) (tile t (y 0)) (y 1) (y 2) := by
  funext a
  match a with
  | ⟨0, _⟩ => exact Fin.ext (by
      show cc0_transform_10 (grid0.coords t) 0 * 4 + 1 * (y 0).val = t.val * 4 + (y 0).val
      rw [tr_10 t, Nat.one_mul]; rfl)
  | ⟨1, _⟩ => exact Fin.ext (by
      show cc0_transform_10 (grid0.coords t) 1 * 8 + 1 * (y 1).val = (y 1).val
      rw [tr_10 t, Nat.one_mul]; exact Nat.zero_add _)
  | ⟨2, _⟩ => exact Fin.ext (by
      show cc0_transform_10 (grid0.coords t) 2 * 256 + 1 * (y 2).val = (y 2).val
      rw [tr_10 t, Nat.one_mul]; exact Nat.zero_add _)

/-- The block of gates at a point is the gates there. -/
theorem gateBlock_eq (c : Dev nD) (t : Fin cfg0.N) (y : S4x8x256.Idx) :
    gateBlock (normedBlock (mixedBlock (iblk m c 0 t) (iblk m c 1 t) (iblk m c 2 t) (iblk m c 3 t) (iblk m c 4 t)) (iblk m c 5 t) (iblk m c 6 t)) (iblk m c 7 t) (iblk m c 8 t) y
      = gates (aArg m c) (hArg m c) (xArg m c) (wArg m c) (gArg m c) (bArg m c) (routerArg m c) (biasArg m c) (ix3 (n0 := 128) (n1 := 8) (n2 := 256) (tile t (y 0)) (y 1) (y 2)) := by
  have h0 : (y 0).val < 4 := (y 0).isLt
  have h2 : (y 2).val < 256 := (y 2).isLt
  have e1 : (fun d => normedBlock (mixedBlock (iblk m c 0 t) (iblk m c 1 t) (iblk m c 2 t) (iblk m c 3 t) (iblk m c 4 t)) (iblk m c 5 t) (iblk m c 6 t)
        (ix2 (n0 := 1024) (n1 := 1024) ⟨(y 0).val * 256 + (y 2).val, by omega⟩ d))
      = fun d => normed (aArg m c) (hArg m c) (xArg m c) (wArg m c) (gArg m c) (bArg m c) (ix2 (n0 := 32768) (n1 := 1024) ⟨(tile t (y 0)).val * 256 + (y 2).val, by
          have := (tile t (y 0)).isLt
          omega⟩ d) := funext fun d => by
    refine (block_eq m c t _).trans (congrArg (normed (aArg m c) (hArg m c) (xArg m c) (wArg m c) (gArg m c) (bArg m c)) (funext fun a => ?_))
    match a with
    | ⟨0, _⟩ => exact Fin.ext (by show t.val * 1024 + ((y 0).val * 256 + (y 2).val) = (t.val * 4 + (y 0).val) * 256 + (y 2).val; omega)
    | ⟨1, _⟩ => rfl
  have e2 : (fun (d : Fin 1024) (e : Fin 32) => (iblk m c 7 t : S1024x128.Idx → EReal) (ix2 d ⟨e.val, by omega⟩)) = fun d e => routerArg m c (ix2 d e) :=
    funext fun d => funext fun e => blk_router m c t d e
  have e3 : (fun e : Fin 32 => (iblk m c 8 t : S1x128.Idx → EReal) (ix2 (n0 := 1) 0 ⟨e.val, by omega⟩)) = fun e => biasArg m c (ix1 e) :=
    funext fun e => blk_bias m c t e
  unfold gateBlock gates
  exact (congrArg (fun n => rowGate n _ _ ((y 1).val - 4)) e1).trans ((congrArg (fun w => rowGate _ w _ ((y 1).val - 4)) e2).trans (congrArg (fun b => rowGate _ _ b ((y 1).val - 4)) e3))

/-- What every point writes back in the rows of gates. -/
theorem wrote_10 (c : Dev nD) (t : Fin cfg0.N) (y : S4x8x256.Idx) (hy : 4 ≤ (y 1).val) :
    ((dats m 0 c).flushed 10 t : S4x8x256.Idx → EReal) y
      = gates (aArg m c) (hArg m c) (xArg m c) (wArg m c) (gArg m c) (bArg m c) (routerArg m c) (biasArg m c) (ix3 (n0 := 128) (n1 := 8) (n2 := 256) (tile t (y 0)) (y 1) (y 2)) := by
  by_cases h0 : t.val % 32 = 0
  · rw [Value.flushed10_A m c t h0]
    refine ((gates_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      ((hcond0_0 t).mpr h0) (iblk m c 0 t) (iblk m c 1 t) (iblk m c 2 t) (iblk m c 3 t) (iblk m c 4 t) (iblk m c 5 t) (iblk m c 6 t) (iblk m c 7 t) (iblk m c 8 t)).1 y hy).trans ?_
    exact gateBlock_eq m c t y
  · rw [Value.flushed10_B m c t h0]
    refine ((gates_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.2.2.2).1 y hy).trans ?_
    exact gateBlock_eq m c t y

/-- The array of gates after the run, in its rows of gates. -/
theorem arr_10 (c : Dev nD) (i : S128x8x256.Idx) (hi : 4 ≤ (i 1).val) :
    ((dats m 0 c).arrAt 10 cfg0.N : S128x8x256.Idx → EReal) i
      = gates (aArg m c) (hArg m c) (xArg m c) (wArg m c) (gArg m c) (bArg m c) (routerArg m c) (biasArg m c) i := by
  have h0 : (i 0).val < 128 := (i 0).isLt
  let t : Fin cfg0.N := ⟨(i 0).val / 4, lt_of_lt_of_eq (by omega : (i 0).val / 4 < 32) (by decide : grid0.N = 32).symm⟩
  let y : S4x8x256.Idx := ix3 (n0 := 4) (n1 := 8) (n2 := 256) ⟨(i 0).val % 4, Nat.mod_lt _ (by decide)⟩ (i 1) (i 2)
  have e : ix3 (n0 := 128) (n1 := 8) (n2 := 256) (tile t (y 0)) (y 1) (y 2) = i := by
    funext a
    match a with
    | ⟨0, _⟩ => exact Fin.ext (by show (i 0).val / 4 * 4 + (i 0).val % 4 = (i 0).val; omega)
    | ⟨1, _⟩ => rfl
    | ⟨2, _⟩ => rfl
  have b : ((dats m 0 c).arrAt 10 cfg0.N : S128x8x256.Idx → EReal) (((cfg0.win 10).blk t).view.emb y) = ((dats m 0 c).flushed 10 t : S4x8x256.Idx → EReal) y :=
    congrFun (Value.blocks10 m c t (flush0_10 t)) y
  rw [emb_10, e] at b
  rw [b, wrote_10 m c t y hi, e]

end

end Cert.Kernel3Ideal.Out

end
-- ==== Proof.Out.ColResult.lean ====
/- The array of columns that the output projection's run leaves. -/
module

public import proofs.«01_k».proof.Proof.Out.GateResult
public import Idealize.ShloMosaic.Lib.KernelVsHost

@[expose] public section

set_option maxRecDepth 16384

noncomputable section

namespace Cert.Kernel3Ideal.Out

open Cert.Kernel3Ideal Cert.Kernel3Ideal.Gen
open Idealize.ShloMosaic hiding ix1 ix2 ix3
open Idealize.ShloMosaic.TcCoe Idealize.SL.Sem
open Idealize.ShloMosaic.ValueIdx
open Idealize.ShloMosaic.Pipeline (Dat Cfg Window)
open scoped BigOperators

/-- The columns: in row `i 0` and column `4 + k`, for `k` below 4, the gate of rank `k` of the normed row `i 0`; zeros from the column 8 on. -/
def columns (a h : S32768x512.Idx → EReal) (x : S32768x1024.Idx → EReal) (w : S1024x1024.Idx → EReal) (g b : S1024.Idx → EReal) (wr : S1024x32.Idx → EReal) (cr : S32.Idx → EReal)
    (i : S32768x128.Idx) : EReal :=
  rowCol (fun d => normed a h x w g b (ix2 (n0 := 32768) (n1 := 1024) (i 0) d)) (fun d e => wr (ix2 (n0 := 1024) (n1 := 32) d e)) (fun e => cr (ix1 e)) (i 1).val

section
variable (m : (ℓ : Loc nD τ sig) → Buf (Elt Ideal) ℓ)

/-- The index map of the window of columns at a point: block `t`. -/
theorem tr_11 : ∀ t : Fin grid0.N, cc0_transform_11 (grid0.coords t) = ![t.val, 0] := by decide +kernel

/-- Where a point's block of columns lies. -/
theorem emb_11 (t : Fin cfg0.N) (y : S1024x128.Idx) : (((cfg0.win 11).blk t).view.emb y : S32768x128.Idx)
    = ix2 (n0 := 32768) (n1 := 128) (row t (y 0)) (y 1) := by
  funext a
  match a with
  | ⟨0, _⟩ => exact Fin.ext (by
      show cc0_transform_11 (grid0.coords t) 0 * 1024 + 1 * (y 0).val = t.val * 1024 + (y 0).val
      rw [tr_11 t, Nat.one_mul]; rfl)
  | ⟨1, _⟩ => exact Fin.ext (by
      show cc0_transform_11 (grid0.coords t) 1 * 128 + 1 * (y 1).val = (y 1).val
      rw [tr_11 t, Nat.one_mul]; exact Nat.zero_add _)

/-- The block of columns at a point is the columns there. -/
theorem colBlock_eq (c : Dev nD) (t : Fin cfg0.N) (y : S1024x128.Idx) :
    colBlock (normedBlock (mixedBlock (iblk m c 0 t) (iblk m c 1 t) (iblk m c 2 t) (iblk m c 3 t) (iblk m c 4 t)) (iblk m c 5 t) (iblk m c 6 t)) (iblk m c 7 t) (iblk m c 8 t) y
      = columns (aArg m c) (hArg m c) (xArg m c) (wArg m c) (gArg m c) (bArg m c) (routerArg m c) (biasArg m c) (ix2 (n0 := 32768) (n1 := 128) (row t (y 0)) (y 1)) := by
  have e1 : (fun d => normedBlock (mixedBlock (iblk m c 0 t) (iblk m c 1 t) (iblk m c 2 t) (iblk m c 3 t) (iblk m c 4 t)) (iblk m c 5 t) (iblk m c 6 t) (ix2 (n0 := 1024) (n1 := 1024) (y 0) d))
      = fun d => normed (aArg m c) (hArg m c) (xArg m c) (wArg m c) (gArg m c) (bArg m c) (ix2 (n0 := 32768) (n1 := 1024) (row t (y 0)) d) := funext fun d => block_eq m c t _
  have e2 : (fun (d : Fin 1024) (e : Fin 32) => (iblk m c 7 t : S1024x128.Idx → EReal) (ix2 d ⟨e.val, by omega⟩)) = fun d e => routerArg m c (ix2 d e) :=
    funext fun d => funext fun e => blk_router m c t d e
  have e3 : (fun e : Fin 32 => (iblk m c 8 t : S1x128.Idx → EReal) (ix2 (n0 := 1) 0 ⟨e.val, by omega⟩)) = fun e => biasArg m c (ix1 e) :=
    funext fun e => blk_bias m c t e
  unfold colBlock columns
  exact (congrArg (fun n => rowCol n _ _ (y 1).val) e1).trans ((congrArg (fun w => rowCol _ w _ (y 1).val) e2).trans (congrArg (fun b => rowCol _ _ b (y 1).val) e3))

/-- What every point writes back in the columns from 4 on. -/
theorem wrote_11 (c : Dev nD) (t : Fin cfg0.N) (y : S1024x128.Idx) (hy : 4 ≤ (y 1).val) :
    ((dats m 0 c).flushed 11 t : S1024x128.Idx → EReal) y
      = columns (aArg m c) (hArg m c) (xArg m c) (wArg m c) (gArg m c) (bArg m c) (routerArg m c) (biasArg m c) (ix2 (n0 := 32768) (n1 := 128) (row t (y 0)) (y 1)) := by
  by_cases h0 : t.val % 32 = 0
  · rw [Value.flushed11_A m c t h0]
    refine ((gates_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      ((hcond0_0 t).mpr h0) (iblk m c 0 t) (iblk m c 1 t) (iblk m c 2 t) (iblk m c 3 t) (iblk m c 4 t) (iblk m c 5 t) (iblk m c 6 t) (iblk m c 7 t) (iblk m c 8 t)).2 y hy).trans ?_
    exact colBlock_eq m c t y
  · rw [Value.flushed11_B m c t h0]
    refine ((gates_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
      (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.2.2.2).2 y hy).trans ?_
    exact colBlock_eq m c t y

/-- The array of columns after the run, from the column 4 on. -/
theorem arr_11 (c : Dev nD) (i : S32768x128.Idx) (hi : 4 ≤ (i 1).val) :
    ((dats m 0 c).arrAt 11 cfg0.N : S32768x128.Idx → EReal) i = columns (aArg m c) (hArg m c) (xArg m c) (wArg m c) (gArg m c) (bArg m c) (routerArg m c) (biasArg m c) i := by
  have h0 : (i 0).val < 32768 := (i 0).isLt
  let t : Fin cfg0.N := ⟨(i 0).val / 1024, lt_of_lt_of_eq (by omega : (i 0).val / 1024 < 32) (by decide : grid0.N = 32).symm⟩
  let y : S1024x128.Idx := ix2 (n0 := 1024) (n1 := 128) ⟨(i 0).val % 1024, Nat.mod_lt _ (by decide)⟩ (i 1)
  have e : ix2 (n0 := 32768) (n1 := 128) (row t (y 0)) (y 1) = i := by
    funext a
    match a with
    | ⟨0, _⟩ => exact Fin.ext (by show (i 0).val / 1024 * 1024 + (i 0).val % 1024 = (i 0).val; omega)
    | ⟨1, _⟩ => rfl
  have b : ((dats m 0 c).arrAt 11 cfg0.N : S32768x128.Idx → EReal) (((cfg0.win 11).blk t).view.emb y) = ((dats m 0 c).flushed 11 t : S1024x128.Idx → EReal) y :=
    congrFun (Value.blocks11 m c t (flush0_11 t)) y
  rw [emb_11, e] at b
  rw [b, wrote_11 m c t y hi, e]

end

end Cert.Kernel3Ideal.Out

end
-- ==== Proof.Out.GateRef.lean ====
/- The reference of the router: its gates are those of the kernel. -/
module

public import proofs.«01_k».proof.Proof.Out.Norm
public import proofs.«01_k».proof.Proof.Out.ColResult

@[expose] public section

set_option maxRecDepth 16384

noncomputable section

namespace Cert.Reference3Ideal.Out

open Idealize.ShloMosaic hiding ix1 ix2 ix3
open Idealize.ShloMosaic.ValueIdx
open scoped BigOperators
open Cert.Reference3Ideal Cert.Reference3Ideal.Gen
open Cert.Kernel3Ideal.Out (normed gates columns rowCol rowGate softOf taken falling falling_le greatest after greatest_after num most num_injective num_lt bot_eq)

/-- The router's scores, as the reference computes them. -/
def refScores (n : S32768x1024.Idx → EReal) (wr : S1024x32.Idx → EReal) (cr : S32.Idx → EReal) : S32768x32.Idx → EReal :=
  addf (F := Ideal) (φ := .f32) (Host.dotGeneral (F := Ideal) (φ₁ := .f32) (φ₂ := .f32) dot_S32768x1024_S1024x32_S32768x32_1_0_0_1_n_n none n wr)
    (broadcastInDim S32768x32 ![0, 1] bcast_S1x32_S32768x32_0_1 (broadcastInDim S1x32 ![1] bcast_S32_S1x32_1 cr))

/-- An entry of them. -/
theorem refScores_apply (n : S32768x1024.Idx → EReal) (wr : S1024x32.Idx → EReal) (cr : S32.Idx → EReal) (r : Fin 32768) (e : Fin 32) :
    refScores n wr cr (ix2 r e) = (∑ d : Fin 1024, n (ix2 (n0 := 32768) (n1 := 1024) r d) * wr (ix2 (n0 := 1024) (n1 := 32) d e)) + cr (ix1 e) := by
  refine congrArg₂ (· + ·) (StackMember.dotGeneral_plain_apply (m := 32768) (n := 32) (k := 1024) (φ₁ := .f32) (φ₂ := .f32) none n wr r e) ?_
  refine (broadcastInDim_apply _ _ _ _ (ix2 (n0 := 1) (n1 := 32) 0 e) fun a => ?_).trans (broadcastInDim_apply _ _ _ _ _ fun a => ?_)
  · match a with
    | ⟨0, _⟩ => rfl
    | ⟨1, _⟩ => rfl
  · match a with
    | ⟨0, _⟩ => rfl

/-- The four greatest scores of every row, the greatest first. -/
def refTop (s : S32768x32.Idx → EReal) : S32768x4.Idx → EReal :=
  (Host.topK S32768x4 1 (FloatOps.cmpfTotal (F := Ideal) (φ := .f32) .gt) s sliceFits_S32768x32_S32768x4).1

/-- An entry of them: the row's entry of that rank in falling order. -/
theorem refTop_apply (s : S32768x32.Idx → EReal) (r : Fin 32768) (k : Fin 4) :
    refTop s (ix2 r k) = s (ix2 r (falling (fun e => s (ix2 (n0 := 32768) (n1 := 32) r e)) ⟨k.val, by omega⟩)) := by
  have al : ∀ (k : Fin 32) (e : Fin 32), Shape.Idx.along (s := S32768x32) (ix2 (n0 := 32768) (n1 := 32) r k) 1 e = ix2 (n0 := 32768) (n1 := 32) r e := fun k e => by
    funext a
    match a with
    | ⟨0, _⟩ => exact Function.update_of_ne (fun h => Nat.zero_ne_one (congrArg Fin.val h)) _ _
    | ⟨1, _⟩ => exact Function.update_self _ _ _
  show extractStridedSlice S32768x4 (fun _ => 0) (Host.sort2 S32768x32 1 (fun l r : EReal × BitVec 32 => FloatOps.cmpfTotal (F := Ideal) (φ := .f32) .gt l.1 r.1) s
    (fun i => if hd : 1 < S32768x32.rank then iotaInDim S32768x32 32 ⟨1, hd⟩ i else 0#32)).1 sliceFits_S32768x32_S32768x4 (ix2 r k) = _
  refine (extractStridedSlice_apply _ _ sliceFits_S32768x32_S32768x4 _ (ix2 (n0 := 32768) (n1 := 32) r ⟨k.val, by omega⟩) fun a => ?_).trans ?_
  · match a with
    | ⟨0, _⟩ => exact (Nat.zero_add _).symm
    | ⟨1, _⟩ => exact (Nat.zero_add _).symm
  · show s (Shape.Idx.along (s := S32768x32) (ix2 (n0 := 32768) (n1 := 32) r ⟨k.val, by omega⟩) 1 (sortedFrom (n := 32) (fun k₁ k₂ : Fin 32 =>
        FloatOps.cmpfTotal (F := Ideal) (φ := .f32) .gt (s (Shape.Idx.along (s := S32768x32) (ix2 (n0 := 32768) (n1 := 32) r ⟨k.val, by omega⟩) 1 k₁))
          (s (Shape.Idx.along (s := S32768x32) (ix2 (n0 := 32768) (n1 := 32) r ⟨k.val, by omega⟩) 1 k₂)) == 1#1) ⟨k.val, by omega⟩)) = _
    simp only [al]
    rfl

/-- The exponentials of the entries less their row's greatest, as the reference computes them. -/
def refExp (v : S32768x4.Idx → EReal) : S32768x4.Idx → EReal :=
  Host.exp (F := Ideal) (φ := .f32) (subf (F := Ideal) (φ := .f32) v (broadcastInDim S32768x4 ![0, 1] bcast_S32768x1_S32768x4_0_1 (broadcastInDim S32768x1 ![0] bcast_S32768_S32768x1_0
    (maximumf (F := Ideal) (φ := .f32) (broadcastInDim S32768 ![] bcast_S_S32768 (constant (F := Ideal) S_ .f32 0xFF800000#32))
      (Host.reduce (FloatOps.maximumf (F := Ideal) (φ := .f32)) v (constant (F := Ideal) S_ .f32 0xFF800000#32) reducesTo_S32768x4_S32768_d1 h_S_)))))

/-- The sum of every row of exponentials, spread along the row. -/
def refSum (v : S32768x4.Idx → EReal) : S32768x4.Idx → EReal :=
  broadcastInDim S32768x4 ![0, 1] bcast_S32768x1_S32768x4_0_1 (broadcastInDim S32768x1 ![0] bcast_S32768_S32768x1_0
    (Host.reduceAdd (F := Ideal) (φ := .f32) (refExp v) (constant (F := Ideal) S_ .f32 0x00000000#32) reducesTo_S32768x4_S32768_d1 h_S_))

/-- The softmax of every row of four, as the reference computes it. -/
def refSoft (v : S32768x4.Idx → EReal) : S32768x4.Idx → EReal :=
  Host.divf (F := Ideal) (φ := .f32) (refExp v) (refSum v)

/-- A quotient of two arrays at an entry. -/
theorem quot_apply (x y : S32768x4.Idx → EReal) (i : S32768x4.Idx) : Host.divf (F := Ideal) (φ := .f32) x y i = Ideal.div (x i) (y i) := rfl

/-- The inserted index of a row of four. -/
theorem reduces_four : (S32768x4 : Shape).Reduces [1] S32768 := by decide

/-- A number for every row, spread along a row of four. -/
theorem refFour_apply (v : S32768.Idx → EReal) (r : Fin 32768) (k : Fin 4) :
    broadcastInDim S32768x4 ![0, 1] bcast_S32768x1_S32768x4_0_1 (broadcastInDim S32768x1 ![0] bcast_S32768_S32768x1_0 v) (ix2 r k) = v (ix1 r) := by
  refine (broadcastInDim_apply _ _ _ _ (ix2 (n0 := 32768) (n1 := 1) r 0) fun a => ?_).trans (broadcastInDim_apply _ _ _ _ _ fun a => ?_)
  · match a with
    | ⟨0, _⟩ => rfl
    | ⟨1, _⟩ => rfl
  · match a with
    | ⟨0, _⟩ => rfl

/-- The greatest of four falling numbers is the first. -/
theorem fold_falling (f : Fin 4 → EReal) (h : ∀ k, f k ≤ f 0) : (Finset.univ : Finset (Fin 4)).fold max ⊥ f = f 0 :=
  le_antisymm (Finset.fold_max_le _ |>.mpr ⟨bot_le, fun k _ => h k⟩) (Finset.le_fold_max _ |>.mpr (Or.inr ⟨0, Finset.mem_univ _, le_rfl⟩))

/-- The greatest of a row of four falling numbers, as the reference computes it. -/
theorem refMax_apply (v : S32768x4.Idx → EReal) (r : Fin 32768) (h : ∀ k : Fin 4, v (ix2 r k) ≤ v (ix2 r 0)) :
    maximumf (F := Ideal) (φ := .f32) (broadcastInDim S32768 ![] bcast_S_S32768 (constant (F := Ideal) S_ .f32 0xFF800000#32))
      (Host.reduce (FloatOps.maximumf (F := Ideal) (φ := .f32)) v (constant (F := Ideal) S_ .f32 0xFF800000#32) reducesTo_S32768x4_S32768_d1 h_S_) (ix1 r)
      = v (ix2 (n0 := 32768) (n1 := 4) r 0) := by
  have e : Host.reduce (FloatOps.maximumf (F := Ideal) (φ := .f32)) v (constant (F := Ideal) S_ .f32 0xFF800000#32) reducesTo_S32768x4_S32768_d1 h_S_ (ix1 r)
      = v (ix2 (n0 := 32768) (n1 := 4) r 0) := by
    refine (congrFun (hostReduce_maximumf_eq_multiReduction (F := Ideal) (φ := .f32) v 0xFF800000#32 reducesTo_S32768x4_S32768_d1 h_S_ reduces_four (Or.inl rfl) rfl) _).trans ?_
    refine (Ideal.multiReduction_maximumf_single _ _ reduces_four (Or.inl rfl) rfl _).trans ?_
    have l : (v ∘ reduces_four.lift (ix1 (n := 32768) r)) = fun k : Fin 4 => v (ix2 (n0 := 32768) (n1 := 4) r k) := funext fun k => congrArg v (funext fun a => Fin.ext (by
      match a with
      | ⟨0, _⟩ => rfl
      | ⟨1, _⟩ => rfl))
    exact (congrArg₂ (fun b f => (Finset.univ : Finset (Fin 4)).fold max b f) bot_eq l).trans (fold_falling _ h)
  refine (congrArg (max (Scalar.ofBits (F := Ideal) .f32 0xFF800000#32 : EReal)) e).trans ?_
  rw [bot_eq]
  exact max_eq_right bot_le

/-- An entry of the exponentials of a row of four falling numbers. -/
theorem refExp_apply (v : S32768x4.Idx → EReal) (r : Fin 32768) (k : Fin 4) (h : ∀ k : Fin 4, v (ix2 r k) ≤ v (ix2 r 0)) :
    refExp v (ix2 r k) = Ideal.exp (v (ix2 r k) - v (ix2 (n0 := 32768) (n1 := 4) r 0)) :=
  congrArg (fun q => Ideal.exp (v (ix2 r k) - q)) ((refFour_apply _ r k).trans (refMax_apply v r h))

/-- An entry of the softmax of a row of four falling numbers. -/
theorem refSoft_apply (v : S32768x4.Idx → EReal) (r : Fin 32768) (k : Fin 4) (h : ∀ k : Fin 4, v (ix2 r k) ≤ v (ix2 r 0)) (u : ℕ → EReal)
    (hu : ∀ k : Fin 4, v (ix2 r k) = u k.val) : refSoft v (ix2 r k) = softOf u k.val := by
  have e : ∀ k : Fin 4, refExp v (ix2 r k) = Ideal.exp (u k.val - u 0) := fun k => by rw [refExp_apply v r k h, hu, hu]; rfl
  have q : Host.reduceAdd (F := Ideal) (φ := .f32) (refExp v) (constant (F := Ideal) S_ .f32 0x00000000#32) reducesTo_S32768x4_S32768_d1 h_S_ (ix1 r)
      = Ideal.exp (u 0 - u 0) + Ideal.exp (u 1 - u 0) + Ideal.exp (u 2 - u 0) + Ideal.exp (u 3 - u 0) := by
    refine (hostReduceAdd_apply _ _ _ _ _).trans ((Ideal.hostReduceAdd_single _ reduces_four _ _ _).trans ?_)
    rw [constant_apply, Ideal.ofBits_zero_f32, zero_add]
    have l : ∀ k : Fin 4, refExp v (reduces_four.lift (ix1 (n := 32768) r) k) = Ideal.exp (u k.val - u 0) := fun k => (congrArg (refExp v) (funext fun a => Fin.ext (by
      match a with
      | ⟨0, _⟩ => rfl
      | ⟨1, _⟩ => rfl))).trans (e k)
    exact (Finset.sum_congr rfl fun k _ => l k).trans (Fin.sum_univ_four _)
  have z : refSum v (ix2 r k) = Ideal.exp (u 0 - u 0) + Ideal.exp (u 1 - u 0) + Ideal.exp (u 2 - u 0) + Ideal.exp (u 3 - u 0) := (refFour_apply _ r k).trans q
  unfold refSoft
  rw [quot_apply, e k, z]
  unfold softOf
  rfl

/-- An entry of the reference's softmax of the four greatest scores: the row's gate of that rank. -/
theorem refSoft_gate (a h : S32768x512.Idx → EReal) (x : S32768x1024.Idx → EReal) (w : S1024x1024.Idx → EReal) (g b : S1024.Idx → EReal)
    (wr : S1024x32.Idx → EReal) (cr : S32.Idx → EReal) (r : Fin 32768) (k : Fin 4) :
    refSoft (refTop (refScores (normed a h x w g b) wr cr)) (ix2 r k)
      = rowGate (fun d => normed a h x w g b (ix2 (n0 := 32768) (n1 := 1024) r d)) (fun d e => wr (ix2 (n0 := 1024) (n1 := 32) d e)) (fun e => cr (ix1 e)) k.val := by
  let f : Fin 32 → EReal := fun e => refScores (normed a h x w g b) wr cr (ix2 r e)
  have t : ∀ k : Fin 4, refTop (refScores (normed a h x w g b) wr cr) (ix2 r k) = f (falling f ⟨k.val, by omega⟩) := fun k => refTop_apply _ r k
  have hf : f = fun e => (∑ d : Fin 1024, normed a h x w g b (ix2 (n0 := 32768) (n1 := 1024) r d) * wr (ix2 (n0 := 1024) (n1 := 32) d e)) + cr (ix1 e) :=
    funext fun e => refScores_apply _ wr cr r e
  refine (refSoft_apply _ r k (fun k => ?_) (taken f) fun k => ?_).trans ?_
  · rw [t k, t 0]
    exact falling_le f _ _ (Nat.zero_le _)
  · rw [t k]
    exact (greatest_after num most num_injective num_lt f ⟨k.val, by omega⟩).symm
  · rw [hf]
    rfl

/-- The array of gates, as the reference computes it from the normed rows. -/
def refGates (n : S32768x1024.Idx → EReal) (wr : S1024x32.Idx → EReal) (cr : S32.Idx → EReal) : S128x8x256.Idx → EReal :=
  concatenate S128x8x256 1 [⟨S128x4x256, broadcastInDim S128x4x256 ![] bcast_S_S128x4x256 (constant (F := Ideal) S_ .f32 0x00000000#32)⟩,
    ⟨S128x4x256, transpose S128x4x256 [0, 2, 1] (shapeCast S128x256x4 (refSoft (refTop (refScores n wr cr))) shapeCasts_S32768x4_S128x256x4) transposes_S128x256x4_S128x4x256_0_2_1⟩]
    concatenates_S128x4x256_S128x4x256_S128x8x256_d1

/-- An entry of it in its rows of gates: the kernel's gate there. -/
theorem refGates_apply (a h : S32768x512.Idx → EReal) (x : S32768x1024.Idx → EReal) (w : S1024x1024.Idx → EReal) (g b : S1024.Idx → EReal)
    (wr : S1024x32.Idx → EReal) (cr : S32.Idx → EReal) (i : S128x8x256.Idx) (hi : 4 ≤ (i 1).val) :
    refGates (normed a h x w g b) wr cr i = gates a h x w g b wr cr i := by
  have h0 : (i 0).val < 128 := (i 0).isLt
  have h1 : (i 1).val < 8 := (i 1).isLt
  have h2 : (i 2).val < 256 := (i 2).isLt
  let k : Fin 4 := ⟨(i 1).val - 4, by omega⟩
  let p : Fin 256 := i 2
  let r : Fin 32768 := ⟨(i 0).val * 256 + (i 2).val, by omega⟩
  let Z : S128x4x256.Idx → EReal := broadcastInDim S128x4x256 ![] bcast_S_S128x4x256 (constant (F := Ideal) S_ .f32 0x00000000#32)
  let T : S128x4x256.Idx → EReal := transpose S128x4x256 [0, 2, 1] (shapeCast S128x256x4 (refSoft (refTop (refScores (normed a h x w g b) wr cr))) shapeCasts_S32768x4_S128x256x4) transposes_S128x256x4_S128x4x256_0_2_1
  refine (concatenate_pair_apply_right (t := S128x8x256) 1 Z T _ _ rfl rfl (ix3 (n0 := 128) (n1 := 4) (n2 := 256) (i 0) k p) (fun c hc => ?_) ?_).trans ?_
  · match c with
    | ⟨0, _⟩ => rfl
    | ⟨1, _⟩ => exact absurd rfl hc
    | ⟨2, _⟩ => rfl
  · show (i 1).val - 4 + 4 = (i 1).val
    omega
  refine (transpose_apply [0, 2, 1] _ transposes_S128x256x4_S128x4x256_0_2_1 _ (ix3 (n0 := 128) (n1 := 256) (n2 := 4) (i 0) p k) fun c => ?_).trans ?_
  · match c with
    | ⟨0, _⟩ => rfl
    | ⟨1, _⟩ => rfl
    | ⟨2, _⟩ => rfl
  refine (shapeCast_apply _ shapeCasts_S32768x4_S128x256x4 _ (ix2 (n0 := 32768) (n1 := 4) r k) ?_).trans ?_
  · rw [rowMajor_val2 _ 4 rfl, rowMajor_val3 _ 1024 4 rfl rfl]
    show ((i 0).val * 256 + (i 2).val) * 4 + ((i 1).val - 4) = (i 0).val * 1024 + (i 2).val * 4 + ((i 1).val - 4)
    omega
  exact refSoft_gate a h x w g b wr cr r k

/-- The array of columns, as the reference computes it from the normed rows. -/
def refCols (n : S32768x1024.Idx → EReal) (wr : S1024x32.Idx → EReal) (cr : S32.Idx → EReal) : S32768x128.Idx → EReal :=
  concatenate S32768x128 1 [⟨S32768x4, broadcastInDim S32768x4 ![] bcast_S_S32768x4 (constant (F := Ideal) S_ .f32 0x00000000#32)⟩,
    ⟨S32768x4, refSoft (refTop (refScores n wr cr))⟩, ⟨S32768x120, broadcastInDim S32768x120 ![] bcast_S_S32768x120 (constant (F := Ideal) S_ .f32 0x00000000#32)⟩]
    concatenates_S32768x4_S32768x4_S32768x120_S32768x128_d1

/-- An entry of it from the column 4 on: the kernel's there. -/
theorem refCols_apply (a h : S32768x512.Idx → EReal) (x : S32768x1024.Idx → EReal) (w : S1024x1024.Idx → EReal) (g b : S1024.Idx → EReal)
    (wr : S1024x32.Idx → EReal) (cr : S32.Idx → EReal) (i : S32768x128.Idx) (hi : 4 ≤ (i 1).val) :
    refCols (normed a h x w g b) wr cr i = columns a h x w g b wr cr i := by
  have h1 : (i 1).val < 128 := (i 1).isLt
  unfold columns rowCol
  by_cases h8 : (i 1).val < 8
  · rw [if_pos h8]
    refine Eq.trans ?_ (refSoft_gate a h x w g b wr cr (i 0) ⟨(i 1).val - 4, by omega⟩)
    refine concatenate_apply_piece (t := S32768x128) 1 _ _ i 1 (by show 1 < 3; omega) S32768x4 _ rfl rfl 4 rfl (ix2 (n0 := 32768) (n1 := 4) (i 0) ⟨(i 1).val - 4, by omega⟩) (fun c hc => ?_) ?_
    · match c with
      | ⟨0, _⟩ => rfl
      | ⟨1, _⟩ => exact absurd rfl hc
    · show 4 + ((i 1).val - 4) = (i 1).val
      omega
  · rw [if_neg h8]
    refine (concatenate_apply_piece (t := S32768x128) 1 _ _ i 2 (by show 2 < 3; omega) S32768x120 _ rfl rfl 8 rfl (ix2 (n0 := 32768) (n1 := 120) (i 0) ⟨(i 1).val - 8, by omega⟩) (fun c hc => ?_) ?_).trans ?_
    · match c with
      | ⟨0, _⟩ => rfl
      | ⟨1, _⟩ => exact absurd rfl hc
    · show 8 + ((i 1).val - 8) = (i 1).val
      omega
    · exact Ideal.ofBits_zero_f32

/-- What the reference's run leaves in the array of gates. -/
theorem res_gates (m : (ℓ : Loc nD τ sig) → Buf (Elt Ideal) ℓ) (c : Dev nD) :
    Cert.Reference3Ideal.Value.res_main_v51 m c
      = refGates (refNorm (refMixed (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5))) (m ((c.tc : Thread nD τ).loc main_arg6)) (m ((c.tc : Thread nD τ).loc main_arg7)) := by
  unfold Cert.Reference3Ideal.Value.res_main_v51 refGates refSoft refSum refExp refTop refScores refNorm refCentred refMean refMixed sides
  rfl

/-- What the reference's run leaves in the array of columns. -/
theorem res_cols (m : (ℓ : Loc nD τ sig) → Buf (Elt Ideal) ℓ) (c : Dev nD) :
    Cert.Reference3Ideal.Value.res_main_v52 m c
      = refCols (refNorm (refMixed (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5))) (m ((c.tc : Thread nD τ).loc main_arg6)) (m ((c.tc : Thread nD τ).loc main_arg7)) := by
  unfold Cert.Reference3Ideal.Value.res_main_v52 refCols refSoft refSum refExp refTop refScores refNorm refCentred refMean refMixed sides
  rfl

end Cert.Reference3Ideal.Out

end
-- ==== Proof.Out.Ref.lean ====
/- The output projection's claim: the exact kernel's run and the reference's agree in the normed rows and in the gates, in both their layouts. -/
module

public import proofs.«01_k».proof.Defs
public import proofs.«01_k».proof.Proof.Gen.On_gate_rows
public import proofs.«01_k».proof.Proof.Out.GateRef

@[expose] public section

set_option maxRecDepth 16384

noncomputable section

namespace Cert.Reference3Ideal.Out

open Idealize.ShloMosaic hiding ix1 ix2 ix3
open Idealize.ShloMosaic.ValueIdx
open Cert.Reference3Ideal Cert.Reference3Ideal.Gen
open Cert.Kernel3Ideal.Out (normed gates aArg hArg xArg wArg gArg bArg routerArg biasArg columns arr_9 arr_10 arr_11)

/-- A row number at least 4, as the mask asks it. -/
theorem row_of_mask : ∀ n : Fin 8, IntOp.cmpi .sge (BitVec.ofNat 32 n.val) 4#32 = 1#1 → 4 ≤ n.val := by decide

/-- Where the mask of the gates holds, the row is one of gates. -/
theorem of_mask (a0 : FVec Ideal S32768x512 .bf16) (a1 : FVec Ideal S32768x512 .bf16) (a2 : FVec Ideal S32768x1024 .f32) (a3 : FVec Ideal S1024x1024 .f32) (a4 : FVec Ideal S1024 .f32)
    (a5 : FVec Ideal S1024 .f32) (a6 : FVec Ideal S1024x32 .f32) (a7 : FVec Ideal S32 .f32) (i : S128x8x256.Idx)
    (h : (Cert.On_gate_rows.fn (F := Ideal) a0 a1 a2 a3 a4 a5 a6 a7).2.1 i = 1#1) : 4 ≤ (i 1).val :=
  row_of_mask (i 1) h

/-- A column number at least 4, as the mask asks it. -/
theorem column_of_mask : ∀ n : Fin 128, IntOp.cmpi .sge (BitVec.ofNat 32 n.val) 4#32 = 1#1 → 4 ≤ n.val := by decide

/-- Where the mask of the columns holds, the column is at least 4. -/
theorem col_of_mask (a0 : FVec Ideal S32768x512 .bf16) (a1 : FVec Ideal S32768x512 .bf16) (a2 : FVec Ideal S32768x1024 .f32) (a3 : FVec Ideal S1024x1024 .f32) (a4 : FVec Ideal S1024 .f32)
    (a5 : FVec Ideal S1024 .f32) (a6 : FVec Ideal S1024x32 .f32) (a7 : FVec Ideal S32 .f32) (i : S32768x128.Idx)
    (h : (Cert.On_gate_rows.fn (F := Ideal) a0 a1 a2 a3 a4 a5 a6 a7).2.2 i = 1#1) : 4 ≤ (i 1).val :=
  column_of_mask (i 1) h

/-- The exact kernel's run and the reference's end with the same normed rows, with the same gates in the rows that hold them, and with the same columns from the fifth on. -/
theorem agree : Cert.algebraic_Kernel3Ideal_Reference3Ideal_on_gate_rows := fun m g m' g' _ ha =>
  ⟨fun c => normed (aArg m c) (hArg m c) (xArg m c) (wArg m c) (gArg m c) (bArg m c),
    fun c => gates (aArg m c) (hArg m c) (xArg m c) (wArg m c) (gArg m c) (bArg m c) (routerArg m c) (biasArg m c),
    fun c => columns (aArg m c) (hArg m c) (xArg m c) (wArg m c) (gArg m c) (bArg m c) (routerArg m c) (biasArg m c),
    (θ_run Cert.Kernel3Ideal.defs _ _).mono (fun r h c => ⟨fun i _ => congrFun ((h c).1.trans (arr_9 m c)) i,
        fun i hi => (congrFun (h c).2.1 i).trans (arr_10 m c i (of_mask _ _ _ _ _ _ _ _ i hi)),
        fun i hi => (congrFun (h c).2.2.1 i).trans (arr_11 m c i (col_of_mask _ _ _ _ _ _ _ _ i hi)), (h c).2.2.2.2.2⟩)
      (Cert.Kernel3Ideal.Value.run_blocks m g),
    (θ_run Cert.Reference3Ideal.defs _ _).mono (fun r h c => by
      obtain ⟨h0, h1, h2, h3, h4, h5, h6, h7⟩ := ha c
      obtain ⟨r9, r10, r11, rest⟩ := h c
      refine ⟨fun i _ => congrFun ((r9.trans (res_eq m' c)).trans ((ref_eq _ _ _ _ _ _).trans ?_)) i, fun i hi => ?_, fun i hi => ?_, rest⟩
      · rw [h0, h1, h2, h3, h4, h5]
      · refine (congrFun ((r10.trans (res_gates m' c)).trans (congrArg (fun n => refGates n _ _) (ref_eq _ _ _ _ _ _))) i).trans ?_
        refine (refGates_apply _ _ _ _ _ _ _ _ i (of_mask _ _ _ _ _ _ _ _ i hi)).trans ?_
        rw [h0, h1, h2, h3, h4, h5, h6, h7]
      · refine (congrFun ((r11.trans (res_cols m' c)).trans (congrArg (fun n => refCols n _ _) (ref_eq _ _ _ _ _ _))) i).trans ?_
        refine (refCols_apply _ _ _ _ _ _ _ _ i (col_of_mask _ _ _ _ _ _ _ _ i hi)).trans ?_
        rw [h0, h1, h2, h3, h4, h5, h6, h7])
      (Cert.Reference3Ideal.Value.run m' g')⟩

end Cert.Reference3Ideal.Out

end
-- ==== Proof.lean ====
/- The proof of every claim of the certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tables
public import proofs.«01_k».proof.Proof.Gen.On_valid_rows
public import proofs.«01_k».proof.Proof.Gen.On_gate_rows
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.KI.Run
public import proofs.«01_k».proof.Proof.K.Run
public import proofs.«01_k».proof.Proof.Tables
public import proofs.«01_k».proof.Proof.Val.Result
public import proofs.«01_k».proof.Proof.Val.Ref
public import proofs.«01_k».proof.Proof.Val.Mask
public import proofs.«01_k».proof.Proof.Proj.Ref
public import proofs.«01_k».proof.Proof.Out.Ref
public import Idealize.ShloMosaic.Lib.Quiescent

@[expose] public section

noncomputable section

namespace Cert.Proof

open Idealize.ShloMosaic Idealize.SL.Sem

/-- The precondition makes the kernel's tables admissible. -/
theorem good_kernel (m : (ℓ : Loc Cert.Kernel.nD Cert.Kernel.τ Cert.Kernel.sig) → Buf (Elt Bits) ℓ) (h : Cert.Pre_Kernel m) :
    Cert.Kernel.Exp.Good (Cert.Kernel.Exp.tbl m) := by
  obtain ⟨h0, h1, h2, h3⟩ := Cert.Exp.of_pre _ _ _ _ _ _ _ _ _ _ (h 0)
  have e0 : Cert.Kernel.Exp.eW (Cert.Kernel.Exp.tbl m) = _ := Cert.Kernel.Exp.V_of_ne m 0 (b := Cert.Kernel.main_arg0) (by decide)
  have e1 : Cert.Kernel.Exp.tbl m 1 = _ := Cert.Kernel.Exp.V_of_ne m 0 (b := Cert.Kernel.main_arg1) (by decide)
  have e2 : Cert.Kernel.Exp.vW (Cert.Kernel.Exp.tbl m) = _ := Cert.Kernel.Exp.V_of_ne m 0 (b := Cert.Kernel.main_arg2) (by decide)
  refine ⟨fun t => ?_, fun t => ?_, ?_, fun t => ?_⟩
  · rw [e0]; exact h0 t
  · rw [e0]; exact h1 t
  · unfold Cert.Kernel.Exp.nW; rw [e1]; exact h2 _
  · rw [e2]; exact h3 t

/-- The precondition makes the exact kernel's tables admissible. -/
theorem good_ideal (m : (ℓ : Loc Cert.KernelIdeal.nD Cert.KernelIdeal.τ Cert.KernelIdeal.sig) → Buf (Elt Ideal) ℓ) (h : Cert.Pre_KernelIdeal m) :
    Cert.KernelIdeal.Exp.Good (Cert.KernelIdeal.Exp.tbl m) := by
  obtain ⟨h0, h1, h2, h3⟩ := Cert.Exp.of_pre _ _ _ _ _ _ _ _ _ _ (h 0)
  have e0 : Cert.KernelIdeal.Exp.eW (Cert.KernelIdeal.Exp.tbl m) = _ := Cert.KernelIdeal.Exp.V_of_ne m 0 (b := Cert.KernelIdeal.main_arg0) (by decide)
  have e1 : Cert.KernelIdeal.Exp.tbl m 1 = _ := Cert.KernelIdeal.Exp.V_of_ne m 0 (b := Cert.KernelIdeal.main_arg1) (by decide)
  have e2 : Cert.KernelIdeal.Exp.vW (Cert.KernelIdeal.Exp.tbl m) = _ := Cert.KernelIdeal.Exp.V_of_ne m 0 (b := Cert.KernelIdeal.main_arg2) (by decide)
  refine ⟨fun t => ?_, fun t => ?_, ?_, fun t => ?_⟩
  · rw [e0]; exact h0 t
  · rw [e0]; exact h1 t
  · unfold Cert.KernelIdeal.Exp.nW; rw [e1]; exact h2 _
  · rw [e2]; exact h3 t

/-- The kernel runs to its end and leaves its arguments as they were. -/
theorem frame_kernel : Cert.quiescent_Kernel := fun m g h => Cert.Kernel.Exp.frame m g (good_kernel m h)
/-- The exact kernel runs to its end and leaves its arguments as they were. -/
theorem frame_ideal : Cert.quiescent_KernelIdeal := fun m g h => Cert.KernelIdeal.Exp.frame m g (good_ideal m h)

/-- The reference allocates no semaphore, and its run leaves its arguments as they were. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)
/-- The same where the tables' precondition holds. -/
theorem frame_reference_tables : Cert.quiescent_ReferenceIdeal_pre_tables := fun m g _ =>
  (θ_run Cert.ReferenceIdeal.defs _ _).mono (fun r h => ⟨fun c => (h c).2, sem_eq_zero_of_no_sems (by decide) r.2⟩) (Cert.ReferenceIdeal.Value.run m g)

/-- Where the mask holds, the reference's result and the exact kernel's agree: both are the row through its block's expert. -/
theorem entry_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hg : Cert.KernelIdeal.Exp.Good (Cert.KernelIdeal.Exp.tbl m)) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (i : (⟨3, ![44288, 4, 1024]⟩ : Shape).Idx)
    (hi : Cert.On_valid_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i = 1#1) :
    (Cert.ReferenceIdeal.Value.res_main_v69 m' c : (⟨3, ![44288, 4, 1024]⟩ : Shape).Idx → EReal) i
      = (Cert.KernelIdeal.Exp.result m hg c : (⟨3, ![44288, 4, 1024]⟩ : Shape).Idx → EReal) i := by
  obtain ⟨G, s, d, rfl⟩ : ∃ (G : Fin 44288) (s : Fin 4) (d : Fin 1024), i = ValueIdx.ix3 G s d := ⟨i 0, i 1, i 2, by
    funext a
    match a with
    | ⟨0, _⟩ => rfl
    | ⟨1, _⟩ => rfl
    | ⟨2, _⟩ => rfl⟩
  obtain rfl : c = 0 := Subsingleton.elim _ _
  have hGl := G.isLt
  let j : Fin 173 := ⟨G.val / 256, by omega⟩
  let g : Fin 256 := ⟨G.val % 256, by omega⟩
  have hG : G.val = j.val * 256 + g.val := by show G.val = G.val / 256 * 256 + G.val % 256; omega
  obtain ⟨hj, hr⟩ := Cert.Exp.of_mask (F := Ideal) _ _ _ _ _ _ _ _ _ _ G s d j g hG hi
  have e0 : Cert.KernelIdeal.Exp.eW (Cert.KernelIdeal.Exp.tbl m) = _ := Cert.KernelIdeal.Exp.V_of_ne m 0 (b := Cert.KernelIdeal.main_arg0) (by decide)
  have e1 : Cert.KernelIdeal.Exp.tbl m 1 = _ := Cert.KernelIdeal.Exp.V_of_ne m 0 (b := Cert.KernelIdeal.main_arg1) (by decide)
  have e2 : Cert.KernelIdeal.Exp.vW (Cert.KernelIdeal.Exp.tbl m) = _ := Cert.KernelIdeal.Exp.V_of_ne m 0 (b := Cert.KernelIdeal.main_arg2) (by decide)
  have hn : (Cert.KernelIdeal.Exp.nW (Cert.KernelIdeal.Exp.tbl m)).toInt = Cert.KernelIdeal.Exp.nu (Cert.KernelIdeal.Exp.tbl m) := hg.nu_pos.2.2
  have hu : j.val < Cert.KernelIdeal.Exp.nu (Cert.KernelIdeal.Exp.tbl m) := by
    unfold Cert.KernelIdeal.Exp.nW at hn
    rw [e1] at hn
    exact Int.ofNat_lt.mp (lt_of_lt_of_eq hj hn)
  have he := hg.e0 (ValueIdx.ix1 j)
  have hlt := hg.e_lt (ValueIdx.ix1 j)
  have hint : (Cert.KernelIdeal.Exp.eW (Cert.KernelIdeal.Exp.tbl m) (ValueIdx.ix1 j)).toInt
      = ((Cert.KernelIdeal.Exp.eW (Cert.KernelIdeal.Exp.tbl m) (ValueIdx.ix1 j)).toNat : ℤ) :=
    BitVec.toInt_eq_toNat_of_lt (by omega)
  refine (Cert.Exp.reference_apply m' 0 G s d j g ⟨_, hlt⟩ hG ?_).trans (Eq.trans ?_ (Cert.KernelIdeal.Exp.result_apply m hg 0 G s d j g ⟨_, hlt⟩ hG hu ?_ (hg.v1 _) rfl).symm)
  · rw [h0, ← hint, e0]
  · rw [h3, h4, h5, h6, h7, h8, h9]
  · rw [e2]; exact hr

/-- Where the mask holds, the exact kernel's run and the reference's end with the same result. -/
theorem agree : Cert.algebraic_KernelIdeal_ReferenceIdeal_on_valid_rows := fun m g m' g' hp ha =>
  ⟨fun c => Cert.KernelIdeal.Exp.result m (good_ideal m hp) c,
    (θ_run Cert.KernelIdeal.defs _ _).mono (fun r h c => ⟨fun i _ => congrFun (h.1 c).1 i, (h.1 c).2⟩)
      (Cert.KernelIdeal.Exp.run_result m g (good_ideal m hp)),
    (θ_run Cert.ReferenceIdeal.defs _ _).mono (fun r h c => ⟨fun i hi => by
      obtain ⟨h0, h1, h2, h3, h4, h5, h6, h7, h8, h9⟩ := ha c
      exact (congrFun (h c).1 i).trans (entry_eq m m' (good_ideal m hp) c h0 h1 h2 h3 h4 h5 h6 h7 h8 h9 i hi), (h c).2⟩)
      (Cert.ReferenceIdeal.Value.run m' g')⟩

/-- The input projection runs to its end and leaves its arguments as they were. -/
theorem frame_kernel2 : Cert.quiescent_Kernel2 := fun m g _ => Cert.Kernel2.Gen.frame m g
/-- The exact input projection runs to its end and leaves its arguments as they were. -/
theorem frame_ideal2 : Cert.quiescent_Kernel2Ideal := fun m g _ => Cert.Kernel2Ideal.Gen.frame m g
/-- The input projection's reference runs to its end and leaves its arguments as they were. -/
theorem frame_reference2 : Cert.quiescent_Reference2Ideal := fun m g _ =>
  (θ_run Cert.Reference2Ideal.defs _ _).mono (fun r h => ⟨fun c => (h c).2.2.2, sem_eq_zero_of_no_sems (by decide) r.2⟩) (Cert.Reference2Ideal.Value.run m g)

/-- The output projection runs to its end and leaves its arguments as they were. -/
theorem frame_kernel3 : Cert.quiescent_Kernel3 := fun m g _ => Cert.Kernel3.Gen.frame m g
/-- The exact output projection runs to its end and leaves its arguments as they were. -/
theorem frame_ideal3 : Cert.quiescent_Kernel3Ideal := fun m g _ => Cert.Kernel3Ideal.Gen.frame m g
/-- The output projection's reference runs to its end and leaves its arguments as they were. -/
theorem frame_reference3 : Cert.quiescent_Reference3Ideal := fun m g _ =>
  (θ_run Cert.Reference3Ideal.defs _ _).mono (fun r h => ⟨fun c => (h c).2.2.2, sem_eq_zero_of_no_sems (by decide) r.2⟩) (Cert.Reference3Ideal.Value.run m g)

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_tables.Gen.facts, Cert.On_valid_rows.Gen.facts, Cert.On_gate_rows.Gen.facts,
  frame_kernel, frame_ideal, frame_reference, frame_reference_tables, frame_kernel2, frame_ideal2, frame_reference2, frame_kernel3, frame_ideal3, frame_reference3,
  trivial, agree, trivial, Cert.Kernel2Ideal.Proj.agree, trivial, Cert.Reference3Ideal.Out.agree⟩

end Cert.Proof

end
